-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradReferenceIdeal (m : (ℓ : Loc Cert.WeightGradReferenceIdeal.nD Cert.WeightGradReferenceIdeal.τ Cert.WeightGradReferenceIdeal.sig) → Buf (Elt Ideal) ℓ) : Prop :=
  True

def Pre_Widen (m : (ℓ : Loc Cert.Widen.nD Cert.Widen.τ Cert.Widen.sig) → Buf (Elt Bits) ℓ) : Prop :=
  True

def Pre_WidenIdeal (m : (ℓ : Loc Cert.WidenIdeal.nD Cert.WidenIdeal.τ Cert.WidenIdeal.sig) → Buf (Elt Ideal) ℓ) : Prop :=
  True

def Pre_WidenReferenceIdeal (m : (ℓ : Loc Cert.WidenReferenceIdeal.nD Cert.WidenReferenceIdeal.τ Cert.WidenReferenceIdeal.sig) → Buf (Elt Ideal) ℓ) : Prop :=
  True

def Pre_WidenSecond (m : (ℓ : Loc Cert.WidenSecond.nD Cert.WidenSecond.τ Cert.WidenSecond.sig) → Buf (Elt Bits) ℓ) : Prop :=
  True

def Pre_WidenSecondIdeal (m : (ℓ : Loc Cert.WidenSecondIdeal.nD Cert.WidenSecondIdeal.τ Cert.WidenSecondIdeal.sig) → Buf (Elt Ideal) ℓ) : Prop :=
  True

def Pre_WidenSecondReferenceIdeal (m : (ℓ : Loc Cert.WidenSecondReferenceIdeal.nD Cert.WidenSecondReferenceIdeal.τ Cert.WidenSecondReferenceIdeal.sig) → Buf (Elt Ideal) ℓ) : Prop :=
  True

def Pre_InUvz (m : (ℓ : Loc Cert.InUvz.nD Cert.InUvz.τ Cert.InUvz.sig) → Buf (Elt Bits) ℓ) : Prop :=
  True

def Pre_InUvzIdeal (m : (ℓ : Loc Cert.InUvzIdeal.nD Cert.InUvzIdeal.τ Cert.InUvzIdeal.sig) → Buf (Elt Ideal) ℓ) : Prop :=
  True

def Pre_InUvzReferenceIdeal (m : (ℓ : Loc Cert.InUvzReferenceIdeal.nD Cert.InUvzReferenceIdeal.τ Cert.InUvzReferenceIdeal.sig) → Buf (Elt Ideal) ℓ) : Prop :=
  True

def Pre_InXbc (m : (ℓ : Loc Cert.InXbc.nD Cert.InXbc.τ Cert.InXbc.sig) → Buf (Elt Bits) ℓ) : Prop :=
  True

def Pre_InXbcIdeal (m : (ℓ : Loc Cert.InXbcIdeal.nD Cert.InXbcIdeal.τ Cert.InXbcIdeal.sig) → Buf (Elt Ideal) ℓ) : Prop :=
  True

def Pre_InXbcReferenceIdeal (m : (ℓ : Loc Cert.InXbcReferenceIdeal.nD Cert.InXbcReferenceIdeal.τ Cert.InXbcReferenceIdeal.sig) → Buf (Elt Ideal) ℓ) : Prop :=
  True

def Pre_OutDy (m : (ℓ : Loc Cert.OutDy.nD Cert.OutDy.τ Cert.OutDy.sig) → Buf (Elt Bits) ℓ) : Prop :=
  True

def Pre_OutDyIdeal (m : (ℓ : Loc Cert.OutDyIdeal.nD Cert.OutDyIdeal.τ Cert.OutDyIdeal.sig) → Buf (Elt Ideal) ℓ) : Prop :=
  True

def Pre_OutDyReferenceIdeal (m : (ℓ : Loc Cert.OutDyReferenceIdeal.nD Cert.OutDyReferenceIdeal.τ Cert.OutDyReferenceIdeal.sig) → Buf (Elt Ideal) ℓ) : Prop :=
  True

def Pre_InDwu (m : (ℓ : Loc Cert.InDwu.nD Cert.InDwu.τ Cert.InDwu.sig) → Buf (Elt Bits) ℓ) : Prop :=
  True

def Pre_InDwuIdeal (m : (ℓ : Loc Cert.InDwuIdeal.nD Cert.InDwuIdeal.τ Cert.InDwuIdeal.sig) → Buf (Elt Ideal) ℓ) : Prop :=
  True

def Pre_InDwuReferenceIdeal (m : (ℓ : Loc Cert.InDwuReferenceIdeal.nD Cert.InDwuReferenceIdeal.τ Cert.InDwuReferenceIdeal.sig) → Buf (Elt Ideal) ℓ) : Prop :=
  True

def Pre_InDwxbc (m : (ℓ : Loc Cert.InDwxbc.nD Cert.InDwxbc.τ Cert.InDwxbc.sig) → Buf (Elt Bits) ℓ) : Prop :=
  True

def Pre_InDwxbcIdeal (m : (ℓ : Loc Cert.InDwxbcIdeal.nD Cert.InDwxbcIdeal.τ Cert.InDwxbcIdeal.sig) → Buf (Elt Ideal) ℓ) : Prop :=
  True

def Pre_InDwxbcReferenceIdeal (m : (ℓ : Loc Cert.InDwxbcReferenceIdeal.nD Cert.InDwxbcReferenceIdeal.τ Cert.InDwxbcReferenceIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolReferenceIdeal (m : (ℓ : Loc Cert.AdamPoolReferenceIdeal.nD Cert.AdamPoolReferenceIdeal.τ Cert.AdamPoolReferenceIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixReferenceIdeal (m : (ℓ : Loc Cert.AdamMixReferenceIdeal.nD Cert.AdamMixReferenceIdeal.τ Cert.AdamMixReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamMixBias (m : (ℓ : Loc Cert.AdamMixBias.nD Cert.AdamMixBias.τ Cert.AdamMixBias.sig) → Buf (Elt Bits) ℓ) : Prop :=
  True

def Pre_AdamMixBiasIdeal (m : (ℓ : Loc Cert.AdamMixBiasIdeal.nD Cert.AdamMixBiasIdeal.τ Cert.AdamMixBiasIdeal.sig) → Buf (Elt Ideal) ℓ) : Prop :=
  True

def Pre_AdamMixBiasReferenceIdeal (m : (ℓ : Loc Cert.AdamMixBiasReferenceIdeal.nD Cert.AdamMixBiasReferenceIdeal.τ Cert.AdamMixBiasReferenceIdeal.sig) → Buf (Elt Ideal) ℓ) : Prop :=
  True

def Pre_AdamPoolBias (m : (ℓ : Loc Cert.AdamPoolBias.nD Cert.AdamPoolBias.τ Cert.AdamPoolBias.sig) → Buf (Elt Bits) ℓ) : Prop :=
  True

def Pre_AdamPoolBiasIdeal (m : (ℓ : Loc Cert.AdamPoolBiasIdeal.nD Cert.AdamPoolBiasIdeal.τ Cert.AdamPoolBiasIdeal.sig) → Buf (Elt Ideal) ℓ) : Prop :=
  True

def Pre_AdamPoolBiasReferenceIdeal (m : (ℓ : Loc Cert.AdamPoolBiasReferenceIdeal.nD Cert.AdamPoolBiasReferenceIdeal.τ Cert.AdamPoolBiasReferenceIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowReferenceIdeal (m : (ℓ : Loc Cert.AdamRowReferenceIdeal.nD Cert.AdamRowReferenceIdeal.τ Cert.AdamRowReferenceIdeal.sig) → Buf (Elt Ideal) ℓ) : Prop :=
  True

def Pre_AdamConvBias (m : (ℓ : Loc Cert.AdamConvBias.nD Cert.AdamConvBias.τ Cert.AdamConvBias.sig) → Buf (Elt Bits) ℓ) : Prop :=
  True

def Pre_AdamConvBiasIdeal (m : (ℓ : Loc Cert.AdamConvBiasIdeal.nD Cert.AdamConvBiasIdeal.τ Cert.AdamConvBiasIdeal.sig) → Buf (Elt Ideal) ℓ) : Prop :=
  True

def Pre_AdamConvBiasReferenceIdeal (m : (ℓ : Loc Cert.AdamConvBiasReferenceIdeal.nD Cert.AdamConvBiasReferenceIdeal.τ Cert.AdamConvBiasReferenceIdeal.sig) → Buf (Elt Ideal) ℓ) : Prop :=
  True

def Pre_AdamPoolScale (m : (ℓ : Loc Cert.AdamPoolScale.nD Cert.AdamPoolScale.τ Cert.AdamPoolScale.sig) → Buf (Elt Bits) ℓ) : Prop :=
  True

def Pre_AdamPoolScaleIdeal (m : (ℓ : Loc Cert.AdamPoolScaleIdeal.nD Cert.AdamPoolScaleIdeal.τ Cert.AdamPoolScaleIdeal.sig) → Buf (Elt Ideal) ℓ) : Prop :=
  True

def Pre_AdamPoolScaleReferenceIdeal (m : (ℓ : Loc Cert.AdamPoolScaleReferenceIdeal.nD Cert.AdamPoolScaleReferenceIdeal.τ Cert.AdamPoolScaleReferenceIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadReferenceIdeal (m : (ℓ : Loc Cert.AdamHeadReferenceIdeal.nD Cert.AdamHeadReferenceIdeal.τ Cert.AdamHeadReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradReferenceIdeal [hWeightGradReferenceIdeal : Cert.WeightGradReferenceIdeal.Facts] : Prop :=
  ∀ (m : (ℓ : Loc Cert.WeightGradReferenceIdeal.nD Cert.WeightGradReferenceIdeal.τ Cert.WeightGradReferenceIdeal.sig) → Buf (Elt Ideal) ℓ) (g : Dev Cert.WeightGradReferenceIdeal.nD → PrngReg), Pre_WeightGradReferenceIdeal m →
    θ_run (Cert.WeightGradReferenceIdeal.defs (F := Ideal)) (onTc (τ := Cert.WeightGradReferenceIdeal.τ) (Cert.WeightGradReferenceIdeal.main (F := Ideal))) ⟨m, fun _ => 0, g⟩ (fun r => (∀ c : Dev Cert.WeightGradReferenceIdeal.nD,
      r.2.mem ((c.tc : Thread Cert.WeightGradReferenceIdeal.nD Cert.WeightGradReferenceIdeal.τ).loc Cert.WeightGradReferenceIdeal.main_arg0) = m ((c.tc : Thread Cert.WeightGradReferenceIdeal.nD Cert.WeightGradReferenceIdeal.τ).loc Cert.WeightGradReferenceIdeal.main_arg0)
      ∧ r.2.mem ((c.tc : Thread Cert.WeightGradReferenceIdeal.nD Cert.WeightGradReferenceIdeal.τ).loc Cert.WeightGradReferenceIdeal.main_arg1) = m ((c.tc : Thread Cert.WeightGradReferenceIdeal.nD Cert.WeightGradReferenceIdeal.τ).loc Cert.WeightGradReferenceIdeal.main_arg1))
      ∧ r.2.sem = fun _ => 0)

def quiescent_Widen [hWiden : Cert.Widen.Facts] : Prop :=
  ∀ (m : (ℓ : Loc Cert.Widen.nD Cert.Widen.τ Cert.Widen.sig) → Buf (Elt Bits) ℓ) (g : Dev Cert.Widen.nD → PrngReg), Pre_Widen m →
    θ_run (Cert.Widen.defs (F := Bits)) (onTc (τ := Cert.Widen.τ) (Cert.Widen.main (F := Bits))) ⟨m, fun _ => 0, g⟩ (fun r => (∀ c : Dev Cert.Widen.nD,
      r.2.mem ((c.tc : Thread Cert.Widen.nD Cert.Widen.τ).loc Cert.Widen.main_arg0) = m ((c.tc : Thread Cert.Widen.nD Cert.Widen.τ).loc Cert.Widen.main_arg0)
      ∧ r.2.mem ((c.tc : Thread Cert.Widen.nD Cert.Widen.τ).loc Cert.Widen.main_arg1) = m ((c.tc : Thread Cert.Widen.nD Cert.Widen.τ).loc Cert.Widen.main_arg1)
      ∧ r.2.mem ((c.tc : Thread Cert.Widen.nD Cert.Widen.τ).loc Cert.Widen.main_arg2) = m ((c.tc : Thread Cert.Widen.nD Cert.Widen.τ).loc Cert.Widen.main_arg2))
      ∧ r.2.sem = fun _ => 0)

def quiescent_WidenIdeal [hWidenIdeal : Cert.WidenIdeal.Facts] : Prop :=
  ∀ (m : (ℓ : Loc Cert.WidenIdeal.nD Cert.WidenIdeal.τ Cert.WidenIdeal.sig) → Buf (Elt Ideal) ℓ) (g : Dev Cert.WidenIdeal.nD → PrngReg), Pre_WidenIdeal m →
    θ_run (Cert.WidenIdeal.defs (F := Ideal)) (onTc (τ := Cert.WidenIdeal.τ) (Cert.WidenIdeal.main (F := Ideal))) ⟨m, fun _ => 0, g⟩ (fun r => (∀ c : Dev Cert.WidenIdeal.nD,
      r.2.mem ((c.tc : Thread Cert.WidenIdeal.nD Cert.WidenIdeal.τ).loc Cert.WidenIdeal.main_arg0) = m ((c.tc : Thread Cert.WidenIdeal.nD Cert.WidenIdeal.τ).loc Cert.WidenIdeal.main_arg0)
      ∧ r.2.mem ((c.tc : Thread Cert.WidenIdeal.nD Cert.WidenIdeal.τ).loc Cert.WidenIdeal.main_arg1) = m ((c.tc : Thread Cert.WidenIdeal.nD Cert.WidenIdeal.τ).loc Cert.WidenIdeal.main_arg1)
      ∧ r.2.mem ((c.tc : Thread Cert.WidenIdeal.nD Cert.WidenIdeal.τ).loc Cert.WidenIdeal.main_arg2) = m ((c.tc : Thread Cert.WidenIdeal.nD Cert.WidenIdeal.τ).loc Cert.WidenIdeal.main_arg2))
      ∧ r.2.sem = fun _ => 0)

def quiescent_WidenReferenceIdeal [hWidenReferenceIdeal : Cert.WidenReferenceIdeal.Facts] : Prop :=
  ∀ (m : (ℓ : Loc Cert.WidenReferenceIdeal.nD Cert.WidenReferenceIdeal.τ Cert.WidenReferenceIdeal.sig) → Buf (Elt Ideal) ℓ) (g : Dev Cert.WidenReferenceIdeal.nD → PrngReg), Pre_WidenReferenceIdeal m →
    θ_run (Cert.WidenReferenceIdeal.defs (F := Ideal)) (onTc (τ := Cert.WidenReferenceIdeal.τ) (Cert.WidenReferenceIdeal.main (F := Ideal))) ⟨m, fun _ => 0, g⟩ (fun r => (∀ c : Dev Cert.WidenReferenceIdeal.nD,
      r.2.mem ((c.tc : Thread Cert.WidenReferenceIdeal.nD Cert.WidenReferenceIdeal.τ).loc Cert.WidenReferenceIdeal.main_arg0) = m ((c.tc : Thread Cert.WidenReferenceIdeal.nD Cert.WidenReferenceIdeal.τ).loc Cert.WidenReferenceIdeal.main_arg0)
      ∧ r.2.mem ((c.tc : Thread Cert.WidenReferenceIdeal.nD Cert.WidenReferenceIdeal.τ).loc Cert.WidenReferenceIdeal.main_arg1) = m ((c.tc : Thread Cert.WidenReferenceIdeal.nD Cert.WidenReferenceIdeal.τ).loc Cert.WidenReferenceIdeal.main_arg1)
      ∧ r.2.mem ((c.tc : Thread Cert.WidenReferenceIdeal.nD Cert.WidenReferenceIdeal.τ).loc Cert.WidenReferenceIdeal.main_arg2) = m ((c.tc : Thread Cert.WidenReferenceIdeal.nD Cert.WidenReferenceIdeal.τ).loc Cert.WidenReferenceIdeal.main_arg2))
      ∧ r.2.sem = fun _ => 0)

def quiescent_WidenSecond [hWidenSecond : Cert.WidenSecond.Facts] : Prop :=
  ∀ (m : (ℓ : Loc Cert.WidenSecond.nD Cert.WidenSecond.τ Cert.WidenSecond.sig) → Buf (Elt Bits) ℓ) (g : Dev Cert.WidenSecond.nD → PrngReg), Pre_WidenSecond m →
    θ_run (Cert.WidenSecond.defs (F := Bits)) (onTc (τ := Cert.WidenSecond.τ) (Cert.WidenSecond.main (F := Bits))) ⟨m, fun _ => 0, g⟩ (fun r => (∀ c : Dev Cert.WidenSecond.nD,
      r.2.mem ((c.tc : Thread Cert.WidenSecond.nD Cert.WidenSecond.τ).loc Cert.WidenSecond.main_arg0) = m ((c.tc : Thread Cert.WidenSecond.nD Cert.WidenSecond.τ).loc Cert.WidenSecond.main_arg0)
      ∧ r.2.mem ((c.tc : Thread Cert.WidenSecond.nD Cert.WidenSecond.τ).loc Cert.WidenSecond.main_arg1) = m ((c.tc : Thread Cert.WidenSecond.nD Cert.WidenSecond.τ).loc Cert.WidenSecond.main_arg1)
      ∧ r.2.mem ((c.tc : Thread Cert.WidenSecond.nD Cert.WidenSecond.τ).loc Cert.WidenSecond.main_arg2) = m ((c.tc : Thread Cert.WidenSecond.nD Cert.WidenSecond.τ).loc Cert.WidenSecond.main_arg2))
      ∧ r.2.sem = fun _ => 0)

def quiescent_WidenSecondIdeal [hWidenSecondIdeal : Cert.WidenSecondIdeal.Facts] : Prop :=
  ∀ (m : (ℓ : Loc Cert.WidenSecondIdeal.nD Cert.WidenSecondIdeal.τ Cert.WidenSecondIdeal.sig) → Buf (Elt Ideal) ℓ) (g : Dev Cert.WidenSecondIdeal.nD → PrngReg), Pre_WidenSecondIdeal m →
    θ_run (Cert.WidenSecondIdeal.defs (F := Ideal)) (onTc (τ := Cert.WidenSecondIdeal.τ) (Cert.WidenSecondIdeal.main (F := Ideal))) ⟨m, fun _ => 0, g⟩ (fun r => (∀ c : Dev Cert.WidenSecondIdeal.nD,
      r.2.mem ((c.tc : Thread Cert.WidenSecondIdeal.nD Cert.WidenSecondIdeal.τ).loc Cert.WidenSecondIdeal.main_arg0) = m ((c.tc : Thread Cert.WidenSecondIdeal.nD Cert.WidenSecondIdeal.τ).loc Cert.WidenSecondIdeal.main_arg0)
      ∧ r.2.mem ((c.tc : Thread Cert.WidenSecondIdeal.nD Cert.WidenSecondIdeal.τ).loc Cert.WidenSecondIdeal.main_arg1) = m ((c.tc : Thread Cert.WidenSecondIdeal.nD Cert.WidenSecondIdeal.τ).loc Cert.WidenSecondIdeal.main_arg1)
      ∧ r.2.mem ((c.tc : Thread Cert.WidenSecondIdeal.nD Cert.WidenSecondIdeal.τ).loc Cert.WidenSecondIdeal.main_arg2) = m ((c.tc : Thread Cert.WidenSecondIdeal.nD Cert.WidenSecondIdeal.τ).loc Cert.WidenSecondIdeal.main_arg2))
      ∧ r.2.sem = fun _ => 0)

def quiescent_WidenSecondReferenceIdeal [hWidenSecondReferenceIdeal : Cert.WidenSecondReferenceIdeal.Facts] : Prop :=
  ∀ (m : (ℓ : Loc Cert.WidenSecondReferenceIdeal.nD Cert.WidenSecondReferenceIdeal.τ Cert.WidenSecondReferenceIdeal.sig) → Buf (Elt Ideal) ℓ) (g : Dev Cert.WidenSecondReferenceIdeal.nD → PrngReg), Pre_WidenSecondReferenceIdeal m →
    θ_run (Cert.WidenSecondReferenceIdeal.defs (F := Ideal)) (onTc (τ := Cert.WidenSecondReferenceIdeal.τ) (Cert.WidenSecondReferenceIdeal.main (F := Ideal))) ⟨m, fun _ => 0, g⟩ (fun r => (∀ c : Dev Cert.WidenSecondReferenceIdeal.nD,
      r.2.mem ((c.tc : Thread Cert.WidenSecondReferenceIdeal.nD Cert.WidenSecondReferenceIdeal.τ).loc Cert.WidenSecondReferenceIdeal.main_arg0) = m ((c.tc : Thread Cert.WidenSecondReferenceIdeal.nD Cert.WidenSecondReferenceIdeal.τ).loc Cert.WidenSecondReferenceIdeal.main_arg0)
      ∧ r.2.mem ((c.tc : Thread Cert.WidenSecondReferenceIdeal.nD Cert.WidenSecondReferenceIdeal.τ).loc Cert.WidenSecondReferenceIdeal.main_arg1) = m ((c.tc : Thread Cert.WidenSecondReferenceIdeal.nD Cert.WidenSecondReferenceIdeal.τ).loc Cert.WidenSecondReferenceIdeal.main_arg1)
      ∧ r.2.mem ((c.tc : Thread Cert.WidenSecondReferenceIdeal.nD Cert.WidenSecondReferenceIdeal.τ).loc Cert.WidenSecondReferenceIdeal.main_arg2) = m ((c.tc : Thread Cert.WidenSecondReferenceIdeal.nD Cert.WidenSecondReferenceIdeal.τ).loc Cert.WidenSecondReferenceIdeal.main_arg2))
      ∧ r.2.sem = fun _ => 0)

def quiescent_InUvz [hInUvz : Cert.InUvz.Facts] : Prop :=
  ∀ (m : (ℓ : Loc Cert.InUvz.nD Cert.InUvz.τ Cert.InUvz.sig) → Buf (Elt Bits) ℓ) (g : Dev Cert.InUvz.nD → PrngReg), Pre_InUvz m →
    θ_run (Cert.InUvz.defs (F := Bits)) (onTc (τ := Cert.InUvz.τ) (Cert.InUvz.main (F := Bits))) ⟨m, fun _ => 0, g⟩ (fun r => (∀ c : Dev Cert.InUvz.nD,
      r.2.mem ((c.tc : Thread Cert.InUvz.nD Cert.InUvz.τ).loc Cert.InUvz.main_arg0) = m ((c.tc : Thread Cert.InUvz.nD Cert.InUvz.τ).loc Cert.InUvz.main_arg0)
      ∧ r.2.mem ((c.tc : Thread Cert.InUvz.nD Cert.InUvz.τ).loc Cert.InUvz.main_arg1) = m ((c.tc : Thread Cert.InUvz.nD Cert.InUvz.τ).loc Cert.InUvz.main_arg1))
      ∧ r.2.sem = fun _ => 0)

def quiescent_InUvzIdeal [hInUvzIdeal : Cert.InUvzIdeal.Facts] : Prop :=
  ∀ (m : (ℓ : Loc Cert.InUvzIdeal.nD Cert.InUvzIdeal.τ Cert.InUvzIdeal.sig) → Buf (Elt Ideal) ℓ) (g : Dev Cert.InUvzIdeal.nD → PrngReg), Pre_InUvzIdeal m →
    θ_run (Cert.InUvzIdeal.defs (F := Ideal)) (onTc (τ := Cert.InUvzIdeal.τ) (Cert.InUvzIdeal.main (F := Ideal))) ⟨m, fun _ => 0, g⟩ (fun r => (∀ c : Dev Cert.InUvzIdeal.nD,
      r.2.mem ((c.tc : Thread Cert.InUvzIdeal.nD Cert.InUvzIdeal.τ).loc Cert.InUvzIdeal.main_arg0) = m ((c.tc : Thread Cert.InUvzIdeal.nD Cert.InUvzIdeal.τ).loc Cert.InUvzIdeal.main_arg0)
      ∧ r.2.mem ((c.tc : Thread Cert.InUvzIdeal.nD Cert.InUvzIdeal.τ).loc Cert.InUvzIdeal.main_arg1) = m ((c.tc : Thread Cert.InUvzIdeal.nD Cert.InUvzIdeal.τ).loc Cert.InUvzIdeal.main_arg1))
      ∧ r.2.sem = fun _ => 0)

def quiescent_InUvzReferenceIdeal [hInUvzReferenceIdeal : Cert.InUvzReferenceIdeal.Facts] : Prop :=
  ∀ (m : (ℓ : Loc Cert.InUvzReferenceIdeal.nD Cert.InUvzReferenceIdeal.τ Cert.InUvzReferenceIdeal.sig) → Buf (Elt Ideal) ℓ) (g : Dev Cert.InUvzReferenceIdeal.nD → PrngReg), Pre_InUvzReferenceIdeal m →
    θ_run (Cert.InUvzReferenceIdeal.defs (F := Ideal)) (onTc (τ := Cert.InUvzReferenceIdeal.τ) (Cert.InUvzReferenceIdeal.main (F := Ideal))) ⟨m, fun _ => 0, g⟩ (fun r => (∀ c : Dev Cert.InUvzReferenceIdeal.nD,
      r.2.mem ((c.tc : Thread Cert.InUvzReferenceIdeal.nD Cert.InUvzReferenceIdeal.τ).loc Cert.InUvzReferenceIdeal.main_arg0) = m ((c.tc : Thread Cert.InUvzReferenceIdeal.nD Cert.InUvzReferenceIdeal.τ).loc Cert.InUvzReferenceIdeal.main_arg0)
      ∧ r.2.mem ((c.tc : Thread Cert.InUvzReferenceIdeal.nD Cert.InUvzReferenceIdeal.τ).loc Cert.InUvzReferenceIdeal.main_arg1) = m ((c.tc : Thread Cert.InUvzReferenceIdeal.nD Cert.InUvzReferenceIdeal.τ).loc Cert.InUvzReferenceIdeal.main_arg1))
      ∧ r.2.sem = fun _ => 0)

def quiescent_InXbc [hInXbc : Cert.InXbc.Facts] : Prop :=
  ∀ (m : (ℓ : Loc Cert.InXbc.nD Cert.InXbc.τ Cert.InXbc.sig) → Buf (Elt Bits) ℓ) (g : Dev Cert.InXbc.nD → PrngReg), Pre_InXbc m →
    θ_run (Cert.InXbc.defs (F := Bits)) (onTc (τ := Cert.InXbc.τ) (Cert.InXbc.main (F := Bits))) ⟨m, fun _ => 0, g⟩ (fun r => (∀ c : Dev Cert.InXbc.nD,
      r.2.mem ((c.tc : Thread Cert.InXbc.nD Cert.InXbc.τ).loc Cert.InXbc.main_arg0) = m ((c.tc : Thread Cert.InXbc.nD Cert.InXbc.τ).loc Cert.InXbc.main_arg0)
      ∧ r.2.mem ((c.tc : Thread Cert.InXbc.nD Cert.InXbc.τ).loc Cert.InXbc.main_arg1) = m ((c.tc : Thread Cert.InXbc.nD Cert.InXbc.τ).loc Cert.InXbc.main_arg1))
      ∧ r.2.sem = fun _ => 0)

def quiescent_InXbcIdeal [hInXbcIdeal : Cert.InXbcIdeal.Facts] : Prop :=
  ∀ (m : (ℓ : Loc Cert.InXbcIdeal.nD Cert.InXbcIdeal.τ Cert.InXbcIdeal.sig) → Buf (Elt Ideal) ℓ) (g : Dev Cert.InXbcIdeal.nD → PrngReg), Pre_InXbcIdeal m →
    θ_run (Cert.InXbcIdeal.defs (F := Ideal)) (onTc (τ := Cert.InXbcIdeal.τ) (Cert.InXbcIdeal.main (F := Ideal))) ⟨m, fun _ => 0, g⟩ (fun r => (∀ c : Dev Cert.InXbcIdeal.nD,
      r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
      ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ r.2.sem = fun _ => 0)

def quiescent_InXbcReferenceIdeal [hInXbcReferenceIdeal : Cert.InXbcReferenceIdeal.Facts] : Prop :=
  ∀ (m : (ℓ : Loc Cert.InXbcReferenceIdeal.nD Cert.InXbcReferenceIdeal.τ Cert.InXbcReferenceIdeal.sig) → Buf (Elt Ideal) ℓ) (g : Dev Cert.InXbcReferenceIdeal.nD → PrngReg), Pre_InXbcReferenceIdeal m →
    θ_run (Cert.InXbcReferenceIdeal.defs (F := Ideal)) (onTc (τ := Cert.InXbcReferenceIdeal.τ) (Cert.InXbcReferenceIdeal.main (F := Ideal))) ⟨m, fun _ => 0, g⟩ (fun r => (∀ c : Dev Cert.InXbcReferenceIdeal.nD,
      r.2.mem ((c.tc : Thread Cert.InXbcReferenceIdeal.nD Cert.InXbcReferenceIdeal.τ).loc Cert.InXbcReferenceIdeal.main_arg0) = m ((c.tc : Thread Cert.InXbcReferenceIdeal.nD Cert.InXbcReferenceIdeal.τ).loc Cert.InXbcReferenceIdeal.main_arg0)
      ∧ r.2.mem ((c.tc : Thread Cert.InXbcReferenceIdeal.nD Cert.InXbcReferenceIdeal.τ).loc Cert.InXbcReferenceIdeal.main_arg1) = m ((c.tc : Thread Cert.InXbcReferenceIdeal.nD Cert.InXbcReferenceIdeal.τ).loc Cert.InXbcReferenceIdeal.main_arg1))
      ∧ r.2.sem = fun _ => 0)

def quiescent_OutDy [hOutDy : Cert.OutDy.Facts] : Prop :=
  ∀ (m : (ℓ : Loc Cert.OutDy.nD Cert.OutDy.τ Cert.OutDy.sig) → Buf (Elt Bits) ℓ) (g : Dev Cert.OutDy.nD → PrngReg), Pre_OutDy m →
    θ_run (Cert.OutDy.defs (F := Bits)) (onTc (τ := Cert.OutDy.τ) (Cert.OutDy.main (F := Bits))) ⟨m, fun _ => 0, g⟩ (fun r => (∀ c : Dev Cert.OutDy.nD,
      r.2.mem ((c.tc : Thread Cert.OutDy.nD Cert.OutDy.τ).loc Cert.OutDy.main_arg0) = m ((c.tc : Thread Cert.OutDy.nD Cert.OutDy.τ).loc Cert.OutDy.main_arg0)
      ∧ r.2.mem ((c.tc : Thread Cert.OutDy.nD Cert.OutDy.τ).loc Cert.OutDy.main_arg1) = m ((c.tc : Thread Cert.OutDy.nD Cert.OutDy.τ).loc Cert.OutDy.main_arg1))
      ∧ r.2.sem = fun _ => 0)

def quiescent_OutDyIdeal [hOutDyIdeal : Cert.OutDyIdeal.Facts] : Prop :=
  ∀ (m : (ℓ : Loc Cert.OutDyIdeal.nD Cert.OutDyIdeal.τ Cert.OutDyIdeal.sig) → Buf (Elt Ideal) ℓ) (g : Dev Cert.OutDyIdeal.nD → PrngReg), Pre_OutDyIdeal m →
    θ_run (Cert.OutDyIdeal.defs (F := Ideal)) (onTc (τ := Cert.OutDyIdeal.τ) (Cert.OutDyIdeal.main (F := Ideal))) ⟨m, fun _ => 0, g⟩ (fun r => (∀ c : Dev Cert.OutDyIdeal.nD,
      r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
      ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ r.2.sem = fun _ => 0)

def quiescent_OutDyReferenceIdeal [hOutDyReferenceIdeal : Cert.OutDyReferenceIdeal.Facts] : Prop :=
  ∀ (m : (ℓ : Loc Cert.OutDyReferenceIdeal.nD Cert.OutDyReferenceIdeal.τ Cert.OutDyReferenceIdeal.sig) → Buf (Elt Ideal) ℓ) (g : Dev Cert.OutDyReferenceIdeal.nD → PrngReg), Pre_OutDyReferenceIdeal m →
    θ_run (Cert.OutDyReferenceIdeal.defs (F := Ideal)) (onTc (τ := Cert.OutDyReferenceIdeal.τ) (Cert.OutDyReferenceIdeal.main (F := Ideal))) ⟨m, fun _ => 0, g⟩ (fun r => (∀ c : Dev Cert.OutDyReferenceIdeal.nD,
      r.2.mem ((c.tc : Thread Cert.OutDyReferenceIdeal.nD Cert.OutDyReferenceIdeal.τ).loc Cert.OutDyReferenceIdeal.main_arg0) = m ((c.tc : Thread Cert.OutDyReferenceIdeal.nD Cert.OutDyReferenceIdeal.τ).loc Cert.OutDyReferenceIdeal.main_arg0)
      ∧ r.2.mem ((c.tc : Thread Cert.OutDyReferenceIdeal.nD Cert.OutDyReferenceIdeal.τ).loc Cert.OutDyReferenceIdeal.main_arg1) = m ((c.tc : Thread Cert.OutDyReferenceIdeal.nD Cert.OutDyReferenceIdeal.τ).loc Cert.OutDyReferenceIdeal.main_arg1))
      ∧ r.2.sem = fun _ => 0)

def quiescent_InDwu [hInDwu : Cert.InDwu.Facts] : Prop :=
  ∀ (m : (ℓ : Loc Cert.InDwu.nD Cert.InDwu.τ Cert.InDwu.sig) → Buf (Elt Bits) ℓ) (g : Dev Cert.InDwu.nD → PrngReg), Pre_InDwu m →
    θ_run (Cert.InDwu.defs (F := Bits)) (onTc (τ := Cert.InDwu.τ) (Cert.InDwu.main (F := Bits))) ⟨m, fun _ => 0, g⟩ (fun r => (∀ c : Dev Cert.InDwu.nD,
      r.2.mem ((c.tc : Thread Cert.InDwu.nD Cert.InDwu.τ).loc Cert.InDwu.main_arg0) = m ((c.tc : Thread Cert.InDwu.nD Cert.InDwu.τ).loc Cert.InDwu.main_arg0)
      ∧ r.2.mem ((c.tc : Thread Cert.InDwu.nD Cert.InDwu.τ).loc Cert.InDwu.main_arg1) = m ((c.tc : Thread Cert.InDwu.nD Cert.InDwu.τ).loc Cert.InDwu.main_arg1))
      ∧ r.2.sem = fun _ => 0)

def quiescent_InDwuIdeal [hInDwuIdeal : Cert.InDwuIdeal.Facts] : Prop :=
  ∀ (m : (ℓ : Loc Cert.InDwuIdeal.nD Cert.InDwuIdeal.τ Cert.InDwuIdeal.sig) → Buf (Elt Ideal) ℓ) (g : Dev Cert.InDwuIdeal.nD → PrngReg), Pre_InDwuIdeal m →
    θ_run (Cert.InDwuIdeal.defs (F := Ideal)) (onTc (τ := Cert.InDwuIdeal.τ) (Cert.InDwuIdeal.main (F := Ideal))) ⟨m, fun _ => 0, g⟩ (fun r => (∀ c : Dev Cert.InDwuIdeal.nD,
      r.2.mem ((c.tc : Thread Cert.InDwuIdeal.nD Cert.InDwuIdeal.τ).loc Cert.InDwuIdeal.main_arg0) = m ((c.tc : Thread Cert.InDwuIdeal.nD Cert.InDwuIdeal.τ).loc Cert.InDwuIdeal.main_arg0)
      ∧ r.2.mem ((c.tc : Thread Cert.InDwuIdeal.nD Cert.InDwuIdeal.τ).loc Cert.InDwuIdeal.main_arg1) = m ((c.tc : Thread Cert.InDwuIdeal.nD Cert.InDwuIdeal.τ).loc Cert.InDwuIdeal.main_arg1))
      ∧ r.2.sem = fun _ => 0)

def quiescent_InDwuReferenceIdeal [hInDwuReferenceIdeal : Cert.InDwuReferenceIdeal.Facts] : Prop :=
  ∀ (m : (ℓ : Loc Cert.InDwuReferenceIdeal.nD Cert.InDwuReferenceIdeal.τ Cert.InDwuReferenceIdeal.sig) → Buf (Elt Ideal) ℓ) (g : Dev Cert.InDwuReferenceIdeal.nD → PrngReg), Pre_InDwuReferenceIdeal m →
    θ_run (Cert.InDwuReferenceIdeal.defs (F := Ideal)) (onTc (τ := Cert.InDwuReferenceIdeal.τ) (Cert.InDwuReferenceIdeal.main (F := Ideal))) ⟨m, fun _ => 0, g⟩ (fun r => (∀ c : Dev Cert.InDwuReferenceIdeal.nD,
      r.2.mem ((c.tc : Thread Cert.InDwuReferenceIdeal.nD Cert.InDwuReferenceIdeal.τ).loc Cert.InDwuReferenceIdeal.main_arg0) = m ((c.tc : Thread Cert.InDwuReferenceIdeal.nD Cert.InDwuReferenceIdeal.τ).loc Cert.InDwuReferenceIdeal.main_arg0)
      ∧ r.2.mem ((c.tc : Thread Cert.InDwuReferenceIdeal.nD Cert.InDwuReferenceIdeal.τ).loc Cert.InDwuReferenceIdeal.main_arg1) = m ((c.tc : Thread Cert.InDwuReferenceIdeal.nD Cert.InDwuReferenceIdeal.τ).loc Cert.InDwuReferenceIdeal.main_arg1))
      ∧ r.2.sem = fun _ => 0)

def quiescent_InDwxbc [hInDwxbc : Cert.InDwxbc.Facts] : Prop :=
  ∀ (m : (ℓ : Loc Cert.InDwxbc.nD Cert.InDwxbc.τ Cert.InDwxbc.sig) → Buf (Elt Bits) ℓ) (g : Dev Cert.InDwxbc.nD → PrngReg), Pre_InDwxbc m →
    θ_run (Cert.InDwxbc.defs (F := Bits)) (onTc (τ := Cert.InDwxbc.τ) (Cert.InDwxbc.main (F := Bits))) ⟨m, fun _ => 0, g⟩ (fun r => (∀ c : Dev Cert.InDwxbc.nD,
      r.2.mem ((c.tc : Thread Cert.InDwxbc.nD Cert.InDwxbc.τ).loc Cert.InDwxbc.main_arg0) = m ((c.tc : Thread Cert.InDwxbc.nD Cert.InDwxbc.τ).loc Cert.InDwxbc.main_arg0)
      ∧ r.2.mem ((c.tc : Thread Cert.InDwxbc.nD Cert.InDwxbc.τ).loc Cert.InDwxbc.main_arg1) = m ((c.tc : Thread Cert.InDwxbc.nD Cert.InDwxbc.τ).loc Cert.InDwxbc.main_arg1))
      ∧ r.2.sem = fun _ => 0)

def quiescent_InDwxbcIdeal [hInDwxbcIdeal : Cert.InDwxbcIdeal.Facts] : Prop :=
  ∀ (m : (ℓ : Loc Cert.InDwxbcIdeal.nD Cert.InDwxbcIdeal.τ Cert.InDwxbcIdeal.sig) → Buf (Elt Ideal) ℓ) (g : Dev Cert.InDwxbcIdeal.nD → PrngReg), Pre_InDwxbcIdeal m →
    θ_run (Cert.InDwxbcIdeal.defs (F := Ideal)) (onTc (τ := Cert.InDwxbcIdeal.τ) (Cert.InDwxbcIdeal.main (F := Ideal))) ⟨m, fun _ => 0, g⟩ (fun r => (∀ c : Dev Cert.InDwxbcIdeal.nD,
      r.2.mem ((c.tc : Thread Cert.InDwxbcIdeal.nD Cert.InDwxbcIdeal.τ).loc Cert.InDwxbcIdeal.main_arg0) = m ((c.tc : Thread Cert.InDwxbcIdeal.nD Cert.InDwxbcIdeal.τ).loc Cert.InDwxbcIdeal.main_arg0)
      ∧ r.2.mem ((c.tc : Thread Cert.InDwxbcIdeal.nD Cert.InDwxbcIdeal.τ).loc Cert.InDwxbcIdeal.main_arg1) = m ((c.tc : Thread Cert.InDwxbcIdeal.nD Cert.InDwxbcIdeal.τ).loc Cert.InDwxbcIdeal.main_arg1))
      ∧ r.2.sem = fun _ => 0)

def quiescent_InDwxbcReferenceIdeal [hInDwxbcReferenceIdeal : Cert.InDwxbcReferenceIdeal.Facts] : Prop :=
  ∀ (m : (ℓ : Loc Cert.InDwxbcReferenceIdeal.nD Cert.InDwxbcReferenceIdeal.τ Cert.InDwxbcReferenceIdeal.sig) → Buf (Elt Ideal) ℓ) (g : Dev Cert.InDwxbcReferenceIdeal.nD → PrngReg), Pre_InDwxbcReferenceIdeal m →
    θ_run (Cert.InDwxbcReferenceIdeal.defs (F := Ideal)) (onTc (τ := Cert.InDwxbcReferenceIdeal.τ) (Cert.InDwxbcReferenceIdeal.main (F := Ideal))) ⟨m, fun _ => 0, g⟩ (fun r => (∀ c : Dev Cert.InDwxbcReferenceIdeal.nD,
      r.2.mem ((c.tc : Thread Cert.InDwxbcReferenceIdeal.nD Cert.InDwxbcReferenceIdeal.τ).loc Cert.InDwxbcReferenceIdeal.main_arg0) = m ((c.tc : Thread Cert.InDwxbcReferenceIdeal.nD Cert.InDwxbcReferenceIdeal.τ).loc Cert.InDwxbcReferenceIdeal.main_arg0)
      ∧ r.2.mem ((c.tc : Thread Cert.InDwxbcReferenceIdeal.nD Cert.InDwxbcReferenceIdeal.τ).loc Cert.InDwxbcReferenceIdeal.main_arg1) = m ((c.tc : Thread Cert.InDwxbcReferenceIdeal.nD Cert.InDwxbcReferenceIdeal.τ).loc Cert.InDwxbcReferenceIdeal.main_arg1))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolReferenceIdeal [hAdamPoolReferenceIdeal : Cert.AdamPoolReferenceIdeal.Facts] : Prop :=
  ∀ (m : (ℓ : Loc Cert.AdamPoolReferenceIdeal.nD Cert.AdamPoolReferenceIdeal.τ Cert.AdamPoolReferenceIdeal.sig) → Buf (Elt Ideal) ℓ) (g : Dev Cert.AdamPoolReferenceIdeal.nD → PrngReg), Pre_AdamPoolReferenceIdeal m →
    θ_run (Cert.AdamPoolReferenceIdeal.defs (F := Ideal)) (onTc (τ := Cert.AdamPoolReferenceIdeal.τ) (Cert.AdamPoolReferenceIdeal.main (F := Ideal))) ⟨m, fun _ => 0, g⟩ (fun r => (∀ c : Dev Cert.AdamPoolReferenceIdeal.nD,
      r.2.mem ((c.tc : Thread Cert.AdamPoolReferenceIdeal.nD Cert.AdamPoolReferenceIdeal.τ).loc Cert.AdamPoolReferenceIdeal.main_arg0) = m ((c.tc : Thread Cert.AdamPoolReferenceIdeal.nD Cert.AdamPoolReferenceIdeal.τ).loc Cert.AdamPoolReferenceIdeal.main_arg0)
      ∧ r.2.mem ((c.tc : Thread Cert.AdamPoolReferenceIdeal.nD Cert.AdamPoolReferenceIdeal.τ).loc Cert.AdamPoolReferenceIdeal.main_arg1) = m ((c.tc : Thread Cert.AdamPoolReferenceIdeal.nD Cert.AdamPoolReferenceIdeal.τ).loc Cert.AdamPoolReferenceIdeal.main_arg1)
      ∧ r.2.mem ((c.tc : Thread Cert.AdamPoolReferenceIdeal.nD Cert.AdamPoolReferenceIdeal.τ).loc Cert.AdamPoolReferenceIdeal.main_arg2) = m ((c.tc : Thread Cert.AdamPoolReferenceIdeal.nD Cert.AdamPoolReferenceIdeal.τ).loc Cert.AdamPoolReferenceIdeal.main_arg2)
      ∧ r.2.mem ((c.tc : Thread Cert.AdamPoolReferenceIdeal.nD Cert.AdamPoolReferenceIdeal.τ).loc Cert.AdamPoolReferenceIdeal.main_arg3) = m ((c.tc : Thread Cert.AdamPoolReferenceIdeal.nD Cert.AdamPoolReferenceIdeal.τ).loc Cert.AdamPoolReferenceIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixReferenceIdeal [hAdamMixReferenceIdeal : Cert.AdamMixReferenceIdeal.Facts] : Prop :=
  ∀ (m : (ℓ : Loc Cert.AdamMixReferenceIdeal.nD Cert.AdamMixReferenceIdeal.τ Cert.AdamMixReferenceIdeal.sig) → Buf (Elt Ideal) ℓ) (g : Dev Cert.AdamMixReferenceIdeal.nD → PrngReg), Pre_AdamMixReferenceIdeal m →
    θ_run (Cert.AdamMixReferenceIdeal.defs (F := Ideal)) (onTc (τ := Cert.AdamMixReferenceIdeal.τ) (Cert.AdamMixReferenceIdeal.main (F := Ideal))) ⟨m, fun _ => 0, g⟩ (fun r => (∀ c : Dev Cert.AdamMixReferenceIdeal.nD,
      r.2.mem ((c.tc : Thread Cert.AdamMixReferenceIdeal.nD Cert.AdamMixReferenceIdeal.τ).loc Cert.AdamMixReferenceIdeal.main_arg0) = m ((c.tc : Thread Cert.AdamMixReferenceIdeal.nD Cert.AdamMixReferenceIdeal.τ).loc Cert.AdamMixReferenceIdeal.main_arg0)
      ∧ r.2.mem ((c.tc : Thread Cert.AdamMixReferenceIdeal.nD Cert.AdamMixReferenceIdeal.τ).loc Cert.AdamMixReferenceIdeal.main_arg1) = m ((c.tc : Thread Cert.AdamMixReferenceIdeal.nD Cert.AdamMixReferenceIdeal.τ).loc Cert.AdamMixReferenceIdeal.main_arg1)
      ∧ r.2.mem ((c.tc : Thread Cert.AdamMixReferenceIdeal.nD Cert.AdamMixReferenceIdeal.τ).loc Cert.AdamMixReferenceIdeal.main_arg2) = m ((c.tc : Thread Cert.AdamMixReferenceIdeal.nD Cert.AdamMixReferenceIdeal.τ).loc Cert.AdamMixReferenceIdeal.main_arg2)
      ∧ r.2.mem ((c.tc : Thread Cert.AdamMixReferenceIdeal.nD Cert.AdamMixReferenceIdeal.τ).loc Cert.AdamMixReferenceIdeal.main_arg3) = m ((c.tc : Thread Cert.AdamMixReferenceIdeal.nD Cert.AdamMixReferenceIdeal.τ).loc Cert.AdamMixReferenceIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamMixBias [hAdamMixBias : Cert.AdamMixBias.Facts] : Prop :=
  ∀ (m : (ℓ : Loc Cert.AdamMixBias.nD Cert.AdamMixBias.τ Cert.AdamMixBias.sig) → Buf (Elt Bits) ℓ) (g : Dev Cert.AdamMixBias.nD → PrngReg), Pre_AdamMixBias m →
    θ_run (Cert.AdamMixBias.defs (F := Bits)) (onTc (τ := Cert.AdamMixBias.τ) (Cert.AdamMixBias.main (F := Bits))) ⟨m, fun _ => 0, g⟩ (fun r => (∀ c : Dev Cert.AdamMixBias.nD,
      r.2.mem ((c.tc : Thread Cert.AdamMixBias.nD Cert.AdamMixBias.τ).loc Cert.AdamMixBias.main_arg0) = m ((c.tc : Thread Cert.AdamMixBias.nD Cert.AdamMixBias.τ).loc Cert.AdamMixBias.main_arg0)
      ∧ r.2.mem ((c.tc : Thread Cert.AdamMixBias.nD Cert.AdamMixBias.τ).loc Cert.AdamMixBias.main_arg1) = m ((c.tc : Thread Cert.AdamMixBias.nD Cert.AdamMixBias.τ).loc Cert.AdamMixBias.main_arg1)
      ∧ r.2.mem ((c.tc : Thread Cert.AdamMixBias.nD Cert.AdamMixBias.τ).loc Cert.AdamMixBias.main_arg2) = m ((c.tc : Thread Cert.AdamMixBias.nD Cert.AdamMixBias.τ).loc Cert.AdamMixBias.main_arg2)
      ∧ r.2.mem ((c.tc : Thread Cert.AdamMixBias.nD Cert.AdamMixBias.τ).loc Cert.AdamMixBias.main_arg3) = m ((c.tc : Thread Cert.AdamMixBias.nD Cert.AdamMixBias.τ).loc Cert.AdamMixBias.main_arg3))
      ∧ r.2.sem = fun _ => 0)

def quiescent_AdamMixBiasIdeal [hAdamMixBiasIdeal : Cert.AdamMixBiasIdeal.Facts] : Prop :=
  ∀ (m : (ℓ : Loc Cert.AdamMixBiasIdeal.nD Cert.AdamMixBiasIdeal.τ Cert.AdamMixBiasIdeal.sig) → Buf (Elt Ideal) ℓ) (g : Dev Cert.AdamMixBiasIdeal.nD → PrngReg), Pre_AdamMixBiasIdeal m →
    θ_run (Cert.AdamMixBiasIdeal.defs (F := Ideal)) (onTc (τ := Cert.AdamMixBiasIdeal.τ) (Cert.AdamMixBiasIdeal.main (F := Ideal))) ⟨m, fun _ => 0, g⟩ (fun r => (∀ c : Dev Cert.AdamMixBiasIdeal.nD,
      r.2.mem ((c.tc : Thread Cert.AdamMixBiasIdeal.nD Cert.AdamMixBiasIdeal.τ).loc Cert.AdamMixBiasIdeal.main_arg0) = m ((c.tc : Thread Cert.AdamMixBiasIdeal.nD Cert.AdamMixBiasIdeal.τ).loc Cert.AdamMixBiasIdeal.main_arg0)
      ∧ r.2.mem ((c.tc : Thread Cert.AdamMixBiasIdeal.nD Cert.AdamMixBiasIdeal.τ).loc Cert.AdamMixBiasIdeal.main_arg1) = m ((c.tc : Thread Cert.AdamMixBiasIdeal.nD Cert.AdamMixBiasIdeal.τ).loc Cert.AdamMixBiasIdeal.main_arg1)
      ∧ r.2.mem ((c.tc : Thread Cert.AdamMixBiasIdeal.nD Cert.AdamMixBiasIdeal.τ).loc Cert.AdamMixBiasIdeal.main_arg2) = m ((c.tc : Thread Cert.AdamMixBiasIdeal.nD Cert.AdamMixBiasIdeal.τ).loc Cert.AdamMixBiasIdeal.main_arg2)
      ∧ r.2.mem ((c.tc : Thread Cert.AdamMixBiasIdeal.nD Cert.AdamMixBiasIdeal.τ).loc Cert.AdamMixBiasIdeal.main_arg3) = m ((c.tc : Thread Cert.AdamMixBiasIdeal.nD Cert.AdamMixBiasIdeal.τ).loc Cert.AdamMixBiasIdeal.main_arg3))
      ∧ r.2.sem = fun _ => 0)

def quiescent_AdamMixBiasReferenceIdeal [hAdamMixBiasReferenceIdeal : Cert.AdamMixBiasReferenceIdeal.Facts] : Prop :=
  ∀ (m : (ℓ : Loc Cert.AdamMixBiasReferenceIdeal.nD Cert.AdamMixBiasReferenceIdeal.τ Cert.AdamMixBiasReferenceIdeal.sig) → Buf (Elt Ideal) ℓ) (g : Dev Cert.AdamMixBiasReferenceIdeal.nD → PrngReg), Pre_AdamMixBiasReferenceIdeal m →
    θ_run (Cert.AdamMixBiasReferenceIdeal.defs (F := Ideal)) (onTc (τ := Cert.AdamMixBiasReferenceIdeal.τ) (Cert.AdamMixBiasReferenceIdeal.main (F := Ideal))) ⟨m, fun _ => 0, g⟩ (fun r => (∀ c : Dev Cert.AdamMixBiasReferenceIdeal.nD,
      r.2.mem ((c.tc : Thread Cert.AdamMixBiasReferenceIdeal.nD Cert.AdamMixBiasReferenceIdeal.τ).loc Cert.AdamMixBiasReferenceIdeal.main_arg0) = m ((c.tc : Thread Cert.AdamMixBiasReferenceIdeal.nD Cert.AdamMixBiasReferenceIdeal.τ).loc Cert.AdamMixBiasReferenceIdeal.main_arg0)
      ∧ r.2.mem ((c.tc : Thread Cert.AdamMixBiasReferenceIdeal.nD Cert.AdamMixBiasReferenceIdeal.τ).loc Cert.AdamMixBiasReferenceIdeal.main_arg1) = m ((c.tc : Thread Cert.AdamMixBiasReferenceIdeal.nD Cert.AdamMixBiasReferenceIdeal.τ).loc Cert.AdamMixBiasReferenceIdeal.main_arg1)
      ∧ r.2.mem ((c.tc : Thread Cert.AdamMixBiasReferenceIdeal.nD Cert.AdamMixBiasReferenceIdeal.τ).loc Cert.AdamMixBiasReferenceIdeal.main_arg2) = m ((c.tc : Thread Cert.AdamMixBiasReferenceIdeal.nD Cert.AdamMixBiasReferenceIdeal.τ).loc Cert.AdamMixBiasReferenceIdeal.main_arg2)
      ∧ r.2.mem ((c.tc : Thread Cert.AdamMixBiasReferenceIdeal.nD Cert.AdamMixBiasReferenceIdeal.τ).loc Cert.AdamMixBiasReferenceIdeal.main_arg3) = m ((c.tc : Thread Cert.AdamMixBiasReferenceIdeal.nD Cert.AdamMixBiasReferenceIdeal.τ).loc Cert.AdamMixBiasReferenceIdeal.main_arg3))
      ∧ r.2.sem = fun _ => 0)

def quiescent_AdamPoolBias [hAdamPoolBias : Cert.AdamPoolBias.Facts] : Prop :=
  ∀ (m : (ℓ : Loc Cert.AdamPoolBias.nD Cert.AdamPoolBias.τ Cert.AdamPoolBias.sig) → Buf (Elt Bits) ℓ) (g : Dev Cert.AdamPoolBias.nD → PrngReg), Pre_AdamPoolBias m →
    θ_run (Cert.AdamPoolBias.defs (F := Bits)) (onTc (τ := Cert.AdamPoolBias.τ) (Cert.AdamPoolBias.main (F := Bits))) ⟨m, fun _ => 0, g⟩ (fun r => (∀ c : Dev Cert.AdamPoolBias.nD,
      r.2.mem ((c.tc : Thread Cert.AdamPoolBias.nD Cert.AdamPoolBias.τ).loc Cert.AdamPoolBias.main_arg0) = m ((c.tc : Thread Cert.AdamPoolBias.nD Cert.AdamPoolBias.τ).loc Cert.AdamPoolBias.main_arg0)
      ∧ r.2.mem ((c.tc : Thread Cert.AdamPoolBias.nD Cert.AdamPoolBias.τ).loc Cert.AdamPoolBias.main_arg1) = m ((c.tc : Thread Cert.AdamPoolBias.nD Cert.AdamPoolBias.τ).loc Cert.AdamPoolBias.main_arg1)
      ∧ r.2.mem ((c.tc : Thread Cert.AdamPoolBias.nD Cert.AdamPoolBias.τ).loc Cert.AdamPoolBias.main_arg2) = m ((c.tc : Thread Cert.AdamPoolBias.nD Cert.AdamPoolBias.τ).loc Cert.AdamPoolBias.main_arg2)
      ∧ r.2.mem ((c.tc : Thread Cert.AdamPoolBias.nD Cert.AdamPoolBias.τ).loc Cert.AdamPoolBias.main_arg3) = m ((c.tc : Thread Cert.AdamPoolBias.nD Cert.AdamPoolBias.τ).loc Cert.AdamPoolBias.main_arg3))
      ∧ r.2.sem = fun _ => 0)

def quiescent_AdamPoolBiasIdeal [hAdamPoolBiasIdeal : Cert.AdamPoolBiasIdeal.Facts] : Prop :=
  ∀ (m : (ℓ : Loc Cert.AdamPoolBiasIdeal.nD Cert.AdamPoolBiasIdeal.τ Cert.AdamPoolBiasIdeal.sig) → Buf (Elt Ideal) ℓ) (g : Dev Cert.AdamPoolBiasIdeal.nD → PrngReg), Pre_AdamPoolBiasIdeal m →
    θ_run (Cert.AdamPoolBiasIdeal.defs (F := Ideal)) (onTc (τ := Cert.AdamPoolBiasIdeal.τ) (Cert.AdamPoolBiasIdeal.main (F := Ideal))) ⟨m, fun _ => 0, g⟩ (fun r => (∀ c : Dev Cert.AdamPoolBiasIdeal.nD,
      r.2.mem ((c.tc : Thread Cert.AdamPoolBiasIdeal.nD Cert.AdamPoolBiasIdeal.τ).loc Cert.AdamPoolBiasIdeal.main_arg0) = m ((c.tc : Thread Cert.AdamPoolBiasIdeal.nD Cert.AdamPoolBiasIdeal.τ).loc Cert.AdamPoolBiasIdeal.main_arg0)
      ∧ r.2.mem ((c.tc : Thread Cert.AdamPoolBiasIdeal.nD Cert.AdamPoolBiasIdeal.τ).loc Cert.AdamPoolBiasIdeal.main_arg1) = m ((c.tc : Thread Cert.AdamPoolBiasIdeal.nD Cert.AdamPoolBiasIdeal.τ).loc Cert.AdamPoolBiasIdeal.main_arg1)
      ∧ r.2.mem ((c.tc : Thread Cert.AdamPoolBiasIdeal.nD Cert.AdamPoolBiasIdeal.τ).loc Cert.AdamPoolBiasIdeal.main_arg2) = m ((c.tc : Thread Cert.AdamPoolBiasIdeal.nD Cert.AdamPoolBiasIdeal.τ).loc Cert.AdamPoolBiasIdeal.main_arg2)
      ∧ r.2.mem ((c.tc : Thread Cert.AdamPoolBiasIdeal.nD Cert.AdamPoolBiasIdeal.τ).loc Cert.AdamPoolBiasIdeal.main_arg3) = m ((c.tc : Thread Cert.AdamPoolBiasIdeal.nD Cert.AdamPoolBiasIdeal.τ).loc Cert.AdamPoolBiasIdeal.main_arg3))
      ∧ r.2.sem = fun _ => 0)

def quiescent_AdamPoolBiasReferenceIdeal [hAdamPoolBiasReferenceIdeal : Cert.AdamPoolBiasReferenceIdeal.Facts] : Prop :=
  ∀ (m : (ℓ : Loc Cert.AdamPoolBiasReferenceIdeal.nD Cert.AdamPoolBiasReferenceIdeal.τ Cert.AdamPoolBiasReferenceIdeal.sig) → Buf (Elt Ideal) ℓ) (g : Dev Cert.AdamPoolBiasReferenceIdeal.nD → PrngReg), Pre_AdamPoolBiasReferenceIdeal m →
    θ_run (Cert.AdamPoolBiasReferenceIdeal.defs (F := Ideal)) (onTc (τ := Cert.AdamPoolBiasReferenceIdeal.τ) (Cert.AdamPoolBiasReferenceIdeal.main (F := Ideal))) ⟨m, fun _ => 0, g⟩ (fun r => (∀ c : Dev Cert.AdamPoolBiasReferenceIdeal.nD,
      r.2.mem ((c.tc : Thread Cert.AdamPoolBiasReferenceIdeal.nD Cert.AdamPoolBiasReferenceIdeal.τ).loc Cert.AdamPoolBiasReferenceIdeal.main_arg0) = m ((c.tc : Thread Cert.AdamPoolBiasReferenceIdeal.nD Cert.AdamPoolBiasReferenceIdeal.τ).loc Cert.AdamPoolBiasReferenceIdeal.main_arg0)
      ∧ r.2.mem ((c.tc : Thread Cert.AdamPoolBiasReferenceIdeal.nD Cert.AdamPoolBiasReferenceIdeal.τ).loc Cert.AdamPoolBiasReferenceIdeal.main_arg1) = m ((c.tc : Thread Cert.AdamPoolBiasReferenceIdeal.nD Cert.AdamPoolBiasReferenceIdeal.τ).loc Cert.AdamPoolBiasReferenceIdeal.main_arg1)
      ∧ r.2.mem ((c.tc : Thread Cert.AdamPoolBiasReferenceIdeal.nD Cert.AdamPoolBiasReferenceIdeal.τ).loc Cert.AdamPoolBiasReferenceIdeal.main_arg2) = m ((c.tc : Thread Cert.AdamPoolBiasReferenceIdeal.nD Cert.AdamPoolBiasReferenceIdeal.τ).loc Cert.AdamPoolBiasReferenceIdeal.main_arg2)
      ∧ r.2.mem ((c.tc : Thread Cert.AdamPoolBiasReferenceIdeal.nD Cert.AdamPoolBiasReferenceIdeal.τ).loc Cert.AdamPoolBiasReferenceIdeal.main_arg3) = m ((c.tc : Thread Cert.AdamPoolBiasReferenceIdeal.nD Cert.AdamPoolBiasReferenceIdeal.τ).loc Cert.AdamPoolBiasReferenceIdeal.main_arg3))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowReferenceIdeal [hAdamRowReferenceIdeal : Cert.AdamRowReferenceIdeal.Facts] : Prop :=
  ∀ (m : (ℓ : Loc Cert.AdamRowReferenceIdeal.nD Cert.AdamRowReferenceIdeal.τ Cert.AdamRowReferenceIdeal.sig) → Buf (Elt Ideal) ℓ) (g : Dev Cert.AdamRowReferenceIdeal.nD → PrngReg), Pre_AdamRowReferenceIdeal m →
    θ_run (Cert.AdamRowReferenceIdeal.defs (F := Ideal)) (onTc (τ := Cert.AdamRowReferenceIdeal.τ) (Cert.AdamRowReferenceIdeal.main (F := Ideal))) ⟨m, fun _ => 0, g⟩ (fun r => (∀ c : Dev Cert.AdamRowReferenceIdeal.nD,
      r.2.mem ((c.tc : Thread Cert.AdamRowReferenceIdeal.nD Cert.AdamRowReferenceIdeal.τ).loc Cert.AdamRowReferenceIdeal.main_arg0) = m ((c.tc : Thread Cert.AdamRowReferenceIdeal.nD Cert.AdamRowReferenceIdeal.τ).loc Cert.AdamRowReferenceIdeal.main_arg0)
      ∧ r.2.mem ((c.tc : Thread Cert.AdamRowReferenceIdeal.nD Cert.AdamRowReferenceIdeal.τ).loc Cert.AdamRowReferenceIdeal.main_arg1) = m ((c.tc : Thread Cert.AdamRowReferenceIdeal.nD Cert.AdamRowReferenceIdeal.τ).loc Cert.AdamRowReferenceIdeal.main_arg1)
      ∧ r.2.mem ((c.tc : Thread Cert.AdamRowReferenceIdeal.nD Cert.AdamRowReferenceIdeal.τ).loc Cert.AdamRowReferenceIdeal.main_arg2) = m ((c.tc : Thread Cert.AdamRowReferenceIdeal.nD Cert.AdamRowReferenceIdeal.τ).loc Cert.AdamRowReferenceIdeal.main_arg2)
      ∧ r.2.mem ((c.tc : Thread Cert.AdamRowReferenceIdeal.nD Cert.AdamRowReferenceIdeal.τ).loc Cert.AdamRowReferenceIdeal.main_arg3) = m ((c.tc : Thread Cert.AdamRowReferenceIdeal.nD Cert.AdamRowReferenceIdeal.τ).loc Cert.AdamRowReferenceIdeal.main_arg3))
      ∧ r.2.sem = fun _ => 0)

def quiescent_AdamConvBias [hAdamConvBias : Cert.AdamConvBias.Facts] : Prop :=
  ∀ (m : (ℓ : Loc Cert.AdamConvBias.nD Cert.AdamConvBias.τ Cert.AdamConvBias.sig) → Buf (Elt Bits) ℓ) (g : Dev Cert.AdamConvBias.nD → PrngReg), Pre_AdamConvBias m →
    θ_run (Cert.AdamConvBias.defs (F := Bits)) (onTc (τ := Cert.AdamConvBias.τ) (Cert.AdamConvBias.main (F := Bits))) ⟨m, fun _ => 0, g⟩ (fun r => (∀ c : Dev Cert.AdamConvBias.nD,
      r.2.mem ((c.tc : Thread Cert.AdamConvBias.nD Cert.AdamConvBias.τ).loc Cert.AdamConvBias.main_arg0) = m ((c.tc : Thread Cert.AdamConvBias.nD Cert.AdamConvBias.τ).loc Cert.AdamConvBias.main_arg0)
      ∧ r.2.mem ((c.tc : Thread Cert.AdamConvBias.nD Cert.AdamConvBias.τ).loc Cert.AdamConvBias.main_arg1) = m ((c.tc : Thread Cert.AdamConvBias.nD Cert.AdamConvBias.τ).loc Cert.AdamConvBias.main_arg1)
      ∧ r.2.mem ((c.tc : Thread Cert.AdamConvBias.nD Cert.AdamConvBias.τ).loc Cert.AdamConvBias.main_arg2) = m ((c.tc : Thread Cert.AdamConvBias.nD Cert.AdamConvBias.τ).loc Cert.AdamConvBias.main_arg2)
      ∧ r.2.mem ((c.tc : Thread Cert.AdamConvBias.nD Cert.AdamConvBias.τ).loc Cert.AdamConvBias.main_arg3) = m ((c.tc : Thread Cert.AdamConvBias.nD Cert.AdamConvBias.τ).loc Cert.AdamConvBias.main_arg3))
      ∧ r.2.sem = fun _ => 0)

def quiescent_AdamConvBiasIdeal [hAdamConvBiasIdeal : Cert.AdamConvBiasIdeal.Facts] : Prop :=
  ∀ (m : (ℓ : Loc Cert.AdamConvBiasIdeal.nD Cert.AdamConvBiasIdeal.τ Cert.AdamConvBiasIdeal.sig) → Buf (Elt Ideal) ℓ) (g : Dev Cert.AdamConvBiasIdeal.nD → PrngReg), Pre_AdamConvBiasIdeal m →
    θ_run (Cert.AdamConvBiasIdeal.defs (F := Ideal)) (onTc (τ := Cert.AdamConvBiasIdeal.τ) (Cert.AdamConvBiasIdeal.main (F := Ideal))) ⟨m, fun _ => 0, g⟩ (fun r => (∀ c : Dev Cert.AdamConvBiasIdeal.nD,
      r.2.mem ((c.tc : Thread Cert.AdamConvBiasIdeal.nD Cert.AdamConvBiasIdeal.τ).loc Cert.AdamConvBiasIdeal.main_arg0) = m ((c.tc : Thread Cert.AdamConvBiasIdeal.nD Cert.AdamConvBiasIdeal.τ).loc Cert.AdamConvBiasIdeal.main_arg0)
      ∧ r.2.mem ((c.tc : Thread Cert.AdamConvBiasIdeal.nD Cert.AdamConvBiasIdeal.τ).loc Cert.AdamConvBiasIdeal.main_arg1) = m ((c.tc : Thread Cert.AdamConvBiasIdeal.nD Cert.AdamConvBiasIdeal.τ).loc Cert.AdamConvBiasIdeal.main_arg1)
      ∧ r.2.mem ((c.tc : Thread Cert.AdamConvBiasIdeal.nD Cert.AdamConvBiasIdeal.τ).loc Cert.AdamConvBiasIdeal.main_arg2) = m ((c.tc : Thread Cert.AdamConvBiasIdeal.nD Cert.AdamConvBiasIdeal.τ).loc Cert.AdamConvBiasIdeal.main_arg2)
      ∧ r.2.mem ((c.tc : Thread Cert.AdamConvBiasIdeal.nD Cert.AdamConvBiasIdeal.τ).loc Cert.AdamConvBiasIdeal.main_arg3) = m ((c.tc : Thread Cert.AdamConvBiasIdeal.nD Cert.AdamConvBiasIdeal.τ).loc Cert.AdamConvBiasIdeal.main_arg3))
      ∧ r.2.sem = fun _ => 0)

def quiescent_AdamConvBiasReferenceIdeal [hAdamConvBiasReferenceIdeal : Cert.AdamConvBiasReferenceIdeal.Facts] : Prop :=
  ∀ (m : (ℓ : Loc Cert.AdamConvBiasReferenceIdeal.nD Cert.AdamConvBiasReferenceIdeal.τ Cert.AdamConvBiasReferenceIdeal.sig) → Buf (Elt Ideal) ℓ) (g : Dev Cert.AdamConvBiasReferenceIdeal.nD → PrngReg), Pre_AdamConvBiasReferenceIdeal m →
    θ_run (Cert.AdamConvBiasReferenceIdeal.defs (F := Ideal)) (onTc (τ := Cert.AdamConvBiasReferenceIdeal.τ) (Cert.AdamConvBiasReferenceIdeal.main (F := Ideal))) ⟨m, fun _ => 0, g⟩ (fun r => (∀ c : Dev Cert.AdamConvBiasReferenceIdeal.nD,
      r.2.mem ((c.tc : Thread Cert.AdamConvBiasReferenceIdeal.nD Cert.AdamConvBiasReferenceIdeal.τ).loc Cert.AdamConvBiasReferenceIdeal.main_arg0) = m ((c.tc : Thread Cert.AdamConvBiasReferenceIdeal.nD Cert.AdamConvBiasReferenceIdeal.τ).loc Cert.AdamConvBiasReferenceIdeal.main_arg0)
      ∧ r.2.mem ((c.tc : Thread Cert.AdamConvBiasReferenceIdeal.nD Cert.AdamConvBiasReferenceIdeal.τ).loc Cert.AdamConvBiasReferenceIdeal.main_arg1) = m ((c.tc : Thread Cert.AdamConvBiasReferenceIdeal.nD Cert.AdamConvBiasReferenceIdeal.τ).loc Cert.AdamConvBiasReferenceIdeal.main_arg1)
      ∧ r.2.mem ((c.tc : Thread Cert.AdamConvBiasReferenceIdeal.nD Cert.AdamConvBiasReferenceIdeal.τ).loc Cert.AdamConvBiasReferenceIdeal.main_arg2) = m ((c.tc : Thread Cert.AdamConvBiasReferenceIdeal.nD Cert.AdamConvBiasReferenceIdeal.τ).loc Cert.AdamConvBiasReferenceIdeal.main_arg2)
      ∧ r.2.mem ((c.tc : Thread Cert.AdamConvBiasReferenceIdeal.nD Cert.AdamConvBiasReferenceIdeal.τ).loc Cert.AdamConvBiasReferenceIdeal.main_arg3) = m ((c.tc : Thread Cert.AdamConvBiasReferenceIdeal.nD Cert.AdamConvBiasReferenceIdeal.τ).loc Cert.AdamConvBiasReferenceIdeal.main_arg3))
      ∧ r.2.sem = fun _ => 0)

def quiescent_AdamPoolScale [hAdamPoolScale : Cert.AdamPoolScale.Facts] : Prop :=
  ∀ (m : (ℓ : Loc Cert.AdamPoolScale.nD Cert.AdamPoolScale.τ Cert.AdamPoolScale.sig) → Buf (Elt Bits) ℓ) (g : Dev Cert.AdamPoolScale.nD → PrngReg), Pre_AdamPoolScale m →
    θ_run (Cert.AdamPoolScale.defs (F := Bits)) (onTc (τ := Cert.AdamPoolScale.τ) (Cert.AdamPoolScale.main (F := Bits))) ⟨m, fun _ => 0, g⟩ (fun r => (∀ c : Dev Cert.AdamPoolScale.nD,
      r.2.mem ((c.tc : Thread Cert.AdamPoolScale.nD Cert.AdamPoolScale.τ).loc Cert.AdamPoolScale.main_arg0) = m ((c.tc : Thread Cert.AdamPoolScale.nD Cert.AdamPoolScale.τ).loc Cert.AdamPoolScale.main_arg0)
      ∧ r.2.mem ((c.tc : Thread Cert.AdamPoolScale.nD Cert.AdamPoolScale.τ).loc Cert.AdamPoolScale.main_arg1) = m ((c.tc : Thread Cert.AdamPoolScale.nD Cert.AdamPoolScale.τ).loc Cert.AdamPoolScale.main_arg1)
      ∧ r.2.mem ((c.tc : Thread Cert.AdamPoolScale.nD Cert.AdamPoolScale.τ).loc Cert.AdamPoolScale.main_arg2) = m ((c.tc : Thread Cert.AdamPoolScale.nD Cert.AdamPoolScale.τ).loc Cert.AdamPoolScale.main_arg2)
      ∧ r.2.mem ((c.tc : Thread Cert.AdamPoolScale.nD Cert.AdamPoolScale.τ).loc Cert.AdamPoolScale.main_arg3) = m ((c.tc : Thread Cert.AdamPoolScale.nD Cert.AdamPoolScale.τ).loc Cert.AdamPoolScale.main_arg3))
      ∧ r.2.sem = fun _ => 0)

def quiescent_AdamPoolScaleIdeal [hAdamPoolScaleIdeal : Cert.AdamPoolScaleIdeal.Facts] : Prop :=
  ∀ (m : (ℓ : Loc Cert.AdamPoolScaleIdeal.nD Cert.AdamPoolScaleIdeal.τ Cert.AdamPoolScaleIdeal.sig) → Buf (Elt Ideal) ℓ) (g : Dev Cert.AdamPoolScaleIdeal.nD → PrngReg), Pre_AdamPoolScaleIdeal m →
    θ_run (Cert.AdamPoolScaleIdeal.defs (F := Ideal)) (onTc (τ := Cert.AdamPoolScaleIdeal.τ) (Cert.AdamPoolScaleIdeal.main (F := Ideal))) ⟨m, fun _ => 0, g⟩ (fun r => (∀ c : Dev Cert.AdamPoolScaleIdeal.nD,
      r.2.mem ((c.tc : Thread Cert.AdamPoolScaleIdeal.nD Cert.AdamPoolScaleIdeal.τ).loc Cert.AdamPoolScaleIdeal.main_arg0) = m ((c.tc : Thread Cert.AdamPoolScaleIdeal.nD Cert.AdamPoolScaleIdeal.τ).loc Cert.AdamPoolScaleIdeal.main_arg0)
      ∧ r.2.mem ((c.tc : Thread Cert.AdamPoolScaleIdeal.nD Cert.AdamPoolScaleIdeal.τ).loc Cert.AdamPoolScaleIdeal.main_arg1) = m ((c.tc : Thread Cert.AdamPoolScaleIdeal.nD Cert.AdamPoolScaleIdeal.τ).loc Cert.AdamPoolScaleIdeal.main_arg1)
      ∧ r.2.mem ((c.tc : Thread Cert.AdamPoolScaleIdeal.nD Cert.AdamPoolScaleIdeal.τ).loc Cert.AdamPoolScaleIdeal.main_arg2) = m ((c.tc : Thread Cert.AdamPoolScaleIdeal.nD Cert.AdamPoolScaleIdeal.τ).loc Cert.AdamPoolScaleIdeal.main_arg2)
      ∧ r.2.mem ((c.tc : Thread Cert.AdamPoolScaleIdeal.nD Cert.AdamPoolScaleIdeal.τ).loc Cert.AdamPoolScaleIdeal.main_arg3) = m ((c.tc : Thread Cert.AdamPoolScaleIdeal.nD Cert.AdamPoolScaleIdeal.τ).loc Cert.AdamPoolScaleIdeal.main_arg3))
      ∧ r.2.sem = fun _ => 0)

def quiescent_AdamPoolScaleReferenceIdeal [hAdamPoolScaleReferenceIdeal : Cert.AdamPoolScaleReferenceIdeal.Facts] : Prop :=
  ∀ (m : (ℓ : Loc Cert.AdamPoolScaleReferenceIdeal.nD Cert.AdamPoolScaleReferenceIdeal.τ Cert.AdamPoolScaleReferenceIdeal.sig) → Buf (Elt Ideal) ℓ) (g : Dev Cert.AdamPoolScaleReferenceIdeal.nD → PrngReg), Pre_AdamPoolScaleReferenceIdeal m →
    θ_run (Cert.AdamPoolScaleReferenceIdeal.defs (F := Ideal)) (onTc (τ := Cert.AdamPoolScaleReferenceIdeal.τ) (Cert.AdamPoolScaleReferenceIdeal.main (F := Ideal))) ⟨m, fun _ => 0, g⟩ (fun r => (∀ c : Dev Cert.AdamPoolScaleReferenceIdeal.nD,
      r.2.mem ((c.tc : Thread Cert.AdamPoolScaleReferenceIdeal.nD Cert.AdamPoolScaleReferenceIdeal.τ).loc Cert.AdamPoolScaleReferenceIdeal.main_arg0) = m ((c.tc : Thread Cert.AdamPoolScaleReferenceIdeal.nD Cert.AdamPoolScaleReferenceIdeal.τ).loc Cert.AdamPoolScaleReferenceIdeal.main_arg0)
      ∧ r.2.mem ((c.tc : Thread Cert.AdamPoolScaleReferenceIdeal.nD Cert.AdamPoolScaleReferenceIdeal.τ).loc Cert.AdamPoolScaleReferenceIdeal.main_arg1) = m ((c.tc : Thread Cert.AdamPoolScaleReferenceIdeal.nD Cert.AdamPoolScaleReferenceIdeal.τ).loc Cert.AdamPoolScaleReferenceIdeal.main_arg1)
      ∧ r.2.mem ((c.tc : Thread Cert.AdamPoolScaleReferenceIdeal.nD Cert.AdamPoolScaleReferenceIdeal.τ).loc Cert.AdamPoolScaleReferenceIdeal.main_arg2) = m ((c.tc : Thread Cert.AdamPoolScaleReferenceIdeal.nD Cert.AdamPoolScaleReferenceIdeal.τ).loc Cert.AdamPoolScaleReferenceIdeal.main_arg2)
      ∧ r.2.mem ((c.tc : Thread Cert.AdamPoolScaleReferenceIdeal.nD Cert.AdamPoolScaleReferenceIdeal.τ).loc Cert.AdamPoolScaleReferenceIdeal.main_arg3) = m ((c.tc : Thread Cert.AdamPoolScaleReferenceIdeal.nD Cert.AdamPoolScaleReferenceIdeal.τ).loc Cert.AdamPoolScaleReferenceIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadReferenceIdeal [hAdamHeadReferenceIdeal : Cert.AdamHeadReferenceIdeal.Facts] : Prop :=
  ∀ (m : (ℓ : Loc Cert.AdamHeadReferenceIdeal.nD Cert.AdamHeadReferenceIdeal.τ Cert.AdamHeadReferenceIdeal.sig) → Buf (Elt Ideal) ℓ) (g : Dev Cert.AdamHeadReferenceIdeal.nD → PrngReg), Pre_AdamHeadReferenceIdeal m →
    θ_run (Cert.AdamHeadReferenceIdeal.defs (F := Ideal)) (onTc (τ := Cert.AdamHeadReferenceIdeal.τ) (Cert.AdamHeadReferenceIdeal.main (F := Ideal))) ⟨m, fun _ => 0, g⟩ (fun r => (∀ c : Dev Cert.AdamHeadReferenceIdeal.nD,
      r.2.mem ((c.tc : Thread Cert.AdamHeadReferenceIdeal.nD Cert.AdamHeadReferenceIdeal.τ).loc Cert.AdamHeadReferenceIdeal.main_arg0) = m ((c.tc : Thread Cert.AdamHeadReferenceIdeal.nD Cert.AdamHeadReferenceIdeal.τ).loc Cert.AdamHeadReferenceIdeal.main_arg0)
      ∧ r.2.mem ((c.tc : Thread Cert.AdamHeadReferenceIdeal.nD Cert.AdamHeadReferenceIdeal.τ).loc Cert.AdamHeadReferenceIdeal.main_arg1) = m ((c.tc : Thread Cert.AdamHeadReferenceIdeal.nD Cert.AdamHeadReferenceIdeal.τ).loc Cert.AdamHeadReferenceIdeal.main_arg1)
      ∧ r.2.mem ((c.tc : Thread Cert.AdamHeadReferenceIdeal.nD Cert.AdamHeadReferenceIdeal.τ).loc Cert.AdamHeadReferenceIdeal.main_arg2) = m ((c.tc : Thread Cert.AdamHeadReferenceIdeal.nD Cert.AdamHeadReferenceIdeal.τ).loc Cert.AdamHeadReferenceIdeal.main_arg2)
      ∧ r.2.mem ((c.tc : Thread Cert.AdamHeadReferenceIdeal.nD Cert.AdamHeadReferenceIdeal.τ).loc Cert.AdamHeadReferenceIdeal.main_arg3) = m ((c.tc : Thread Cert.AdamHeadReferenceIdeal.nD Cert.AdamHeadReferenceIdeal.τ).loc Cert.AdamHeadReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_WeightGrad_WeightGradIdeal : Prop :=
  True

def algebraic_WeightGradIdeal_WeightGradReferenceIdeal [hWeightGradIdeal : Cert.WeightGradIdeal.Facts] [hWeightGradReferenceIdeal : Cert.WeightGradReferenceIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradReferenceIdeal.nD Cert.WeightGradReferenceIdeal.τ Cert.WeightGradReferenceIdeal.sig) → Buf (Elt Ideal) ℓ) (g' : Dev Cert.WeightGradReferenceIdeal.nD → PrngReg), Pre_WeightGradIdeal m →
    (∀ c : Dev Cert.WeightGradIdeal.nD,
      m' ((c.tc : Thread Cert.WeightGradReferenceIdeal.nD Cert.WeightGradReferenceIdeal.τ).loc Cert.WeightGradReferenceIdeal.main_arg0) = m ((c.tc : Thread Cert.WeightGradIdeal.nD Cert.WeightGradIdeal.τ).loc Cert.WeightGradIdeal.main_arg0)
      ∧ m' ((c.tc : Thread Cert.WeightGradReferenceIdeal.nD Cert.WeightGradReferenceIdeal.τ).loc Cert.WeightGradReferenceIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradReferenceIdeal.defs (F := Ideal)) (onTc (τ := Cert.WeightGradReferenceIdeal.τ) (Cert.WeightGradReferenceIdeal.main (F := Ideal))) ⟨m', fun _ => 0, g'⟩ (fun r => ∀ c : Dev Cert.WeightGradReferenceIdeal.nD,
          r.2.mem ((c.tc : Thread Cert.WeightGradReferenceIdeal.nD Cert.WeightGradReferenceIdeal.τ).loc Cert.WeightGradReferenceIdeal.main_v15) = v0 c
          ∧ r.2.mem ((c.tc : Thread Cert.WeightGradReferenceIdeal.nD Cert.WeightGradReferenceIdeal.τ).loc Cert.WeightGradReferenceIdeal.main_arg0) = m' ((c.tc : Thread Cert.WeightGradReferenceIdeal.nD Cert.WeightGradReferenceIdeal.τ).loc Cert.WeightGradReferenceIdeal.main_arg0)
          ∧ r.2.mem ((c.tc : Thread Cert.WeightGradReferenceIdeal.nD Cert.WeightGradReferenceIdeal.τ).loc Cert.WeightGradReferenceIdeal.main_arg1) = m' ((c.tc : Thread Cert.WeightGradReferenceIdeal.nD Cert.WeightGradReferenceIdeal.τ).loc Cert.WeightGradReferenceIdeal.main_arg1))

def preserves_Widen_WidenIdeal : Prop :=
  True

def algebraic_WidenIdeal_WidenReferenceIdeal [hWidenIdeal : Cert.WidenIdeal.Facts] [hWidenReferenceIdeal : Cert.WidenReferenceIdeal.Facts] : Prop :=
  ∀ (m : (ℓ : Loc Cert.WidenIdeal.nD Cert.WidenIdeal.τ Cert.WidenIdeal.sig) → Buf (Elt Ideal) ℓ) (g : Dev Cert.WidenIdeal.nD → PrngReg)
    (m' : (ℓ : Loc Cert.WidenReferenceIdeal.nD Cert.WidenReferenceIdeal.τ Cert.WidenReferenceIdeal.sig) → Buf (Elt Ideal) ℓ) (g' : Dev Cert.WidenReferenceIdeal.nD → PrngReg), Pre_WidenIdeal m →
    (∀ c : Dev Cert.WidenIdeal.nD,
      m' ((c.tc : Thread Cert.WidenReferenceIdeal.nD Cert.WidenReferenceIdeal.τ).loc Cert.WidenReferenceIdeal.main_arg0) = m ((c.tc : Thread Cert.WidenIdeal.nD Cert.WidenIdeal.τ).loc Cert.WidenIdeal.main_arg0)
      ∧ m' ((c.tc : Thread Cert.WidenReferenceIdeal.nD Cert.WidenReferenceIdeal.τ).loc Cert.WidenReferenceIdeal.main_arg1) = m ((c.tc : Thread Cert.WidenIdeal.nD Cert.WidenIdeal.τ).loc Cert.WidenIdeal.main_arg1)
      ∧ m' ((c.tc : Thread Cert.WidenReferenceIdeal.nD Cert.WidenReferenceIdeal.τ).loc Cert.WidenReferenceIdeal.main_arg2) = m ((c.tc : Thread Cert.WidenIdeal.nD Cert.WidenIdeal.τ).loc Cert.WidenIdeal.main_arg2)) →
    ∃ (v0 : (c : Dev Cert.WidenIdeal.nD) → Buf (Elt Ideal) ((c.tc : Thread Cert.WidenIdeal.nD Cert.WidenIdeal.τ).loc Cert.WidenIdeal.main_v0_0)) (v1 : (c : Dev Cert.WidenIdeal.nD) → Buf (Elt Ideal) ((c.tc : Thread Cert.WidenIdeal.nD Cert.WidenIdeal.τ).loc Cert.WidenIdeal.main_v0_1)) (v2 : (c : Dev Cert.WidenIdeal.nD) → Buf (Elt Ideal) ((c.tc : Thread Cert.WidenIdeal.nD Cert.WidenIdeal.τ).loc Cert.WidenIdeal.main_v0_2)),
      θ_run (Cert.WidenIdeal.defs (F := Ideal)) (onTc (τ := Cert.WidenIdeal.τ) (Cert.WidenIdeal.main (F := Ideal))) ⟨m, fun _ => 0, g⟩ (fun r => ∀ c : Dev Cert.WidenIdeal.nD,
          r.2.mem ((c.tc : Thread Cert.WidenIdeal.nD Cert.WidenIdeal.τ).loc Cert.WidenIdeal.main_v0_0) = v0 c
          ∧ r.2.mem ((c.tc : Thread Cert.WidenIdeal.nD Cert.WidenIdeal.τ).loc Cert.WidenIdeal.main_v0_1) = v1 c
          ∧ r.2.mem ((c.tc : Thread Cert.WidenIdeal.nD Cert.WidenIdeal.τ).loc Cert.WidenIdeal.main_v0_2) = v2 c
          ∧ r.2.mem ((c.tc : Thread Cert.WidenIdeal.nD Cert.WidenIdeal.τ).loc Cert.WidenIdeal.main_arg0) = m ((c.tc : Thread Cert.WidenIdeal.nD Cert.WidenIdeal.τ).loc Cert.WidenIdeal.main_arg0)
          ∧ r.2.mem ((c.tc : Thread Cert.WidenIdeal.nD Cert.WidenIdeal.τ).loc Cert.WidenIdeal.main_arg1) = m ((c.tc : Thread Cert.WidenIdeal.nD Cert.WidenIdeal.τ).loc Cert.WidenIdeal.main_arg1)
          ∧ r.2.mem ((c.tc : Thread Cert.WidenIdeal.nD Cert.WidenIdeal.τ).loc Cert.WidenIdeal.main_arg2) = m ((c.tc : Thread Cert.WidenIdeal.nD Cert.WidenIdeal.τ).loc Cert.WidenIdeal.main_arg2))
      ∧ θ_run (Cert.WidenReferenceIdeal.defs (F := Ideal)) (onTc (τ := Cert.WidenReferenceIdeal.τ) (Cert.WidenReferenceIdeal.main (F := Ideal))) ⟨m', fun _ => 0, g'⟩ (fun r => ∀ c : Dev Cert.WidenReferenceIdeal.nD,
          r.2.mem ((c.tc : Thread Cert.WidenReferenceIdeal.nD Cert.WidenReferenceIdeal.τ).loc Cert.WidenReferenceIdeal.main_v27) = v0 c
          ∧ r.2.mem ((c.tc : Thread Cert.WidenReferenceIdeal.nD Cert.WidenReferenceIdeal.τ).loc Cert.WidenReferenceIdeal.main_v30) = v1 c
          ∧ r.2.mem ((c.tc : Thread Cert.WidenReferenceIdeal.nD Cert.WidenReferenceIdeal.τ).loc Cert.WidenReferenceIdeal.main_v33) = v2 c
          ∧ r.2.mem ((c.tc : Thread Cert.WidenReferenceIdeal.nD Cert.WidenReferenceIdeal.τ).loc Cert.WidenReferenceIdeal.main_arg0) = m' ((c.tc : Thread Cert.WidenReferenceIdeal.nD Cert.WidenReferenceIdeal.τ).loc Cert.WidenReferenceIdeal.main_arg0)
          ∧ r.2.mem ((c.tc : Thread Cert.WidenReferenceIdeal.nD Cert.WidenReferenceIdeal.τ).loc Cert.WidenReferenceIdeal.main_arg1) = m' ((c.tc : Thread Cert.WidenReferenceIdeal.nD Cert.WidenReferenceIdeal.τ).loc Cert.WidenReferenceIdeal.main_arg1)
          ∧ r.2.mem ((c.tc : Thread Cert.WidenReferenceIdeal.nD Cert.WidenReferenceIdeal.τ).loc Cert.WidenReferenceIdeal.main_arg2) = m' ((c.tc : Thread Cert.WidenReferenceIdeal.nD Cert.WidenReferenceIdeal.τ).loc Cert.WidenReferenceIdeal.main_arg2))

def preserves_WidenSecond_WidenSecondIdeal : Prop :=
  True

def algebraic_WidenSecondIdeal_WidenSecondReferenceIdeal [hWidenSecondIdeal : Cert.WidenSecondIdeal.Facts] [hWidenSecondReferenceIdeal : Cert.WidenSecondReferenceIdeal.Facts] : Prop :=
  ∀ (m : (ℓ : Loc Cert.WidenSecondIdeal.nD Cert.WidenSecondIdeal.τ Cert.WidenSecondIdeal.sig) → Buf (Elt Ideal) ℓ) (g : Dev Cert.WidenSecondIdeal.nD → PrngReg)
    (m' : (ℓ : Loc Cert.WidenSecondReferenceIdeal.nD Cert.WidenSecondReferenceIdeal.τ Cert.WidenSecondReferenceIdeal.sig) → Buf (Elt Ideal) ℓ) (g' : Dev Cert.WidenSecondReferenceIdeal.nD → PrngReg), Pre_WidenSecondIdeal m →
    (∀ c : Dev Cert.WidenSecondIdeal.nD,
      m' ((c.tc : Thread Cert.WidenSecondReferenceIdeal.nD Cert.WidenSecondReferenceIdeal.τ).loc Cert.WidenSecondReferenceIdeal.main_arg0) = m ((c.tc : Thread Cert.WidenSecondIdeal.nD Cert.WidenSecondIdeal.τ).loc Cert.WidenSecondIdeal.main_arg0)
      ∧ m' ((c.tc : Thread Cert.WidenSecondReferenceIdeal.nD Cert.WidenSecondReferenceIdeal.τ).loc Cert.WidenSecondReferenceIdeal.main_arg1) = m ((c.tc : Thread Cert.WidenSecondIdeal.nD Cert.WidenSecondIdeal.τ).loc Cert.WidenSecondIdeal.main_arg1)
      ∧ m' ((c.tc : Thread Cert.WidenSecondReferenceIdeal.nD Cert.WidenSecondReferenceIdeal.τ).loc Cert.WidenSecondReferenceIdeal.main_arg2) = m ((c.tc : Thread Cert.WidenSecondIdeal.nD Cert.WidenSecondIdeal.τ).loc Cert.WidenSecondIdeal.main_arg2)) →
    ∃ (v0 : (c : Dev Cert.WidenSecondIdeal.nD) → Buf (Elt Ideal) ((c.tc : Thread Cert.WidenSecondIdeal.nD Cert.WidenSecondIdeal.τ).loc Cert.WidenSecondIdeal.main_v0_0)) (v1 : (c : Dev Cert.WidenSecondIdeal.nD) → Buf (Elt Ideal) ((c.tc : Thread Cert.WidenSecondIdeal.nD Cert.WidenSecondIdeal.τ).loc Cert.WidenSecondIdeal.main_v0_1)) (v2 : (c : Dev Cert.WidenSecondIdeal.nD) → Buf (Elt Ideal) ((c.tc : Thread Cert.WidenSecondIdeal.nD Cert.WidenSecondIdeal.τ).loc Cert.WidenSecondIdeal.main_v0_2)),
      θ_run (Cert.WidenSecondIdeal.defs (F := Ideal)) (onTc (τ := Cert.WidenSecondIdeal.τ) (Cert.WidenSecondIdeal.main (F := Ideal))) ⟨m, fun _ => 0, g⟩ (fun r => ∀ c : Dev Cert.WidenSecondIdeal.nD,
          r.2.mem ((c.tc : Thread Cert.WidenSecondIdeal.nD Cert.WidenSecondIdeal.τ).loc Cert.WidenSecondIdeal.main_v0_0) = v0 c
          ∧ r.2.mem ((c.tc : Thread Cert.WidenSecondIdeal.nD Cert.WidenSecondIdeal.τ).loc Cert.WidenSecondIdeal.main_v0_1) = v1 c
          ∧ r.2.mem ((c.tc : Thread Cert.WidenSecondIdeal.nD Cert.WidenSecondIdeal.τ).loc Cert.WidenSecondIdeal.main_v0_2) = v2 c
          ∧ r.2.mem ((c.tc : Thread Cert.WidenSecondIdeal.nD Cert.WidenSecondIdeal.τ).loc Cert.WidenSecondIdeal.main_arg0) = m ((c.tc : Thread Cert.WidenSecondIdeal.nD Cert.WidenSecondIdeal.τ).loc Cert.WidenSecondIdeal.main_arg0)
          ∧ r.2.mem ((c.tc : Thread Cert.WidenSecondIdeal.nD Cert.WidenSecondIdeal.τ).loc Cert.WidenSecondIdeal.main_arg1) = m ((c.tc : Thread Cert.WidenSecondIdeal.nD Cert.WidenSecondIdeal.τ).loc Cert.WidenSecondIdeal.main_arg1)
          ∧ r.2.mem ((c.tc : Thread Cert.WidenSecondIdeal.nD Cert.WidenSecondIdeal.τ).loc Cert.WidenSecondIdeal.main_arg2) = m ((c.tc : Thread Cert.WidenSecondIdeal.nD Cert.WidenSecondIdeal.τ).loc Cert.WidenSecondIdeal.main_arg2))
      ∧ θ_run (Cert.WidenSecondReferenceIdeal.defs (F := Ideal)) (onTc (τ := Cert.WidenSecondReferenceIdeal.τ) (Cert.WidenSecondReferenceIdeal.main (F := Ideal))) ⟨m', fun _ => 0, g'⟩ (fun r => ∀ c : Dev Cert.WidenSecondReferenceIdeal.nD,
          r.2.mem ((c.tc : Thread Cert.WidenSecondReferenceIdeal.nD Cert.WidenSecondReferenceIdeal.τ).loc Cert.WidenSecondReferenceIdeal.main_v27) = v0 c
          ∧ r.2.mem ((c.tc : Thread Cert.WidenSecondReferenceIdeal.nD Cert.WidenSecondReferenceIdeal.τ).loc Cert.WidenSecondReferenceIdeal.main_v30) = v1 c
          ∧ r.2.mem ((c.tc : Thread Cert.WidenSecondReferenceIdeal.nD Cert.WidenSecondReferenceIdeal.τ).loc Cert.WidenSecondReferenceIdeal.main_v33) = v2 c
          ∧ r.2.mem ((c.tc : Thread Cert.WidenSecondReferenceIdeal.nD Cert.WidenSecondReferenceIdeal.τ).loc Cert.WidenSecondReferenceIdeal.main_arg0) = m' ((c.tc : Thread Cert.WidenSecondReferenceIdeal.nD Cert.WidenSecondReferenceIdeal.τ).loc Cert.WidenSecondReferenceIdeal.main_arg0)
          ∧ r.2.mem ((c.tc : Thread Cert.WidenSecondReferenceIdeal.nD Cert.WidenSecondReferenceIdeal.τ).loc Cert.WidenSecondReferenceIdeal.main_arg1) = m' ((c.tc : Thread Cert.WidenSecondReferenceIdeal.nD Cert.WidenSecondReferenceIdeal.τ).loc Cert.WidenSecondReferenceIdeal.main_arg1)
          ∧ r.2.mem ((c.tc : Thread Cert.WidenSecondReferenceIdeal.nD Cert.WidenSecondReferenceIdeal.τ).loc Cert.WidenSecondReferenceIdeal.main_arg2) = m' ((c.tc : Thread Cert.WidenSecondReferenceIdeal.nD Cert.WidenSecondReferenceIdeal.τ).loc Cert.WidenSecondReferenceIdeal.main_arg2))

def preserves_InUvz_InUvzIdeal : Prop :=
  True

def algebraic_InUvzIdeal_InUvzReferenceIdeal [hInUvzIdeal : Cert.InUvzIdeal.Facts] [hInUvzReferenceIdeal : Cert.InUvzReferenceIdeal.Facts] : Prop :=
  ∀ (m : (ℓ : Loc Cert.InUvzIdeal.nD Cert.InUvzIdeal.τ Cert.InUvzIdeal.sig) → Buf (Elt Ideal) ℓ) (g : Dev Cert.InUvzIdeal.nD → PrngReg)
    (m' : (ℓ : Loc Cert.InUvzReferenceIdeal.nD Cert.InUvzReferenceIdeal.τ Cert.InUvzReferenceIdeal.sig) → Buf (Elt Ideal) ℓ) (g' : Dev Cert.InUvzReferenceIdeal.nD → PrngReg), Pre_InUvzIdeal m →
    (∀ c : Dev Cert.InUvzIdeal.nD,
      m' ((c.tc : Thread Cert.InUvzReferenceIdeal.nD Cert.InUvzReferenceIdeal.τ).loc Cert.InUvzReferenceIdeal.main_arg0) = m ((c.tc : Thread Cert.InUvzIdeal.nD Cert.InUvzIdeal.τ).loc Cert.InUvzIdeal.main_arg0)
      ∧ m' ((c.tc : Thread Cert.InUvzReferenceIdeal.nD Cert.InUvzReferenceIdeal.τ).loc Cert.InUvzReferenceIdeal.main_arg1) = m ((c.tc : Thread Cert.InUvzIdeal.nD Cert.InUvzIdeal.τ).loc Cert.InUvzIdeal.main_arg1)) →
    ∃ (v0 : (c : Dev Cert.InUvzIdeal.nD) → Buf (Elt Ideal) ((c.tc : Thread Cert.InUvzIdeal.nD Cert.InUvzIdeal.τ).loc Cert.InUvzIdeal.main_v0)),
      θ_run (Cert.InUvzIdeal.defs (F := Ideal)) (onTc (τ := Cert.InUvzIdeal.τ) (Cert.InUvzIdeal.main (F := Ideal))) ⟨m, fun _ => 0, g⟩ (fun r => ∀ c : Dev Cert.InUvzIdeal.nD,
          r.2.mem ((c.tc : Thread Cert.InUvzIdeal.nD Cert.InUvzIdeal.τ).loc Cert.InUvzIdeal.main_v0) = v0 c
          ∧ r.2.mem ((c.tc : Thread Cert.InUvzIdeal.nD Cert.InUvzIdeal.τ).loc Cert.InUvzIdeal.main_arg0) = m ((c.tc : Thread Cert.InUvzIdeal.nD Cert.InUvzIdeal.τ).loc Cert.InUvzIdeal.main_arg0)
          ∧ r.2.mem ((c.tc : Thread Cert.InUvzIdeal.nD Cert.InUvzIdeal.τ).loc Cert.InUvzIdeal.main_arg1) = m ((c.tc : Thread Cert.InUvzIdeal.nD Cert.InUvzIdeal.τ).loc Cert.InUvzIdeal.main_arg1))
      ∧ θ_run (Cert.InUvzReferenceIdeal.defs (F := Ideal)) (onTc (τ := Cert.InUvzReferenceIdeal.τ) (Cert.InUvzReferenceIdeal.main (F := Ideal))) ⟨m', fun _ => 0, g'⟩ (fun r => ∀ c : Dev Cert.InUvzReferenceIdeal.nD,
          r.2.mem ((c.tc : Thread Cert.InUvzReferenceIdeal.nD Cert.InUvzReferenceIdeal.τ).loc Cert.InUvzReferenceIdeal.main_v3) = v0 c
          ∧ r.2.mem ((c.tc : Thread Cert.InUvzReferenceIdeal.nD Cert.InUvzReferenceIdeal.τ).loc Cert.InUvzReferenceIdeal.main_arg0) = m' ((c.tc : Thread Cert.InUvzReferenceIdeal.nD Cert.InUvzReferenceIdeal.τ).loc Cert.InUvzReferenceIdeal.main_arg0)
          ∧ r.2.mem ((c.tc : Thread Cert.InUvzReferenceIdeal.nD Cert.InUvzReferenceIdeal.τ).loc Cert.InUvzReferenceIdeal.main_arg1) = m' ((c.tc : Thread Cert.InUvzReferenceIdeal.nD Cert.InUvzReferenceIdeal.τ).loc Cert.InUvzReferenceIdeal.main_arg1))

def preserves_InXbc_InXbcIdeal : Prop :=
  True

def algebraic_InXbcIdeal_InXbcReferenceIdeal [hInXbcIdeal : Cert.InXbcIdeal.Facts] [hInXbcReferenceIdeal : Cert.InXbcReferenceIdeal.Facts] : Prop :=
  ∀ (m : (ℓ : Loc Cert.InXbcIdeal.nD Cert.InXbcIdeal.τ Cert.InXbcIdeal.sig) → Buf (Elt Ideal) ℓ) (g : Dev Cert.InXbcIdeal.nD → PrngReg)
    (m' : (ℓ : Loc Cert.InXbcReferenceIdeal.nD Cert.InXbcReferenceIdeal.τ Cert.InXbcReferenceIdeal.sig) → Buf (Elt Ideal) ℓ) (g' : Dev Cert.InXbcReferenceIdeal.nD → PrngReg), Pre_InXbcIdeal m →
    (∀ c : Dev Cert.InXbcIdeal.nD,
      m' ((c.tc : Thread Cert.InXbcReferenceIdeal.nD Cert.InXbcReferenceIdeal.τ).loc Cert.InXbcReferenceIdeal.main_arg0) = m ((c.tc : Thread Cert.InXbcIdeal.nD Cert.InXbcIdeal.τ).loc Cert.InXbcIdeal.main_arg0)
      ∧ m' ((c.tc : Thread Cert.InXbcReferenceIdeal.nD Cert.InXbcReferenceIdeal.τ).loc Cert.InXbcReferenceIdeal.main_arg1) = m ((c.tc : Thread Cert.InXbcIdeal.nD Cert.InXbcIdeal.τ).loc Cert.InXbcIdeal.main_arg1)) →
    ∃ (v0 : (c : Dev Cert.InXbcIdeal.nD) → Buf (Elt Ideal) ((c.tc : Thread Cert.InXbcIdeal.nD Cert.InXbcIdeal.τ).loc Cert.InXbcIdeal.main_v0)),
      θ_run (Cert.InXbcIdeal.defs (F := Ideal)) (onTc (τ := Cert.InXbcIdeal.τ) (Cert.InXbcIdeal.main (F := Ideal))) ⟨m, fun _ => 0, g⟩ (fun r => ∀ c : Dev Cert.InXbcIdeal.nD,
          r.2.mem ((c.tc : Thread Cert.InXbcIdeal.nD Cert.InXbcIdeal.τ).loc Cert.InXbcIdeal.main_v0) = v0 c
          ∧ r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
          ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ θ_run (Cert.InXbcReferenceIdeal.defs (F := Ideal)) (onTc (τ := Cert.InXbcReferenceIdeal.τ) (Cert.InXbcReferenceIdeal.main (F := Ideal))) ⟨m', fun _ => 0, g'⟩ (fun r => ∀ c : Dev Cert.InXbcReferenceIdeal.nD,
          r.2.mem ((c.tc : Thread Cert.InXbcReferenceIdeal.nD Cert.InXbcReferenceIdeal.τ).loc Cert.InXbcReferenceIdeal.main_v3) = v0 c
          ∧ r.2.mem ((c.tc : Thread Cert.InXbcReferenceIdeal.nD Cert.InXbcReferenceIdeal.τ).loc Cert.InXbcReferenceIdeal.main_arg0) = m' ((c.tc : Thread Cert.InXbcReferenceIdeal.nD Cert.InXbcReferenceIdeal.τ).loc Cert.InXbcReferenceIdeal.main_arg0)
          ∧ r.2.mem ((c.tc : Thread Cert.InXbcReferenceIdeal.nD Cert.InXbcReferenceIdeal.τ).loc Cert.InXbcReferenceIdeal.main_arg1) = m' ((c.tc : Thread Cert.InXbcReferenceIdeal.nD Cert.InXbcReferenceIdeal.τ).loc Cert.InXbcReferenceIdeal.main_arg1))

def preserves_OutDy_OutDyIdeal : Prop :=
  True

def algebraic_OutDyIdeal_OutDyReferenceIdeal [hOutDyIdeal : Cert.OutDyIdeal.Facts] [hOutDyReferenceIdeal : Cert.OutDyReferenceIdeal.Facts] : Prop :=
  ∀ (m : (ℓ : Loc Cert.OutDyIdeal.nD Cert.OutDyIdeal.τ Cert.OutDyIdeal.sig) → Buf (Elt Ideal) ℓ) (g : Dev Cert.OutDyIdeal.nD → PrngReg)
    (m' : (ℓ : Loc Cert.OutDyReferenceIdeal.nD Cert.OutDyReferenceIdeal.τ Cert.OutDyReferenceIdeal.sig) → Buf (Elt Ideal) ℓ) (g' : Dev Cert.OutDyReferenceIdeal.nD → PrngReg), Pre_OutDyIdeal m →
    (∀ c : Dev Cert.OutDyIdeal.nD,
      m' ((c.tc : Thread Cert.OutDyReferenceIdeal.nD Cert.OutDyReferenceIdeal.τ).loc Cert.OutDyReferenceIdeal.main_arg0) = m ((c.tc : Thread Cert.OutDyIdeal.nD Cert.OutDyIdeal.τ).loc Cert.OutDyIdeal.main_arg0)
      ∧ m' ((c.tc : Thread Cert.OutDyReferenceIdeal.nD Cert.OutDyReferenceIdeal.τ).loc Cert.OutDyReferenceIdeal.main_arg1) = m ((c.tc : Thread Cert.OutDyIdeal.nD Cert.OutDyIdeal.τ).loc Cert.OutDyIdeal.main_arg1)) →
    ∃ (v0 : (c : Dev Cert.OutDyIdeal.nD) → Buf (Elt Ideal) ((c.tc : Thread Cert.OutDyIdeal.nD Cert.OutDyIdeal.τ).loc Cert.OutDyIdeal.main_v1)),
      θ_run (Cert.OutDyIdeal.defs (F := Ideal)) (onTc (τ := Cert.OutDyIdeal.τ) (Cert.OutDyIdeal.main (F := Ideal))) ⟨m, fun _ => 0, g⟩ (fun r => ∀ c : Dev Cert.OutDyIdeal.nD,
          r.2.mem ((c.tc : Thread Cert.OutDyIdeal.nD Cert.OutDyIdeal.τ).loc Cert.OutDyIdeal.main_v1) = v0 c
          ∧ r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
          ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ θ_run (Cert.OutDyReferenceIdeal.defs (F := Ideal)) (onTc (τ := Cert.OutDyReferenceIdeal.τ) (Cert.OutDyReferenceIdeal.main (F := Ideal))) ⟨m', fun _ => 0, g'⟩ (fun r => ∀ c : Dev Cert.OutDyReferenceIdeal.nD,
          r.2.mem ((c.tc : Thread Cert.OutDyReferenceIdeal.nD Cert.OutDyReferenceIdeal.τ).loc Cert.OutDyReferenceIdeal.main_v5) = v0 c
          ∧ r.2.mem ((c.tc : Thread Cert.OutDyReferenceIdeal.nD Cert.OutDyReferenceIdeal.τ).loc Cert.OutDyReferenceIdeal.main_arg0) = m' ((c.tc : Thread Cert.OutDyReferenceIdeal.nD Cert.OutDyReferenceIdeal.τ).loc Cert.OutDyReferenceIdeal.main_arg0)
          ∧ r.2.mem ((c.tc : Thread Cert.OutDyReferenceIdeal.nD Cert.OutDyReferenceIdeal.τ).loc Cert.OutDyReferenceIdeal.main_arg1) = m' ((c.tc : Thread Cert.OutDyReferenceIdeal.nD Cert.OutDyReferenceIdeal.τ).loc Cert.OutDyReferenceIdeal.main_arg1))

def preserves_InDwu_InDwuIdeal : Prop :=
  True

def algebraic_InDwuIdeal_InDwuReferenceIdeal [hInDwuIdeal : Cert.InDwuIdeal.Facts] [hInDwuReferenceIdeal : Cert.InDwuReferenceIdeal.Facts] : Prop :=
  ∀ (m : (ℓ : Loc Cert.InDwuIdeal.nD Cert.InDwuIdeal.τ Cert.InDwuIdeal.sig) → Buf (Elt Ideal) ℓ) (g : Dev Cert.InDwuIdeal.nD → PrngReg)
    (m' : (ℓ : Loc Cert.InDwuReferenceIdeal.nD Cert.InDwuReferenceIdeal.τ Cert.InDwuReferenceIdeal.sig) → Buf (Elt Ideal) ℓ) (g' : Dev Cert.InDwuReferenceIdeal.nD → PrngReg), Pre_InDwuIdeal m →
    (∀ c : Dev Cert.InDwuIdeal.nD,
      m' ((c.tc : Thread Cert.InDwuReferenceIdeal.nD Cert.InDwuReferenceIdeal.τ).loc Cert.InDwuReferenceIdeal.main_arg0) = m ((c.tc : Thread Cert.InDwuIdeal.nD Cert.InDwuIdeal.τ).loc Cert.InDwuIdeal.main_arg0)
      ∧ m' ((c.tc : Thread Cert.InDwuReferenceIdeal.nD Cert.InDwuReferenceIdeal.τ).loc Cert.InDwuReferenceIdeal.main_arg1) = m ((c.tc : Thread Cert.InDwuIdeal.nD Cert.InDwuIdeal.τ).loc Cert.InDwuIdeal.main_arg1)) →
    ∃ (v0 : (c : Dev Cert.InDwuIdeal.nD) → Buf (Elt Ideal) ((c.tc : Thread Cert.InDwuIdeal.nD Cert.InDwuIdeal.τ).loc Cert.InDwuIdeal.main_v0)),
      θ_run (Cert.InDwuIdeal.defs (F := Ideal)) (onTc (τ := Cert.InDwuIdeal.τ) (Cert.InDwuIdeal.main (F := Ideal))) ⟨m, fun _ => 0, g⟩ (fun r => ∀ c : Dev Cert.InDwuIdeal.nD,
          r.2.mem ((c.tc : Thread Cert.InDwuIdeal.nD Cert.InDwuIdeal.τ).loc Cert.InDwuIdeal.main_v0) = v0 c
          ∧ r.2.mem ((c.tc : Thread Cert.InDwuIdeal.nD Cert.InDwuIdeal.τ).loc Cert.InDwuIdeal.main_arg0) = m ((c.tc : Thread Cert.InDwuIdeal.nD Cert.InDwuIdeal.τ).loc Cert.InDwuIdeal.main_arg0)
          ∧ r.2.mem ((c.tc : Thread Cert.InDwuIdeal.nD Cert.InDwuIdeal.τ).loc Cert.InDwuIdeal.main_arg1) = m ((c.tc : Thread Cert.InDwuIdeal.nD Cert.InDwuIdeal.τ).loc Cert.InDwuIdeal.main_arg1))
      ∧ θ_run (Cert.InDwuReferenceIdeal.defs (F := Ideal)) (onTc (τ := Cert.InDwuReferenceIdeal.τ) (Cert.InDwuReferenceIdeal.main (F := Ideal))) ⟨m', fun _ => 0, g'⟩ (fun r => ∀ c : Dev Cert.InDwuReferenceIdeal.nD,
          r.2.mem ((c.tc : Thread Cert.InDwuReferenceIdeal.nD Cert.InDwuReferenceIdeal.τ).loc Cert.InDwuReferenceIdeal.main_v6) = v0 c
          ∧ r.2.mem ((c.tc : Thread Cert.InDwuReferenceIdeal.nD Cert.InDwuReferenceIdeal.τ).loc Cert.InDwuReferenceIdeal.main_arg0) = m' ((c.tc : Thread Cert.InDwuReferenceIdeal.nD Cert.InDwuReferenceIdeal.τ).loc Cert.InDwuReferenceIdeal.main_arg0)
          ∧ r.2.mem ((c.tc : Thread Cert.InDwuReferenceIdeal.nD Cert.InDwuReferenceIdeal.τ).loc Cert.InDwuReferenceIdeal.main_arg1) = m' ((c.tc : Thread Cert.InDwuReferenceIdeal.nD Cert.InDwuReferenceIdeal.τ).loc Cert.InDwuReferenceIdeal.main_arg1))

def preserves_InDwxbc_InDwxbcIdeal : Prop :=
  True

def algebraic_InDwxbcIdeal_InDwxbcReferenceIdeal [hInDwxbcIdeal : Cert.InDwxbcIdeal.Facts] [hInDwxbcReferenceIdeal : Cert.InDwxbcReferenceIdeal.Facts] : Prop :=
  ∀ (m : (ℓ : Loc Cert.InDwxbcIdeal.nD Cert.InDwxbcIdeal.τ Cert.InDwxbcIdeal.sig) → Buf (Elt Ideal) ℓ) (g : Dev Cert.InDwxbcIdeal.nD → PrngReg)
    (m' : (ℓ : Loc Cert.InDwxbcReferenceIdeal.nD Cert.InDwxbcReferenceIdeal.τ Cert.InDwxbcReferenceIdeal.sig) → Buf (Elt Ideal) ℓ) (g' : Dev Cert.InDwxbcReferenceIdeal.nD → PrngReg), Pre_InDwxbcIdeal m →
    (∀ c : Dev Cert.InDwxbcIdeal.nD,
      m' ((c.tc : Thread Cert.InDwxbcReferenceIdeal.nD Cert.InDwxbcReferenceIdeal.τ).loc Cert.InDwxbcReferenceIdeal.main_arg0) = m ((c.tc : Thread Cert.InDwxbcIdeal.nD Cert.InDwxbcIdeal.τ).loc Cert.InDwxbcIdeal.main_arg0)
      ∧ m' ((c.tc : Thread Cert.InDwxbcReferenceIdeal.nD Cert.InDwxbcReferenceIdeal.τ).loc Cert.InDwxbcReferenceIdeal.main_arg1) = m ((c.tc : Thread Cert.InDwxbcIdeal.nD Cert.InDwxbcIdeal.τ).loc Cert.InDwxbcIdeal.main_arg1)) →
    ∃ (v0 : (c : Dev Cert.InDwxbcIdeal.nD) → Buf (Elt Ideal) ((c.tc : Thread Cert.InDwxbcIdeal.nD Cert.InDwxbcIdeal.τ).loc Cert.InDwxbcIdeal.main_v0)),
      θ_run (Cert.InDwxbcIdeal.defs (F := Ideal)) (onTc (τ := Cert.InDwxbcIdeal.τ) (Cert.InDwxbcIdeal.main (F := Ideal))) ⟨m, fun _ => 0, g⟩ (fun r => ∀ c : Dev Cert.InDwxbcIdeal.nD,
          r.2.mem ((c.tc : Thread Cert.InDwxbcIdeal.nD Cert.InDwxbcIdeal.τ).loc Cert.InDwxbcIdeal.main_v0) = v0 c
          ∧ r.2.mem ((c.tc : Thread Cert.InDwxbcIdeal.nD Cert.InDwxbcIdeal.τ).loc Cert.InDwxbcIdeal.main_arg0) = m ((c.tc : Thread Cert.InDwxbcIdeal.nD Cert.InDwxbcIdeal.τ).loc Cert.InDwxbcIdeal.main_arg0)
          ∧ r.2.mem ((c.tc : Thread Cert.InDwxbcIdeal.nD Cert.InDwxbcIdeal.τ).loc Cert.InDwxbcIdeal.main_arg1) = m ((c.tc : Thread Cert.InDwxbcIdeal.nD Cert.InDwxbcIdeal.τ).loc Cert.InDwxbcIdeal.main_arg1))
      ∧ θ_run (Cert.InDwxbcReferenceIdeal.defs (F := Ideal)) (onTc (τ := Cert.InDwxbcReferenceIdeal.τ) (Cert.InDwxbcReferenceIdeal.main (F := Ideal))) ⟨m', fun _ => 0, g'⟩ (fun r => ∀ c : Dev Cert.InDwxbcReferenceIdeal.nD,
          r.2.mem ((c.tc : Thread Cert.InDwxbcReferenceIdeal.nD Cert.InDwxbcReferenceIdeal.τ).loc Cert.InDwxbcReferenceIdeal.main_v6) = v0 c
          ∧ r.2.mem ((c.tc : Thread Cert.InDwxbcReferenceIdeal.nD Cert.InDwxbcReferenceIdeal.τ).loc Cert.InDwxbcReferenceIdeal.main_arg0) = m' ((c.tc : Thread Cert.InDwxbcReferenceIdeal.nD Cert.InDwxbcReferenceIdeal.τ).loc Cert.InDwxbcReferenceIdeal.main_arg0)
          ∧ r.2.mem ((c.tc : Thread Cert.InDwxbcReferenceIdeal.nD Cert.InDwxbcReferenceIdeal.τ).loc Cert.InDwxbcReferenceIdeal.main_arg1) = m' ((c.tc : Thread Cert.InDwxbcReferenceIdeal.nD Cert.InDwxbcReferenceIdeal.τ).loc Cert.InDwxbcReferenceIdeal.main_arg1))

def preserves_AdamGate_AdamGateIdeal : Prop :=
  True

def algebraic_AdamGateIdeal_AdamGateReferenceIdeal [hAdamGateIdeal : Cert.AdamGateIdeal.Facts] [hAdamGateReferenceIdeal : Cert.AdamGateReferenceIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateIdeal m →
    (∀ c : Dev Cert.AdamGateIdeal.nD,
      m' ((c.tc : Thread Cert.AdamGateReferenceIdeal.nD Cert.AdamGateReferenceIdeal.τ).loc Cert.AdamGateReferenceIdeal.main_arg0) = m ((c.tc : Thread Cert.AdamGateIdeal.nD Cert.AdamGateIdeal.τ).loc Cert.AdamGateIdeal.main_arg0)
      ∧ m' ((c.tc : Thread Cert.AdamGateReferenceIdeal.nD Cert.AdamGateReferenceIdeal.τ).loc Cert.AdamGateReferenceIdeal.main_arg1) = m ((c.tc : Thread Cert.AdamGateIdeal.nD Cert.AdamGateIdeal.τ).loc Cert.AdamGateIdeal.main_arg1)
      ∧ m' ((c.tc : Thread Cert.AdamGateReferenceIdeal.nD Cert.AdamGateReferenceIdeal.τ).loc Cert.AdamGateReferenceIdeal.main_arg2) = m ((c.tc : Thread Cert.AdamGateIdeal.nD Cert.AdamGateIdeal.τ).loc Cert.AdamGateIdeal.main_arg2)
      ∧ m' ((c.tc : Thread Cert.AdamGateReferenceIdeal.nD Cert.AdamGateReferenceIdeal.τ).loc Cert.AdamGateReferenceIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v23) = v0 c
          ∧ r.2.mem ((c.tc : Thread Cert.AdamGateReferenceIdeal.nD Cert.AdamGateReferenceIdeal.τ).loc Cert.AdamGateReferenceIdeal.main_v4) = v1 c
          ∧ r.2.mem ((c.tc : Thread Cert.AdamGateReferenceIdeal.nD Cert.AdamGateReferenceIdeal.τ).loc Cert.AdamGateReferenceIdeal.main_v10) = v2 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamPool_AdamPoolIdeal : Prop :=
  True

def algebraic_AdamPoolIdeal_AdamPoolReferenceIdeal [hAdamPoolIdeal : Cert.AdamPoolIdeal.Facts] [hAdamPoolReferenceIdeal : Cert.AdamPoolReferenceIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolReferenceIdeal.nD Cert.AdamPoolReferenceIdeal.τ Cert.AdamPoolReferenceIdeal.sig) → Buf (Elt Ideal) ℓ) (g' : Dev Cert.AdamPoolReferenceIdeal.nD → PrngReg), Pre_AdamPoolIdeal m →
    (∀ c : Dev Cert.AdamPoolIdeal.nD,
      m' ((c.tc : Thread Cert.AdamPoolReferenceIdeal.nD Cert.AdamPoolReferenceIdeal.τ).loc Cert.AdamPoolReferenceIdeal.main_arg0) = m ((c.tc : Thread Cert.AdamPoolIdeal.nD Cert.AdamPoolIdeal.τ).loc Cert.AdamPoolIdeal.main_arg0)
      ∧ m' ((c.tc : Thread Cert.AdamPoolReferenceIdeal.nD Cert.AdamPoolReferenceIdeal.τ).loc Cert.AdamPoolReferenceIdeal.main_arg1) = m ((c.tc : Thread Cert.AdamPoolIdeal.nD Cert.AdamPoolIdeal.τ).loc Cert.AdamPoolIdeal.main_arg1)
      ∧ m' ((c.tc : Thread Cert.AdamPoolReferenceIdeal.nD Cert.AdamPoolReferenceIdeal.τ).loc Cert.AdamPoolReferenceIdeal.main_arg2) = m ((c.tc : Thread Cert.AdamPoolIdeal.nD Cert.AdamPoolIdeal.τ).loc Cert.AdamPoolIdeal.main_arg2)
      ∧ m' ((c.tc : Thread Cert.AdamPoolReferenceIdeal.nD Cert.AdamPoolReferenceIdeal.τ).loc Cert.AdamPoolReferenceIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolReferenceIdeal.defs (F := Ideal)) (onTc (τ := Cert.AdamPoolReferenceIdeal.τ) (Cert.AdamPoolReferenceIdeal.main (F := Ideal))) ⟨m', fun _ => 0, g'⟩ (fun r => ∀ c : Dev Cert.AdamPoolReferenceIdeal.nD,
          r.2.mem ((c.tc : Thread Cert.AdamPoolReferenceIdeal.nD Cert.AdamPoolReferenceIdeal.τ).loc Cert.AdamPoolReferenceIdeal.main_v23) = v0 c
          ∧ r.2.mem ((c.tc : Thread Cert.AdamPoolReferenceIdeal.nD Cert.AdamPoolReferenceIdeal.τ).loc Cert.AdamPoolReferenceIdeal.main_v4) = v1 c
          ∧ r.2.mem ((c.tc : Thread Cert.AdamPoolReferenceIdeal.nD Cert.AdamPoolReferenceIdeal.τ).loc Cert.AdamPoolReferenceIdeal.main_v10) = v2 c
          ∧ r.2.mem ((c.tc : Thread Cert.AdamPoolReferenceIdeal.nD Cert.AdamPoolReferenceIdeal.τ).loc Cert.AdamPoolReferenceIdeal.main_arg0) = m' ((c.tc : Thread Cert.AdamPoolReferenceIdeal.nD Cert.AdamPoolReferenceIdeal.τ).loc Cert.AdamPoolReferenceIdeal.main_arg0)
          ∧ r.2.mem ((c.tc : Thread Cert.AdamPoolReferenceIdeal.nD Cert.AdamPoolReferenceIdeal.τ).loc Cert.AdamPoolReferenceIdeal.main_arg1) = m' ((c.tc : Thread Cert.AdamPoolReferenceIdeal.nD Cert.AdamPoolReferenceIdeal.τ).loc Cert.AdamPoolReferenceIdeal.main_arg1)
          ∧ r.2.mem ((c.tc : Thread Cert.AdamPoolReferenceIdeal.nD Cert.AdamPoolReferenceIdeal.τ).loc Cert.AdamPoolReferenceIdeal.main_arg2) = m' ((c.tc : Thread Cert.AdamPoolReferenceIdeal.nD Cert.AdamPoolReferenceIdeal.τ).loc Cert.AdamPoolReferenceIdeal.main_arg2)
          ∧ r.2.mem ((c.tc : Thread Cert.AdamPoolReferenceIdeal.nD Cert.AdamPoolReferenceIdeal.τ).loc Cert.AdamPoolReferenceIdeal.main_arg3) = m' ((c.tc : Thread Cert.AdamPoolReferenceIdeal.nD Cert.AdamPoolReferenceIdeal.τ).loc Cert.AdamPoolReferenceIdeal.main_arg3))

def preserves_AdamMix_AdamMixIdeal : Prop :=
  True

def algebraic_AdamMixIdeal_AdamMixReferenceIdeal [hAdamMixIdeal : Cert.AdamMixIdeal.Facts] [hAdamMixReferenceIdeal : Cert.AdamMixReferenceIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixReferenceIdeal.nD Cert.AdamMixReferenceIdeal.τ Cert.AdamMixReferenceIdeal.sig) → Buf (Elt Ideal) ℓ) (g' : Dev Cert.AdamMixReferenceIdeal.nD → PrngReg), Pre_AdamMixIdeal m →
    (∀ c : Dev Cert.AdamMixIdeal.nD,
      m' ((c.tc : Thread Cert.AdamMixReferenceIdeal.nD Cert.AdamMixReferenceIdeal.τ).loc Cert.AdamMixReferenceIdeal.main_arg0) = m ((c.tc : Thread Cert.AdamMixIdeal.nD Cert.AdamMixIdeal.τ).loc Cert.AdamMixIdeal.main_arg0)
      ∧ m' ((c.tc : Thread Cert.AdamMixReferenceIdeal.nD Cert.AdamMixReferenceIdeal.τ).loc Cert.AdamMixReferenceIdeal.main_arg1) = m ((c.tc : Thread Cert.AdamMixIdeal.nD Cert.AdamMixIdeal.τ).loc Cert.AdamMixIdeal.main_arg1)
      ∧ m' ((c.tc : Thread Cert.AdamMixReferenceIdeal.nD Cert.AdamMixReferenceIdeal.τ).loc Cert.AdamMixReferenceIdeal.main_arg2) = m ((c.tc : Thread Cert.AdamMixIdeal.nD Cert.AdamMixIdeal.τ).loc Cert.AdamMixIdeal.main_arg2)
      ∧ m' ((c.tc : Thread Cert.AdamMixReferenceIdeal.nD Cert.AdamMixReferenceIdeal.τ).loc Cert.AdamMixReferenceIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixReferenceIdeal.defs (F := Ideal)) (onTc (τ := Cert.AdamMixReferenceIdeal.τ) (Cert.AdamMixReferenceIdeal.main (F := Ideal))) ⟨m', fun _ => 0, g'⟩ (fun r => ∀ c : Dev Cert.AdamMixReferenceIdeal.nD,
          r.2.mem ((c.tc : Thread Cert.AdamMixReferenceIdeal.nD Cert.AdamMixReferenceIdeal.τ).loc Cert.AdamMixReferenceIdeal.main_v23) = v0 c
          ∧ r.2.mem ((c.tc : Thread Cert.AdamMixReferenceIdeal.nD Cert.AdamMixReferenceIdeal.τ).loc Cert.AdamMixReferenceIdeal.main_v4) = v1 c
          ∧ r.2.mem ((c.tc : Thread Cert.AdamMixReferenceIdeal.nD Cert.AdamMixReferenceIdeal.τ).loc Cert.AdamMixReferenceIdeal.main_v10) = v2 c
          ∧ r.2.mem ((c.tc : Thread Cert.AdamMixReferenceIdeal.nD Cert.AdamMixReferenceIdeal.τ).loc Cert.AdamMixReferenceIdeal.main_arg0) = m' ((c.tc : Thread Cert.AdamMixReferenceIdeal.nD Cert.AdamMixReferenceIdeal.τ).loc Cert.AdamMixReferenceIdeal.main_arg0)
          ∧ r.2.mem ((c.tc : Thread Cert.AdamMixReferenceIdeal.nD Cert.AdamMixReferenceIdeal.τ).loc Cert.AdamMixReferenceIdeal.main_arg1) = m' ((c.tc : Thread Cert.AdamMixReferenceIdeal.nD Cert.AdamMixReferenceIdeal.τ).loc Cert.AdamMixReferenceIdeal.main_arg1)
          ∧ r.2.mem ((c.tc : Thread Cert.AdamMixReferenceIdeal.nD Cert.AdamMixReferenceIdeal.τ).loc Cert.AdamMixReferenceIdeal.main_arg2) = m' ((c.tc : Thread Cert.AdamMixReferenceIdeal.nD Cert.AdamMixReferenceIdeal.τ).loc Cert.AdamMixReferenceIdeal.main_arg2)
          ∧ r.2.mem ((c.tc : Thread Cert.AdamMixReferenceIdeal.nD Cert.AdamMixReferenceIdeal.τ).loc Cert.AdamMixReferenceIdeal.main_arg3) = m' ((c.tc : Thread Cert.AdamMixReferenceIdeal.nD Cert.AdamMixReferenceIdeal.τ).loc Cert.AdamMixReferenceIdeal.main_arg3))

def preserves_AdamNorm_AdamNormIdeal : Prop :=
  True

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v23) = v0 c
          ∧ r.2.mem ((c.tc : Thread Cert.AdamNormReferenceIdeal.nD Cert.AdamNormReferenceIdeal.τ).loc Cert.AdamNormReferenceIdeal.main_v4) = v1 c
          ∧ r.2.mem ((c.tc : Thread Cert.AdamNormReferenceIdeal.nD Cert.AdamNormReferenceIdeal.τ).loc Cert.AdamNormReferenceIdeal.main_v10) = v2 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamMixBias_AdamMixBiasIdeal : Prop :=
  True

def algebraic_AdamMixBiasIdeal_AdamMixBiasReferenceIdeal [hAdamMixBiasIdeal : Cert.AdamMixBiasIdeal.Facts] [hAdamMixBiasReferenceIdeal : Cert.AdamMixBiasReferenceIdeal.Facts] : Prop :=
  ∀ (m : (ℓ : Loc Cert.AdamMixBiasIdeal.nD Cert.AdamMixBiasIdeal.τ Cert.AdamMixBiasIdeal.sig) → Buf (Elt Ideal) ℓ) (g : Dev Cert.AdamMixBiasIdeal.nD → PrngReg)
    (m' : (ℓ : Loc Cert.AdamMixBiasReferenceIdeal.nD Cert.AdamMixBiasReferenceIdeal.τ Cert.AdamMixBiasReferenceIdeal.sig) → Buf (Elt Ideal) ℓ) (g' : Dev Cert.AdamMixBiasReferenceIdeal.nD → PrngReg), Pre_AdamMixBiasIdeal m →
    (∀ c : Dev Cert.AdamMixBiasIdeal.nD,
      m' ((c.tc : Thread Cert.AdamMixBiasReferenceIdeal.nD Cert.AdamMixBiasReferenceIdeal.τ).loc Cert.AdamMixBiasReferenceIdeal.main_arg0) = m ((c.tc : Thread Cert.AdamMixBiasIdeal.nD Cert.AdamMixBiasIdeal.τ).loc Cert.AdamMixBiasIdeal.main_arg0)
      ∧ m' ((c.tc : Thread Cert.AdamMixBiasReferenceIdeal.nD Cert.AdamMixBiasReferenceIdeal.τ).loc Cert.AdamMixBiasReferenceIdeal.main_arg1) = m ((c.tc : Thread Cert.AdamMixBiasIdeal.nD Cert.AdamMixBiasIdeal.τ).loc Cert.AdamMixBiasIdeal.main_arg1)
      ∧ m' ((c.tc : Thread Cert.AdamMixBiasReferenceIdeal.nD Cert.AdamMixBiasReferenceIdeal.τ).loc Cert.AdamMixBiasReferenceIdeal.main_arg2) = m ((c.tc : Thread Cert.AdamMixBiasIdeal.nD Cert.AdamMixBiasIdeal.τ).loc Cert.AdamMixBiasIdeal.main_arg2)
      ∧ m' ((c.tc : Thread Cert.AdamMixBiasReferenceIdeal.nD Cert.AdamMixBiasReferenceIdeal.τ).loc Cert.AdamMixBiasReferenceIdeal.main_arg3) = m ((c.tc : Thread Cert.AdamMixBiasIdeal.nD Cert.AdamMixBiasIdeal.τ).loc Cert.AdamMixBiasIdeal.main_arg3)) →
    ∃ (v0 : (c : Dev Cert.AdamMixBiasIdeal.nD) → Buf (Elt Ideal) ((c.tc : Thread Cert.AdamMixBiasIdeal.nD Cert.AdamMixBiasIdeal.τ).loc Cert.AdamMixBiasIdeal.main_v0_0)) (v1 : (c : Dev Cert.AdamMixBiasIdeal.nD) → Buf (Elt Ideal) ((c.tc : Thread Cert.AdamMixBiasIdeal.nD Cert.AdamMixBiasIdeal.τ).loc Cert.AdamMixBiasIdeal.main_v0_1)) (v2 : (c : Dev Cert.AdamMixBiasIdeal.nD) → Buf (Elt Ideal) ((c.tc : Thread Cert.AdamMixBiasIdeal.nD Cert.AdamMixBiasIdeal.τ).loc Cert.AdamMixBiasIdeal.main_v0_2)),
      θ_run (Cert.AdamMixBiasIdeal.defs (F := Ideal)) (onTc (τ := Cert.AdamMixBiasIdeal.τ) (Cert.AdamMixBiasIdeal.main (F := Ideal))) ⟨m, fun _ => 0, g⟩ (fun r => ∀ c : Dev Cert.AdamMixBiasIdeal.nD,
          r.2.mem ((c.tc : Thread Cert.AdamMixBiasIdeal.nD Cert.AdamMixBiasIdeal.τ).loc Cert.AdamMixBiasIdeal.main_v0_0) = v0 c
          ∧ r.2.mem ((c.tc : Thread Cert.AdamMixBiasIdeal.nD Cert.AdamMixBiasIdeal.τ).loc Cert.AdamMixBiasIdeal.main_v0_1) = v1 c
          ∧ r.2.mem ((c.tc : Thread Cert.AdamMixBiasIdeal.nD Cert.AdamMixBiasIdeal.τ).loc Cert.AdamMixBiasIdeal.main_v0_2) = v2 c
          ∧ r.2.mem ((c.tc : Thread Cert.AdamMixBiasIdeal.nD Cert.AdamMixBiasIdeal.τ).loc Cert.AdamMixBiasIdeal.main_arg0) = m ((c.tc : Thread Cert.AdamMixBiasIdeal.nD Cert.AdamMixBiasIdeal.τ).loc Cert.AdamMixBiasIdeal.main_arg0)
          ∧ r.2.mem ((c.tc : Thread Cert.AdamMixBiasIdeal.nD Cert.AdamMixBiasIdeal.τ).loc Cert.AdamMixBiasIdeal.main_arg1) = m ((c.tc : Thread Cert.AdamMixBiasIdeal.nD Cert.AdamMixBiasIdeal.τ).loc Cert.AdamMixBiasIdeal.main_arg1)
          ∧ r.2.mem ((c.tc : Thread Cert.AdamMixBiasIdeal.nD Cert.AdamMixBiasIdeal.τ).loc Cert.AdamMixBiasIdeal.main_arg2) = m ((c.tc : Thread Cert.AdamMixBiasIdeal.nD Cert.AdamMixBiasIdeal.τ).loc Cert.AdamMixBiasIdeal.main_arg2)
          ∧ r.2.mem ((c.tc : Thread Cert.AdamMixBiasIdeal.nD Cert.AdamMixBiasIdeal.τ).loc Cert.AdamMixBiasIdeal.main_arg3) = m ((c.tc : Thread Cert.AdamMixBiasIdeal.nD Cert.AdamMixBiasIdeal.τ).loc Cert.AdamMixBiasIdeal.main_arg3))
      ∧ θ_run (Cert.AdamMixBiasReferenceIdeal.defs (F := Ideal)) (onTc (τ := Cert.AdamMixBiasReferenceIdeal.τ) (Cert.AdamMixBiasReferenceIdeal.main (F := Ideal))) ⟨m', fun _ => 0, g'⟩ (fun r => ∀ c : Dev Cert.AdamMixBiasReferenceIdeal.nD,
          r.2.mem ((c.tc : Thread Cert.AdamMixBiasReferenceIdeal.nD Cert.AdamMixBiasReferenceIdeal.τ).loc Cert.AdamMixBiasReferenceIdeal.main_v23) = v0 c
          ∧ r.2.mem ((c.tc : Thread Cert.AdamMixBiasReferenceIdeal.nD Cert.AdamMixBiasReferenceIdeal.τ).loc Cert.AdamMixBiasReferenceIdeal.main_v4) = v1 c
          ∧ r.2.mem ((c.tc : Thread Cert.AdamMixBiasReferenceIdeal.nD Cert.AdamMixBiasReferenceIdeal.τ).loc Cert.AdamMixBiasReferenceIdeal.main_v10) = v2 c
          ∧ r.2.mem ((c.tc : Thread Cert.AdamMixBiasReferenceIdeal.nD Cert.AdamMixBiasReferenceIdeal.τ).loc Cert.AdamMixBiasReferenceIdeal.main_arg0) = m' ((c.tc : Thread Cert.AdamMixBiasReferenceIdeal.nD Cert.AdamMixBiasReferenceIdeal.τ).loc Cert.AdamMixBiasReferenceIdeal.main_arg0)
          ∧ r.2.mem ((c.tc : Thread Cert.AdamMixBiasReferenceIdeal.nD Cert.AdamMixBiasReferenceIdeal.τ).loc Cert.AdamMixBiasReferenceIdeal.main_arg1) = m' ((c.tc : Thread Cert.AdamMixBiasReferenceIdeal.nD Cert.AdamMixBiasReferenceIdeal.τ).loc Cert.AdamMixBiasReferenceIdeal.main_arg1)
          ∧ r.2.mem ((c.tc : Thread Cert.AdamMixBiasReferenceIdeal.nD Cert.AdamMixBiasReferenceIdeal.τ).loc Cert.AdamMixBiasReferenceIdeal.main_arg2) = m' ((c.tc : Thread Cert.AdamMixBiasReferenceIdeal.nD Cert.AdamMixBiasReferenceIdeal.τ).loc Cert.AdamMixBiasReferenceIdeal.main_arg2)
          ∧ r.2.mem ((c.tc : Thread Cert.AdamMixBiasReferenceIdeal.nD Cert.AdamMixBiasReferenceIdeal.τ).loc Cert.AdamMixBiasReferenceIdeal.main_arg3) = m' ((c.tc : Thread Cert.AdamMixBiasReferenceIdeal.nD Cert.AdamMixBiasReferenceIdeal.τ).loc Cert.AdamMixBiasReferenceIdeal.main_arg3))

def preserves_AdamPoolBias_AdamPoolBiasIdeal : Prop :=
  True

def algebraic_AdamPoolBiasIdeal_AdamPoolBiasReferenceIdeal [hAdamPoolBiasIdeal : Cert.AdamPoolBiasIdeal.Facts] [hAdamPoolBiasReferenceIdeal : Cert.AdamPoolBiasReferenceIdeal.Facts] : Prop :=
  ∀ (m : (ℓ : Loc Cert.AdamPoolBiasIdeal.nD Cert.AdamPoolBiasIdeal.τ Cert.AdamPoolBiasIdeal.sig) → Buf (Elt Ideal) ℓ) (g : Dev Cert.AdamPoolBiasIdeal.nD → PrngReg)
    (m' : (ℓ : Loc Cert.AdamPoolBiasReferenceIdeal.nD Cert.AdamPoolBiasReferenceIdeal.τ Cert.AdamPoolBiasReferenceIdeal.sig) → Buf (Elt Ideal) ℓ) (g' : Dev Cert.AdamPoolBiasReferenceIdeal.nD → PrngReg), Pre_AdamPoolBiasIdeal m →
    (∀ c : Dev Cert.AdamPoolBiasIdeal.nD,
      m' ((c.tc : Thread Cert.AdamPoolBiasReferenceIdeal.nD Cert.AdamPoolBiasReferenceIdeal.τ).loc Cert.AdamPoolBiasReferenceIdeal.main_arg0) = m ((c.tc : Thread Cert.AdamPoolBiasIdeal.nD Cert.AdamPoolBiasIdeal.τ).loc Cert.AdamPoolBiasIdeal.main_arg0)
      ∧ m' ((c.tc : Thread Cert.AdamPoolBiasReferenceIdeal.nD Cert.AdamPoolBiasReferenceIdeal.τ).loc Cert.AdamPoolBiasReferenceIdeal.main_arg1) = m ((c.tc : Thread Cert.AdamPoolBiasIdeal.nD Cert.AdamPoolBiasIdeal.τ).loc Cert.AdamPoolBiasIdeal.main_arg1)
      ∧ m' ((c.tc : Thread Cert.AdamPoolBiasReferenceIdeal.nD Cert.AdamPoolBiasReferenceIdeal.τ).loc Cert.AdamPoolBiasReferenceIdeal.main_arg2) = m ((c.tc : Thread Cert.AdamPoolBiasIdeal.nD Cert.AdamPoolBiasIdeal.τ).loc Cert.AdamPoolBiasIdeal.main_arg2)
      ∧ m' ((c.tc : Thread Cert.AdamPoolBiasReferenceIdeal.nD Cert.AdamPoolBiasReferenceIdeal.τ).loc Cert.AdamPoolBiasReferenceIdeal.main_arg3) = m ((c.tc : Thread Cert.AdamPoolBiasIdeal.nD Cert.AdamPoolBiasIdeal.τ).loc Cert.AdamPoolBiasIdeal.main_arg3)) →
    ∃ (v0 : (c : Dev Cert.AdamPoolBiasIdeal.nD) → Buf (Elt Ideal) ((c.tc : Thread Cert.AdamPoolBiasIdeal.nD Cert.AdamPoolBiasIdeal.τ).loc Cert.AdamPoolBiasIdeal.main_v0_0)) (v1 : (c : Dev Cert.AdamPoolBiasIdeal.nD) → Buf (Elt Ideal) ((c.tc : Thread Cert.AdamPoolBiasIdeal.nD Cert.AdamPoolBiasIdeal.τ).loc Cert.AdamPoolBiasIdeal.main_v0_1)) (v2 : (c : Dev Cert.AdamPoolBiasIdeal.nD) → Buf (Elt Ideal) ((c.tc : Thread Cert.AdamPoolBiasIdeal.nD Cert.AdamPoolBiasIdeal.τ).loc Cert.AdamPoolBiasIdeal.main_v0_2)),
      θ_run (Cert.AdamPoolBiasIdeal.defs (F := Ideal)) (onTc (τ := Cert.AdamPoolBiasIdeal.τ) (Cert.AdamPoolBiasIdeal.main (F := Ideal))) ⟨m, fun _ => 0, g⟩ (fun r => ∀ c : Dev Cert.AdamPoolBiasIdeal.nD,
          r.2.mem ((c.tc : Thread Cert.AdamPoolBiasIdeal.nD Cert.AdamPoolBiasIdeal.τ).loc Cert.AdamPoolBiasIdeal.main_v0_0) = v0 c
          ∧ r.2.mem ((c.tc : Thread Cert.AdamPoolBiasIdeal.nD Cert.AdamPoolBiasIdeal.τ).loc Cert.AdamPoolBiasIdeal.main_v0_1) = v1 c
          ∧ r.2.mem ((c.tc : Thread Cert.AdamPoolBiasIdeal.nD Cert.AdamPoolBiasIdeal.τ).loc Cert.AdamPoolBiasIdeal.main_v0_2) = v2 c
          ∧ r.2.mem ((c.tc : Thread Cert.AdamPoolBiasIdeal.nD Cert.AdamPoolBiasIdeal.τ).loc Cert.AdamPoolBiasIdeal.main_arg0) = m ((c.tc : Thread Cert.AdamPoolBiasIdeal.nD Cert.AdamPoolBiasIdeal.τ).loc Cert.AdamPoolBiasIdeal.main_arg0)
          ∧ r.2.mem ((c.tc : Thread Cert.AdamPoolBiasIdeal.nD Cert.AdamPoolBiasIdeal.τ).loc Cert.AdamPoolBiasIdeal.main_arg1) = m ((c.tc : Thread Cert.AdamPoolBiasIdeal.nD Cert.AdamPoolBiasIdeal.τ).loc Cert.AdamPoolBiasIdeal.main_arg1)
          ∧ r.2.mem ((c.tc : Thread Cert.AdamPoolBiasIdeal.nD Cert.AdamPoolBiasIdeal.τ).loc Cert.AdamPoolBiasIdeal.main_arg2) = m ((c.tc : Thread Cert.AdamPoolBiasIdeal.nD Cert.AdamPoolBiasIdeal.τ).loc Cert.AdamPoolBiasIdeal.main_arg2)
          ∧ r.2.mem ((c.tc : Thread Cert.AdamPoolBiasIdeal.nD Cert.AdamPoolBiasIdeal.τ).loc Cert.AdamPoolBiasIdeal.main_arg3) = m ((c.tc : Thread Cert.AdamPoolBiasIdeal.nD Cert.AdamPoolBiasIdeal.τ).loc Cert.AdamPoolBiasIdeal.main_arg3))
      ∧ θ_run (Cert.AdamPoolBiasReferenceIdeal.defs (F := Ideal)) (onTc (τ := Cert.AdamPoolBiasReferenceIdeal.τ) (Cert.AdamPoolBiasReferenceIdeal.main (F := Ideal))) ⟨m', fun _ => 0, g'⟩ (fun r => ∀ c : Dev Cert.AdamPoolBiasReferenceIdeal.nD,
          r.2.mem ((c.tc : Thread Cert.AdamPoolBiasReferenceIdeal.nD Cert.AdamPoolBiasReferenceIdeal.τ).loc Cert.AdamPoolBiasReferenceIdeal.main_v23) = v0 c
          ∧ r.2.mem ((c.tc : Thread Cert.AdamPoolBiasReferenceIdeal.nD Cert.AdamPoolBiasReferenceIdeal.τ).loc Cert.AdamPoolBiasReferenceIdeal.main_v4) = v1 c
          ∧ r.2.mem ((c.tc : Thread Cert.AdamPoolBiasReferenceIdeal.nD Cert.AdamPoolBiasReferenceIdeal.τ).loc Cert.AdamPoolBiasReferenceIdeal.main_v10) = v2 c
          ∧ r.2.mem ((c.tc : Thread Cert.AdamPoolBiasReferenceIdeal.nD Cert.AdamPoolBiasReferenceIdeal.τ).loc Cert.AdamPoolBiasReferenceIdeal.main_arg0) = m' ((c.tc : Thread Cert.AdamPoolBiasReferenceIdeal.nD Cert.AdamPoolBiasReferenceIdeal.τ).loc Cert.AdamPoolBiasReferenceIdeal.main_arg0)
          ∧ r.2.mem ((c.tc : Thread Cert.AdamPoolBiasReferenceIdeal.nD Cert.AdamPoolBiasReferenceIdeal.τ).loc Cert.AdamPoolBiasReferenceIdeal.main_arg1) = m' ((c.tc : Thread Cert.AdamPoolBiasReferenceIdeal.nD Cert.AdamPoolBiasReferenceIdeal.τ).loc Cert.AdamPoolBiasReferenceIdeal.main_arg1)
          ∧ r.2.mem ((c.tc : Thread Cert.AdamPoolBiasReferenceIdeal.nD Cert.AdamPoolBiasReferenceIdeal.τ).loc Cert.AdamPoolBiasReferenceIdeal.main_arg2) = m' ((c.tc : Thread Cert.AdamPoolBiasReferenceIdeal.nD Cert.AdamPoolBiasReferenceIdeal.τ).loc Cert.AdamPoolBiasReferenceIdeal.main_arg2)
          ∧ r.2.mem ((c.tc : Thread Cert.AdamPoolBiasReferenceIdeal.nD Cert.AdamPoolBiasReferenceIdeal.τ).loc Cert.AdamPoolBiasReferenceIdeal.main_arg3) = m' ((c.tc : Thread Cert.AdamPoolBiasReferenceIdeal.nD Cert.AdamPoolBiasReferenceIdeal.τ).loc Cert.AdamPoolBiasReferenceIdeal.main_arg3))

def preserves_AdamRow_AdamRowIdeal : Prop :=
  True

def algebraic_AdamRowIdeal_AdamRowReferenceIdeal [hAdamRowIdeal : Cert.AdamRowIdeal.Facts] [hAdamRowReferenceIdeal : Cert.AdamRowReferenceIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowReferenceIdeal.nD Cert.AdamRowReferenceIdeal.τ Cert.AdamRowReferenceIdeal.sig) → Buf (Elt Ideal) ℓ) (g' : Dev Cert.AdamRowReferenceIdeal.nD → PrngReg), Pre_AdamRowIdeal m →
    (∀ c : Dev Cert.AdamRowIdeal.nD,
      m' ((c.tc : Thread Cert.AdamRowReferenceIdeal.nD Cert.AdamRowReferenceIdeal.τ).loc Cert.AdamRowReferenceIdeal.main_arg0) = m ((c.tc : Thread Cert.AdamRowIdeal.nD Cert.AdamRowIdeal.τ).loc Cert.AdamRowIdeal.main_arg0)
      ∧ m' ((c.tc : Thread Cert.AdamRowReferenceIdeal.nD Cert.AdamRowReferenceIdeal.τ).loc Cert.AdamRowReferenceIdeal.main_arg1) = m ((c.tc : Thread Cert.AdamRowIdeal.nD Cert.AdamRowIdeal.τ).loc Cert.AdamRowIdeal.main_arg1)
      ∧ m' ((c.tc : Thread Cert.AdamRowReferenceIdeal.nD Cert.AdamRowReferenceIdeal.τ).loc Cert.AdamRowReferenceIdeal.main_arg2) = m ((c.tc : Thread Cert.AdamRowIdeal.nD Cert.AdamRowIdeal.τ).loc Cert.AdamRowIdeal.main_arg2)
      ∧ m' ((c.tc : Thread Cert.AdamRowReferenceIdeal.nD Cert.AdamRowReferenceIdeal.τ).loc Cert.AdamRowReferenceIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowReferenceIdeal.defs (F := Ideal)) (onTc (τ := Cert.AdamRowReferenceIdeal.τ) (Cert.AdamRowReferenceIdeal.main (F := Ideal))) ⟨m', fun _ => 0, g'⟩ (fun r => ∀ c : Dev Cert.AdamRowReferenceIdeal.nD,
          r.2.mem ((c.tc : Thread Cert.AdamRowReferenceIdeal.nD Cert.AdamRowReferenceIdeal.τ).loc Cert.AdamRowReferenceIdeal.main_v23) = v0 c
          ∧ r.2.mem ((c.tc : Thread Cert.AdamRowReferenceIdeal.nD Cert.AdamRowReferenceIdeal.τ).loc Cert.AdamRowReferenceIdeal.main_v4) = v1 c
          ∧ r.2.mem ((c.tc : Thread Cert.AdamRowReferenceIdeal.nD Cert.AdamRowReferenceIdeal.τ).loc Cert.AdamRowReferenceIdeal.main_v10) = v2 c
          ∧ r.2.mem ((c.tc : Thread Cert.AdamRowReferenceIdeal.nD Cert.AdamRowReferenceIdeal.τ).loc Cert.AdamRowReferenceIdeal.main_arg0) = m' ((c.tc : Thread Cert.AdamRowReferenceIdeal.nD Cert.AdamRowReferenceIdeal.τ).loc Cert.AdamRowReferenceIdeal.main_arg0)
          ∧ r.2.mem ((c.tc : Thread Cert.AdamRowReferenceIdeal.nD Cert.AdamRowReferenceIdeal.τ).loc Cert.AdamRowReferenceIdeal.main_arg1) = m' ((c.tc : Thread Cert.AdamRowReferenceIdeal.nD Cert.AdamRowReferenceIdeal.τ).loc Cert.AdamRowReferenceIdeal.main_arg1)
          ∧ r.2.mem ((c.tc : Thread Cert.AdamRowReferenceIdeal.nD Cert.AdamRowReferenceIdeal.τ).loc Cert.AdamRowReferenceIdeal.main_arg2) = m' ((c.tc : Thread Cert.AdamRowReferenceIdeal.nD Cert.AdamRowReferenceIdeal.τ).loc Cert.AdamRowReferenceIdeal.main_arg2)
          ∧ r.2.mem ((c.tc : Thread Cert.AdamRowReferenceIdeal.nD Cert.AdamRowReferenceIdeal.τ).loc Cert.AdamRowReferenceIdeal.main_arg3) = m' ((c.tc : Thread Cert.AdamRowReferenceIdeal.nD Cert.AdamRowReferenceIdeal.τ).loc Cert.AdamRowReferenceIdeal.main_arg3))

def preserves_AdamConvBias_AdamConvBiasIdeal : Prop :=
  True

def algebraic_AdamConvBiasIdeal_AdamConvBiasReferenceIdeal [hAdamConvBiasIdeal : Cert.AdamConvBiasIdeal.Facts] [hAdamConvBiasReferenceIdeal : Cert.AdamConvBiasReferenceIdeal.Facts] : Prop :=
  ∀ (m : (ℓ : Loc Cert.AdamConvBiasIdeal.nD Cert.AdamConvBiasIdeal.τ Cert.AdamConvBiasIdeal.sig) → Buf (Elt Ideal) ℓ) (g : Dev Cert.AdamConvBiasIdeal.nD → PrngReg)
    (m' : (ℓ : Loc Cert.AdamConvBiasReferenceIdeal.nD Cert.AdamConvBiasReferenceIdeal.τ Cert.AdamConvBiasReferenceIdeal.sig) → Buf (Elt Ideal) ℓ) (g' : Dev Cert.AdamConvBiasReferenceIdeal.nD → PrngReg), Pre_AdamConvBiasIdeal m →
    (∀ c : Dev Cert.AdamConvBiasIdeal.nD,
      m' ((c.tc : Thread Cert.AdamConvBiasReferenceIdeal.nD Cert.AdamConvBiasReferenceIdeal.τ).loc Cert.AdamConvBiasReferenceIdeal.main_arg0) = m ((c.tc : Thread Cert.AdamConvBiasIdeal.nD Cert.AdamConvBiasIdeal.τ).loc Cert.AdamConvBiasIdeal.main_arg0)
      ∧ m' ((c.tc : Thread Cert.AdamConvBiasReferenceIdeal.nD Cert.AdamConvBiasReferenceIdeal.τ).loc Cert.AdamConvBiasReferenceIdeal.main_arg1) = m ((c.tc : Thread Cert.AdamConvBiasIdeal.nD Cert.AdamConvBiasIdeal.τ).loc Cert.AdamConvBiasIdeal.main_arg1)
      ∧ m' ((c.tc : Thread Cert.AdamConvBiasReferenceIdeal.nD Cert.AdamConvBiasReferenceIdeal.τ).loc Cert.AdamConvBiasReferenceIdeal.main_arg2) = m ((c.tc : Thread Cert.AdamConvBiasIdeal.nD Cert.AdamConvBiasIdeal.τ).loc Cert.AdamConvBiasIdeal.main_arg2)
      ∧ m' ((c.tc : Thread Cert.AdamConvBiasReferenceIdeal.nD Cert.AdamConvBiasReferenceIdeal.τ).loc Cert.AdamConvBiasReferenceIdeal.main_arg3) = m ((c.tc : Thread Cert.AdamConvBiasIdeal.nD Cert.AdamConvBiasIdeal.τ).loc Cert.AdamConvBiasIdeal.main_arg3)) →
    ∃ (v0 : (c : Dev Cert.AdamConvBiasIdeal.nD) → Buf (Elt Ideal) ((c.tc : Thread Cert.AdamConvBiasIdeal.nD Cert.AdamConvBiasIdeal.τ).loc Cert.AdamConvBiasIdeal.main_v0_0)) (v1 : (c : Dev Cert.AdamConvBiasIdeal.nD) → Buf (Elt Ideal) ((c.tc : Thread Cert.AdamConvBiasIdeal.nD Cert.AdamConvBiasIdeal.τ).loc Cert.AdamConvBiasIdeal.main_v0_1)) (v2 : (c : Dev Cert.AdamConvBiasIdeal.nD) → Buf (Elt Ideal) ((c.tc : Thread Cert.AdamConvBiasIdeal.nD Cert.AdamConvBiasIdeal.τ).loc Cert.AdamConvBiasIdeal.main_v0_2)),
      θ_run (Cert.AdamConvBiasIdeal.defs (F := Ideal)) (onTc (τ := Cert.AdamConvBiasIdeal.τ) (Cert.AdamConvBiasIdeal.main (F := Ideal))) ⟨m, fun _ => 0, g⟩ (fun r => ∀ c : Dev Cert.AdamConvBiasIdeal.nD,
          r.2.mem ((c.tc : Thread Cert.AdamConvBiasIdeal.nD Cert.AdamConvBiasIdeal.τ).loc Cert.AdamConvBiasIdeal.main_v0_0) = v0 c
          ∧ r.2.mem ((c.tc : Thread Cert.AdamConvBiasIdeal.nD Cert.AdamConvBiasIdeal.τ).loc Cert.AdamConvBiasIdeal.main_v0_1) = v1 c
          ∧ r.2.mem ((c.tc : Thread Cert.AdamConvBiasIdeal.nD Cert.AdamConvBiasIdeal.τ).loc Cert.AdamConvBiasIdeal.main_v0_2) = v2 c
          ∧ r.2.mem ((c.tc : Thread Cert.AdamConvBiasIdeal.nD Cert.AdamConvBiasIdeal.τ).loc Cert.AdamConvBiasIdeal.main_arg0) = m ((c.tc : Thread Cert.AdamConvBiasIdeal.nD Cert.AdamConvBiasIdeal.τ).loc Cert.AdamConvBiasIdeal.main_arg0)
          ∧ r.2.mem ((c.tc : Thread Cert.AdamConvBiasIdeal.nD Cert.AdamConvBiasIdeal.τ).loc Cert.AdamConvBiasIdeal.main_arg1) = m ((c.tc : Thread Cert.AdamConvBiasIdeal.nD Cert.AdamConvBiasIdeal.τ).loc Cert.AdamConvBiasIdeal.main_arg1)
          ∧ r.2.mem ((c.tc : Thread Cert.AdamConvBiasIdeal.nD Cert.AdamConvBiasIdeal.τ).loc Cert.AdamConvBiasIdeal.main_arg2) = m ((c.tc : Thread Cert.AdamConvBiasIdeal.nD Cert.AdamConvBiasIdeal.τ).loc Cert.AdamConvBiasIdeal.main_arg2)
          ∧ r.2.mem ((c.tc : Thread Cert.AdamConvBiasIdeal.nD Cert.AdamConvBiasIdeal.τ).loc Cert.AdamConvBiasIdeal.main_arg3) = m ((c.tc : Thread Cert.AdamConvBiasIdeal.nD Cert.AdamConvBiasIdeal.τ).loc Cert.AdamConvBiasIdeal.main_arg3))
      ∧ θ_run (Cert.AdamConvBiasReferenceIdeal.defs (F := Ideal)) (onTc (τ := Cert.AdamConvBiasReferenceIdeal.τ) (Cert.AdamConvBiasReferenceIdeal.main (F := Ideal))) ⟨m', fun _ => 0, g'⟩ (fun r => ∀ c : Dev Cert.AdamConvBiasReferenceIdeal.nD,
          r.2.mem ((c.tc : Thread Cert.AdamConvBiasReferenceIdeal.nD Cert.AdamConvBiasReferenceIdeal.τ).loc Cert.AdamConvBiasReferenceIdeal.main_v23) = v0 c
          ∧ r.2.mem ((c.tc : Thread Cert.AdamConvBiasReferenceIdeal.nD Cert.AdamConvBiasReferenceIdeal.τ).loc Cert.AdamConvBiasReferenceIdeal.main_v4) = v1 c
          ∧ r.2.mem ((c.tc : Thread Cert.AdamConvBiasReferenceIdeal.nD Cert.AdamConvBiasReferenceIdeal.τ).loc Cert.AdamConvBiasReferenceIdeal.main_v10) = v2 c
          ∧ r.2.mem ((c.tc : Thread Cert.AdamConvBiasReferenceIdeal.nD Cert.AdamConvBiasReferenceIdeal.τ).loc Cert.AdamConvBiasReferenceIdeal.main_arg0) = m' ((c.tc : Thread Cert.AdamConvBiasReferenceIdeal.nD Cert.AdamConvBiasReferenceIdeal.τ).loc Cert.AdamConvBiasReferenceIdeal.main_arg0)
          ∧ r.2.mem ((c.tc : Thread Cert.AdamConvBiasReferenceIdeal.nD Cert.AdamConvBiasReferenceIdeal.τ).loc Cert.AdamConvBiasReferenceIdeal.main_arg1) = m' ((c.tc : Thread Cert.AdamConvBiasReferenceIdeal.nD Cert.AdamConvBiasReferenceIdeal.τ).loc Cert.AdamConvBiasReferenceIdeal.main_arg1)
          ∧ r.2.mem ((c.tc : Thread Cert.AdamConvBiasReferenceIdeal.nD Cert.AdamConvBiasReferenceIdeal.τ).loc Cert.AdamConvBiasReferenceIdeal.main_arg2) = m' ((c.tc : Thread Cert.AdamConvBiasReferenceIdeal.nD Cert.AdamConvBiasReferenceIdeal.τ).loc Cert.AdamConvBiasReferenceIdeal.main_arg2)
          ∧ r.2.mem ((c.tc : Thread Cert.AdamConvBiasReferenceIdeal.nD Cert.AdamConvBiasReferenceIdeal.τ).loc Cert.AdamConvBiasReferenceIdeal.main_arg3) = m' ((c.tc : Thread Cert.AdamConvBiasReferenceIdeal.nD Cert.AdamConvBiasReferenceIdeal.τ).loc Cert.AdamConvBiasReferenceIdeal.main_arg3))

def preserves_AdamPoolScale_AdamPoolScaleIdeal : Prop :=
  True

def algebraic_AdamPoolScaleIdeal_AdamPoolScaleReferenceIdeal [hAdamPoolScaleIdeal : Cert.AdamPoolScaleIdeal.Facts] [hAdamPoolScaleReferenceIdeal : Cert.AdamPoolScaleReferenceIdeal.Facts] : Prop :=
  ∀ (m : (ℓ : Loc Cert.AdamPoolScaleIdeal.nD Cert.AdamPoolScaleIdeal.τ Cert.AdamPoolScaleIdeal.sig) → Buf (Elt Ideal) ℓ) (g : Dev Cert.AdamPoolScaleIdeal.nD → PrngReg)
    (m' : (ℓ : Loc Cert.AdamPoolScaleReferenceIdeal.nD Cert.AdamPoolScaleReferenceIdeal.τ Cert.AdamPoolScaleReferenceIdeal.sig) → Buf (Elt Ideal) ℓ) (g' : Dev Cert.AdamPoolScaleReferenceIdeal.nD → PrngReg), Pre_AdamPoolScaleIdeal m →
    (∀ c : Dev Cert.AdamPoolScaleIdeal.nD,
      m' ((c.tc : Thread Cert.AdamPoolScaleReferenceIdeal.nD Cert.AdamPoolScaleReferenceIdeal.τ).loc Cert.AdamPoolScaleReferenceIdeal.main_arg0) = m ((c.tc : Thread Cert.AdamPoolScaleIdeal.nD Cert.AdamPoolScaleIdeal.τ).loc Cert.AdamPoolScaleIdeal.main_arg0)
      ∧ m' ((c.tc : Thread Cert.AdamPoolScaleReferenceIdeal.nD Cert.AdamPoolScaleReferenceIdeal.τ).loc Cert.AdamPoolScaleReferenceIdeal.main_arg1) = m ((c.tc : Thread Cert.AdamPoolScaleIdeal.nD Cert.AdamPoolScaleIdeal.τ).loc Cert.AdamPoolScaleIdeal.main_arg1)
      ∧ m' ((c.tc : Thread Cert.AdamPoolScaleReferenceIdeal.nD Cert.AdamPoolScaleReferenceIdeal.τ).loc Cert.AdamPoolScaleReferenceIdeal.main_arg2) = m ((c.tc : Thread Cert.AdamPoolScaleIdeal.nD Cert.AdamPoolScaleIdeal.τ).loc Cert.AdamPoolScaleIdeal.main_arg2)
      ∧ m' ((c.tc : Thread Cert.AdamPoolScaleReferenceIdeal.nD Cert.AdamPoolScaleReferenceIdeal.τ).loc Cert.AdamPoolScaleReferenceIdeal.main_arg3) = m ((c.tc : Thread Cert.AdamPoolScaleIdeal.nD Cert.AdamPoolScaleIdeal.τ).loc Cert.AdamPoolScaleIdeal.main_arg3)) →
    ∃ (v0 : (c : Dev Cert.AdamPoolScaleIdeal.nD) → Buf (Elt Ideal) ((c.tc : Thread Cert.AdamPoolScaleIdeal.nD Cert.AdamPoolScaleIdeal.τ).loc Cert.AdamPoolScaleIdeal.main_v0_0)) (v1 : (c : Dev Cert.AdamPoolScaleIdeal.nD) → Buf (Elt Ideal) ((c.tc : Thread Cert.AdamPoolScaleIdeal.nD Cert.AdamPoolScaleIdeal.τ).loc Cert.AdamPoolScaleIdeal.main_v0_1)) (v2 : (c : Dev Cert.AdamPoolScaleIdeal.nD) → Buf (Elt Ideal) ((c.tc : Thread Cert.AdamPoolScaleIdeal.nD Cert.AdamPoolScaleIdeal.τ).loc Cert.AdamPoolScaleIdeal.main_v0_2)),
      θ_run (Cert.AdamPoolScaleIdeal.defs (F := Ideal)) (onTc (τ := Cert.AdamPoolScaleIdeal.τ) (Cert.AdamPoolScaleIdeal.main (F := Ideal))) ⟨m, fun _ => 0, g⟩ (fun r => ∀ c : Dev Cert.AdamPoolScaleIdeal.nD,
          r.2.mem ((c.tc : Thread Cert.AdamPoolScaleIdeal.nD Cert.AdamPoolScaleIdeal.τ).loc Cert.AdamPoolScaleIdeal.main_v0_0) = v0 c
          ∧ r.2.mem ((c.tc : Thread Cert.AdamPoolScaleIdeal.nD Cert.AdamPoolScaleIdeal.τ).loc Cert.AdamPoolScaleIdeal.main_v0_1) = v1 c
          ∧ r.2.mem ((c.tc : Thread Cert.AdamPoolScaleIdeal.nD Cert.AdamPoolScaleIdeal.τ).loc Cert.AdamPoolScaleIdeal.main_v0_2) = v2 c
          ∧ r.2.mem ((c.tc : Thread Cert.AdamPoolScaleIdeal.nD Cert.AdamPoolScaleIdeal.τ).loc Cert.AdamPoolScaleIdeal.main_arg0) = m ((c.tc : Thread Cert.AdamPoolScaleIdeal.nD Cert.AdamPoolScaleIdeal.τ).loc Cert.AdamPoolScaleIdeal.main_arg0)
          ∧ r.2.mem ((c.tc : Thread Cert.AdamPoolScaleIdeal.nD Cert.AdamPoolScaleIdeal.τ).loc Cert.AdamPoolScaleIdeal.main_arg1) = m ((c.tc : Thread Cert.AdamPoolScaleIdeal.nD Cert.AdamPoolScaleIdeal.τ).loc Cert.AdamPoolScaleIdeal.main_arg1)
          ∧ r.2.mem ((c.tc : Thread Cert.AdamPoolScaleIdeal.nD Cert.AdamPoolScaleIdeal.τ).loc Cert.AdamPoolScaleIdeal.main_arg2) = m ((c.tc : Thread Cert.AdamPoolScaleIdeal.nD Cert.AdamPoolScaleIdeal.τ).loc Cert.AdamPoolScaleIdeal.main_arg2)
          ∧ r.2.mem ((c.tc : Thread Cert.AdamPoolScaleIdeal.nD Cert.AdamPoolScaleIdeal.τ).loc Cert.AdamPoolScaleIdeal.main_arg3) = m ((c.tc : Thread Cert.AdamPoolScaleIdeal.nD Cert.AdamPoolScaleIdeal.τ).loc Cert.AdamPoolScaleIdeal.main_arg3))
      ∧ θ_run (Cert.AdamPoolScaleReferenceIdeal.defs (F := Ideal)) (onTc (τ := Cert.AdamPoolScaleReferenceIdeal.τ) (Cert.AdamPoolScaleReferenceIdeal.main (F := Ideal))) ⟨m', fun _ => 0, g'⟩ (fun r => ∀ c : Dev Cert.AdamPoolScaleReferenceIdeal.nD,
          r.2.mem ((c.tc : Thread Cert.AdamPoolScaleReferenceIdeal.nD Cert.AdamPoolScaleReferenceIdeal.τ).loc Cert.AdamPoolScaleReferenceIdeal.main_v23) = v0 c
          ∧ r.2.mem ((c.tc : Thread Cert.AdamPoolScaleReferenceIdeal.nD Cert.AdamPoolScaleReferenceIdeal.τ).loc Cert.AdamPoolScaleReferenceIdeal.main_v4) = v1 c
          ∧ r.2.mem ((c.tc : Thread Cert.AdamPoolScaleReferenceIdeal.nD Cert.AdamPoolScaleReferenceIdeal.τ).loc Cert.AdamPoolScaleReferenceIdeal.main_v10) = v2 c
          ∧ r.2.mem ((c.tc : Thread Cert.AdamPoolScaleReferenceIdeal.nD Cert.AdamPoolScaleReferenceIdeal.τ).loc Cert.AdamPoolScaleReferenceIdeal.main_arg0) = m' ((c.tc : Thread Cert.AdamPoolScaleReferenceIdeal.nD Cert.AdamPoolScaleReferenceIdeal.τ).loc Cert.AdamPoolScaleReferenceIdeal.main_arg0)
          ∧ r.2.mem ((c.tc : Thread Cert.AdamPoolScaleReferenceIdeal.nD Cert.AdamPoolScaleReferenceIdeal.τ).loc Cert.AdamPoolScaleReferenceIdeal.main_arg1) = m' ((c.tc : Thread Cert.AdamPoolScaleReferenceIdeal.nD Cert.AdamPoolScaleReferenceIdeal.τ).loc Cert.AdamPoolScaleReferenceIdeal.main_arg1)
          ∧ r.2.mem ((c.tc : Thread Cert.AdamPoolScaleReferenceIdeal.nD Cert.AdamPoolScaleReferenceIdeal.τ).loc Cert.AdamPoolScaleReferenceIdeal.main_arg2) = m' ((c.tc : Thread Cert.AdamPoolScaleReferenceIdeal.nD Cert.AdamPoolScaleReferenceIdeal.τ).loc Cert.AdamPoolScaleReferenceIdeal.main_arg2)
          ∧ r.2.mem ((c.tc : Thread Cert.AdamPoolScaleReferenceIdeal.nD Cert.AdamPoolScaleReferenceIdeal.τ).loc Cert.AdamPoolScaleReferenceIdeal.main_arg3) = m' ((c.tc : Thread Cert.AdamPoolScaleReferenceIdeal.nD Cert.AdamPoolScaleReferenceIdeal.τ).loc Cert.AdamPoolScaleReferenceIdeal.main_arg3))

def preserves_AdamHead_AdamHeadIdeal : Prop :=
  True

def algebraic_AdamHeadIdeal_AdamHeadReferenceIdeal [hAdamHeadIdeal : Cert.AdamHeadIdeal.Facts] [hAdamHeadReferenceIdeal : Cert.AdamHeadReferenceIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadReferenceIdeal.nD Cert.AdamHeadReferenceIdeal.τ Cert.AdamHeadReferenceIdeal.sig) → Buf (Elt Ideal) ℓ) (g' : Dev Cert.AdamHeadReferenceIdeal.nD → PrngReg), Pre_AdamHeadIdeal m →
    (∀ c : Dev Cert.AdamHeadIdeal.nD,
      m' ((c.tc : Thread Cert.AdamHeadReferenceIdeal.nD Cert.AdamHeadReferenceIdeal.τ).loc Cert.AdamHeadReferenceIdeal.main_arg0) = m ((c.tc : Thread Cert.AdamHeadIdeal.nD Cert.AdamHeadIdeal.τ).loc Cert.AdamHeadIdeal.main_arg0)
      ∧ m' ((c.tc : Thread Cert.AdamHeadReferenceIdeal.nD Cert.AdamHeadReferenceIdeal.τ).loc Cert.AdamHeadReferenceIdeal.main_arg1) = m ((c.tc : Thread Cert.AdamHeadIdeal.nD Cert.AdamHeadIdeal.τ).loc Cert.AdamHeadIdeal.main_arg1)
      ∧ m' ((c.tc : Thread Cert.AdamHeadReferenceIdeal.nD Cert.AdamHeadReferenceIdeal.τ).loc Cert.AdamHeadReferenceIdeal.main_arg2) = m ((c.tc : Thread Cert.AdamHeadIdeal.nD Cert.AdamHeadIdeal.τ).loc Cert.AdamHeadIdeal.main_arg2)
      ∧ m' ((c.tc : Thread Cert.AdamHeadReferenceIdeal.nD Cert.AdamHeadReferenceIdeal.τ).loc Cert.AdamHeadReferenceIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadReferenceIdeal.defs (F := Ideal)) (onTc (τ := Cert.AdamHeadReferenceIdeal.τ) (Cert.AdamHeadReferenceIdeal.main (F := Ideal))) ⟨m', fun _ => 0, g'⟩ (fun r => ∀ c : Dev Cert.AdamHeadReferenceIdeal.nD,
          r.2.mem ((c.tc : Thread Cert.AdamHeadReferenceIdeal.nD Cert.AdamHeadReferenceIdeal.τ).loc Cert.AdamHeadReferenceIdeal.main_v23) = v0 c
          ∧ r.2.mem ((c.tc : Thread Cert.AdamHeadReferenceIdeal.nD Cert.AdamHeadReferenceIdeal.τ).loc Cert.AdamHeadReferenceIdeal.main_v4) = v1 c
          ∧ r.2.mem ((c.tc : Thread Cert.AdamHeadReferenceIdeal.nD Cert.AdamHeadReferenceIdeal.τ).loc Cert.AdamHeadReferenceIdeal.main_v10) = v2 c
          ∧ r.2.mem ((c.tc : Thread Cert.AdamHeadReferenceIdeal.nD Cert.AdamHeadReferenceIdeal.τ).loc Cert.AdamHeadReferenceIdeal.main_arg0) = m' ((c.tc : Thread Cert.AdamHeadReferenceIdeal.nD Cert.AdamHeadReferenceIdeal.τ).loc Cert.AdamHeadReferenceIdeal.main_arg0)
          ∧ r.2.mem ((c.tc : Thread Cert.AdamHeadReferenceIdeal.nD Cert.AdamHeadReferenceIdeal.τ).loc Cert.AdamHeadReferenceIdeal.main_arg1) = m' ((c.tc : Thread Cert.AdamHeadReferenceIdeal.nD Cert.AdamHeadReferenceIdeal.τ).loc Cert.AdamHeadReferenceIdeal.main_arg1)
          ∧ r.2.mem ((c.tc : Thread Cert.AdamHeadReferenceIdeal.nD Cert.AdamHeadReferenceIdeal.τ).loc Cert.AdamHeadReferenceIdeal.main_arg2) = m' ((c.tc : Thread Cert.AdamHeadReferenceIdeal.nD Cert.AdamHeadReferenceIdeal.τ).loc Cert.AdamHeadReferenceIdeal.main_arg2)
          ∧ r.2.mem ((c.tc : Thread Cert.AdamHeadReferenceIdeal.nD Cert.AdamHeadReferenceIdeal.τ).loc Cert.AdamHeadReferenceIdeal.main_arg3) = m' ((c.tc : Thread Cert.AdamHeadReferenceIdeal.nD Cert.AdamHeadReferenceIdeal.τ).loc Cert.AdamHeadReferenceIdeal.main_arg3))

def Claim : Prop :=
  ∃ (hKernel : Cert.Kernel.Facts) (hKernelIdeal : Cert.KernelIdeal.Facts) (hReferenceIdeal : Cert.ReferenceIdeal.Facts) (hWeightGrad : Cert.WeightGrad.Facts) (hWeightGradIdeal : Cert.WeightGradIdeal.Facts) (hWeightGradReferenceIdeal : Cert.WeightGradReferenceIdeal.Facts) (hWiden : Cert.Widen.Facts) (hWidenIdeal : Cert.WidenIdeal.Facts) (hWidenReferenceIdeal : Cert.WidenReferenceIdeal.Facts) (hWidenSecond : Cert.WidenSecond.Facts) (hWidenSecondIdeal : Cert.WidenSecondIdeal.Facts) (hWidenSecondReferenceIdeal : Cert.WidenSecondReferenceIdeal.Facts) (hInUvz : Cert.InUvz.Facts) (hInUvzIdeal : Cert.InUvzIdeal.Facts) (hInUvzReferenceIdeal : Cert.InUvzReferenceIdeal.Facts) (hInXbc : Cert.InXbc.Facts) (hInXbcIdeal : Cert.InXbcIdeal.Facts) (hInXbcReferenceIdeal : Cert.InXbcReferenceIdeal.Facts) (hOutDy : Cert.OutDy.Facts) (hOutDyIdeal : Cert.OutDyIdeal.Facts) (hOutDyReferenceIdeal : Cert.OutDyReferenceIdeal.Facts) (hInDwu : Cert.InDwu.Facts) (hInDwuIdeal : Cert.InDwuIdeal.Facts) (hInDwuReferenceIdeal : Cert.InDwuReferenceIdeal.Facts) (hInDwxbc : Cert.InDwxbc.Facts) (hInDwxbcIdeal : Cert.InDwxbcIdeal.Facts) (hInDwxbcReferenceIdeal : Cert.InDwxbcReferenceIdeal.Facts) (hAdamGate : Cert.AdamGate.Facts) (hAdamGateIdeal : Cert.AdamGateIdeal.Facts) (hAdamGateReferenceIdeal : Cert.AdamGateReferenceIdeal.Facts) (hAdamDown : Cert.AdamDown.Facts) (hAdamDownIdeal : Cert.AdamDownIdeal.Facts) (hAdamDownReferenceIdeal : Cert.AdamDownReferenceIdeal.Facts) (hAdamIn : Cert.AdamIn.Facts) (hAdamInIdeal : Cert.AdamInIdeal.Facts) (hAdamInReferenceIdeal : Cert.AdamInReferenceIdeal.Facts) (hAdamOut : Cert.AdamOut.Facts) (hAdamOutIdeal : Cert.AdamOutIdeal.Facts) (hAdamOutReferenceIdeal : Cert.AdamOutReferenceIdeal.Facts) (hAdamPool : Cert.AdamPool.Facts) (hAdamPoolIdeal : Cert.AdamPoolIdeal.Facts) (hAdamPoolReferenceIdeal : Cert.AdamPoolReferenceIdeal.Facts) (hAdamMix : Cert.AdamMix.Facts) (hAdamMixIdeal : Cert.AdamMixIdeal.Facts) (hAdamMixReferenceIdeal : Cert.AdamMixReferenceIdeal.Facts) (hAdamNorm : Cert.AdamNorm.Facts) (hAdamNormIdeal : Cert.AdamNormIdeal.Facts) (hAdamNormReferenceIdeal : Cert.AdamNormReferenceIdeal.Facts) (hAdamConv : Cert.AdamConv.Facts) (hAdamConvIdeal : Cert.AdamConvIdeal.Facts) (hAdamConvReferenceIdeal : Cert.AdamConvReferenceIdeal.Facts) (hAdamMixBias : Cert.AdamMixBias.Facts) (hAdamMixBiasIdeal : Cert.AdamMixBiasIdeal.Facts) (hAdamMixBiasReferenceIdeal : Cert.AdamMixBiasReferenceIdeal.Facts) (hAdamPoolBias : Cert.AdamPoolBias.Facts) (hAdamPoolBiasIdeal : Cert.AdamPoolBiasIdeal.Facts) (hAdamPoolBiasReferenceIdeal : Cert.AdamPoolBiasReferenceIdeal.Facts) (hAdamRow : Cert.AdamRow.Facts) (hAdamRowIdeal : Cert.AdamRowIdeal.Facts) (hAdamRowReferenceIdeal : Cert.AdamRowReferenceIdeal.Facts) (hAdamConvBias : Cert.AdamConvBias.Facts) (hAdamConvBiasIdeal : Cert.AdamConvBiasIdeal.Facts) (hAdamConvBiasReferenceIdeal : Cert.AdamConvBiasReferenceIdeal.Facts) (hAdamPoolScale : Cert.AdamPoolScale.Facts) (hAdamPoolScaleIdeal : Cert.AdamPoolScaleIdeal.Facts) (hAdamPoolScaleReferenceIdeal : Cert.AdamPoolScaleReferenceIdeal.Facts) (hAdamHead : Cert.AdamHead.Facts) (hAdamHeadIdeal : Cert.AdamHeadIdeal.Facts) (hAdamHeadReferenceIdeal : Cert.AdamHeadReferenceIdeal.Facts),
    quiescent_Kernel (hKernel := hKernel)
    ∧ quiescent_KernelIdeal (hKernelIdeal := hKernelIdeal)
    ∧ quiescent_ReferenceIdeal (hReferenceIdeal := hReferenceIdeal)
    ∧ quiescent_WeightGrad (hWeightGrad := hWeightGrad)
    ∧ quiescent_WeightGradIdeal (hWeightGradIdeal := hWeightGradIdeal)
    ∧ quiescent_WeightGradReferenceIdeal (hWeightGradReferenceIdeal := hWeightGradReferenceIdeal)
    ∧ quiescent_Widen (hWiden := hWiden)
    ∧ quiescent_WidenIdeal (hWidenIdeal := hWidenIdeal)
    ∧ quiescent_WidenReferenceIdeal (hWidenReferenceIdeal := hWidenReferenceIdeal)
    ∧ quiescent_WidenSecond (hWidenSecond := hWidenSecond)
    ∧ quiescent_WidenSecondIdeal (hWidenSecondIdeal := hWidenSecondIdeal)
    ∧ quiescent_WidenSecondReferenceIdeal (hWidenSecondReferenceIdeal := hWidenSecondReferenceIdeal)
    ∧ quiescent_InUvz (hInUvz := hInUvz)
    ∧ quiescent_InUvzIdeal (hInUvzIdeal := hInUvzIdeal)
    ∧ quiescent_InUvzReferenceIdeal (hInUvzReferenceIdeal := hInUvzReferenceIdeal)
    ∧ quiescent_InXbc (hInXbc := hInXbc)
    ∧ quiescent_InXbcIdeal (hInXbcIdeal := hInXbcIdeal)
    ∧ quiescent_InXbcReferenceIdeal (hInXbcReferenceIdeal := hInXbcReferenceIdeal)
    ∧ quiescent_OutDy (hOutDy := hOutDy)
    ∧ quiescent_OutDyIdeal (hOutDyIdeal := hOutDyIdeal)
    ∧ quiescent_OutDyReferenceIdeal (hOutDyReferenceIdeal := hOutDyReferenceIdeal)
    ∧ quiescent_InDwu (hInDwu := hInDwu)
    ∧ quiescent_InDwuIdeal (hInDwuIdeal := hInDwuIdeal)
    ∧ quiescent_InDwuReferenceIdeal (hInDwuReferenceIdeal := hInDwuReferenceIdeal)
    ∧ quiescent_InDwxbc (hInDwxbc := hInDwxbc)
    ∧ quiescent_InDwxbcIdeal (hInDwxbcIdeal := hInDwxbcIdeal)
    ∧ quiescent_InDwxbcReferenceIdeal (hInDwxbcReferenceIdeal := hInDwxbcReferenceIdeal)
    ∧ quiescent_AdamGate (hAdamGate := hAdamGate)
    ∧ quiescent_AdamGateIdeal (hAdamGateIdeal := hAdamGateIdeal)
    ∧ quiescent_AdamGateReferenceIdeal (hAdamGateReferenceIdeal := hAdamGateReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamPool (hAdamPool := hAdamPool)
    ∧ quiescent_AdamPoolIdeal (hAdamPoolIdeal := hAdamPoolIdeal)
    ∧ quiescent_AdamPoolReferenceIdeal (hAdamPoolReferenceIdeal := hAdamPoolReferenceIdeal)
    ∧ quiescent_AdamMix (hAdamMix := hAdamMix)
    ∧ quiescent_AdamMixIdeal (hAdamMixIdeal := hAdamMixIdeal)
    ∧ quiescent_AdamMixReferenceIdeal (hAdamMixReferenceIdeal := hAdamMixReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_AdamMixBias (hAdamMixBias := hAdamMixBias)
    ∧ quiescent_AdamMixBiasIdeal (hAdamMixBiasIdeal := hAdamMixBiasIdeal)
    ∧ quiescent_AdamMixBiasReferenceIdeal (hAdamMixBiasReferenceIdeal := hAdamMixBiasReferenceIdeal)
    ∧ quiescent_AdamPoolBias (hAdamPoolBias := hAdamPoolBias)
    ∧ quiescent_AdamPoolBiasIdeal (hAdamPoolBiasIdeal := hAdamPoolBiasIdeal)
    ∧ quiescent_AdamPoolBiasReferenceIdeal (hAdamPoolBiasReferenceIdeal := hAdamPoolBiasReferenceIdeal)
    ∧ quiescent_AdamRow (hAdamRow := hAdamRow)
    ∧ quiescent_AdamRowIdeal (hAdamRowIdeal := hAdamRowIdeal)
    ∧ quiescent_AdamRowReferenceIdeal (hAdamRowReferenceIdeal := hAdamRowReferenceIdeal)
    ∧ quiescent_AdamConvBias (hAdamConvBias := hAdamConvBias)
    ∧ quiescent_AdamConvBiasIdeal (hAdamConvBiasIdeal := hAdamConvBiasIdeal)
    ∧ quiescent_AdamConvBiasReferenceIdeal (hAdamConvBiasReferenceIdeal := hAdamConvBiasReferenceIdeal)
    ∧ quiescent_AdamPoolScale (hAdamPoolScale := hAdamPoolScale)
    ∧ quiescent_AdamPoolScaleIdeal (hAdamPoolScaleIdeal := hAdamPoolScaleIdeal)
    ∧ quiescent_AdamPoolScaleReferenceIdeal (hAdamPoolScaleReferenceIdeal := hAdamPoolScaleReferenceIdeal)
    ∧ quiescent_AdamHead (hAdamHead := hAdamHead)
    ∧ quiescent_AdamHeadIdeal (hAdamHeadIdeal := hAdamHeadIdeal)
    ∧ quiescent_AdamHeadReferenceIdeal (hAdamHeadReferenceIdeal := hAdamHeadReferenceIdeal)
    ∧ preserves_Kernel_KernelIdeal
    ∧ algebraic_KernelIdeal_ReferenceIdeal (hKernelIdeal := hKernelIdeal) (hReferenceIdeal := hReferenceIdeal)
    ∧ preserves_WeightGrad_WeightGradIdeal
    ∧ algebraic_WeightGradIdeal_WeightGradReferenceIdeal (hWeightGradIdeal := hWeightGradIdeal) (hWeightGradReferenceIdeal := hWeightGradReferenceIdeal)
    ∧ preserves_Widen_WidenIdeal
    ∧ algebraic_WidenIdeal_WidenReferenceIdeal (hWidenIdeal := hWidenIdeal) (hWidenReferenceIdeal := hWidenReferenceIdeal)
    ∧ preserves_WidenSecond_WidenSecondIdeal
    ∧ algebraic_WidenSecondIdeal_WidenSecondReferenceIdeal (hWidenSecondIdeal := hWidenSecondIdeal) (hWidenSecondReferenceIdeal := hWidenSecondReferenceIdeal)
    ∧ preserves_InUvz_InUvzIdeal
    ∧ algebraic_InUvzIdeal_InUvzReferenceIdeal (hInUvzIdeal := hInUvzIdeal) (hInUvzReferenceIdeal := hInUvzReferenceIdeal)
    ∧ preserves_InXbc_InXbcIdeal
    ∧ algebraic_InXbcIdeal_InXbcReferenceIdeal (hInXbcIdeal := hInXbcIdeal) (hInXbcReferenceIdeal := hInXbcReferenceIdeal)
    ∧ preserves_OutDy_OutDyIdeal
    ∧ algebraic_OutDyIdeal_OutDyReferenceIdeal (hOutDyIdeal := hOutDyIdeal) (hOutDyReferenceIdeal := hOutDyReferenceIdeal)
    ∧ preserves_InDwu_InDwuIdeal
    ∧ algebraic_InDwuIdeal_InDwuReferenceIdeal (hInDwuIdeal := hInDwuIdeal) (hInDwuReferenceIdeal := hInDwuReferenceIdeal)
    ∧ preserves_InDwxbc_InDwxbcIdeal
    ∧ algebraic_InDwxbcIdeal_InDwxbcReferenceIdeal (hInDwxbcIdeal := hInDwxbcIdeal) (hInDwxbcReferenceIdeal := hInDwxbcReferenceIdeal)
    ∧ preserves_AdamGate_AdamGateIdeal
    ∧ algebraic_AdamGateIdeal_AdamGateReferenceIdeal (hAdamGateIdeal := hAdamGateIdeal) (hAdamGateReferenceIdeal := hAdamGateReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamPool_AdamPoolIdeal
    ∧ algebraic_AdamPoolIdeal_AdamPoolReferenceIdeal (hAdamPoolIdeal := hAdamPoolIdeal) (hAdamPoolReferenceIdeal := hAdamPoolReferenceIdeal)
    ∧ preserves_AdamMix_AdamMixIdeal
    ∧ algebraic_AdamMixIdeal_AdamMixReferenceIdeal (hAdamMixIdeal := hAdamMixIdeal) (hAdamMixReferenceIdeal := hAdamMixReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_AdamMixBias_AdamMixBiasIdeal
    ∧ algebraic_AdamMixBiasIdeal_AdamMixBiasReferenceIdeal (hAdamMixBiasIdeal := hAdamMixBiasIdeal) (hAdamMixBiasReferenceIdeal := hAdamMixBiasReferenceIdeal)
    ∧ preserves_AdamPoolBias_AdamPoolBiasIdeal
    ∧ algebraic_AdamPoolBiasIdeal_AdamPoolBiasReferenceIdeal (hAdamPoolBiasIdeal := hAdamPoolBiasIdeal) (hAdamPoolBiasReferenceIdeal := hAdamPoolBiasReferenceIdeal)
    ∧ preserves_AdamRow_AdamRowIdeal
    ∧ algebraic_AdamRowIdeal_AdamRowReferenceIdeal (hAdamRowIdeal := hAdamRowIdeal) (hAdamRowReferenceIdeal := hAdamRowReferenceIdeal)
    ∧ preserves_AdamConvBias_AdamConvBiasIdeal
    ∧ algebraic_AdamConvBiasIdeal_AdamConvBiasReferenceIdeal (hAdamConvBiasIdeal := hAdamConvBiasIdeal) (hAdamConvBiasReferenceIdeal := hAdamConvBiasReferenceIdeal)
    ∧ preserves_AdamPoolScale_AdamPoolScaleIdeal
    ∧ algebraic_AdamPoolScaleIdeal_AdamPoolScaleReferenceIdeal (hAdamPoolScaleIdeal := hAdamPoolScaleIdeal) (hAdamPoolScaleReferenceIdeal := hAdamPoolScaleReferenceIdeal)
    ∧ preserves_AdamHead_AdamHeadIdeal
    ∧ algebraic_AdamHeadIdeal_AdamHeadReferenceIdeal (hAdamHeadIdeal := hAdamHeadIdeal) (hAdamHeadReferenceIdeal := hAdamHeadReferenceIdeal)
-- ==== Kernel.lean ====
abbrev S16384x2048 : Shape := ⟨2, ![16384, 2048]⟩
abbrev S16384x128 : Shape := ⟨2, ![16384, 128]⟩
abbrev S16384x1024 : Shape := ⟨2, ![16384, 1024]⟩
abbrev S1x128 : Shape := ⟨2, ![1, 128]⟩
abbrev S128x256 : Shape := ⟨2, ![128, 256]⟩
abbrev S128x128 : Shape := ⟨2, ![128, 128]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S1x256 : Shape := ⟨2, ![1, 256]⟩
abbrev S1 : Shape := ⟨1, ![1]⟩
abbrev S1x1 : Shape := ⟨2, ![1, 1]⟩
abbrev S256x128 : Shape := ⟨2, ![256, 128]⟩
abbrev S256 : Shape := ⟨1, ![256]⟩
abbrev S1x1x1 : Shape := ⟨3, ![1, 1, 1]⟩

abbrev nBuf : Space → Nat
  | .hbm => 12
  | .vmem => 53
  | .smem => 0
  | _ => 0

abbrev bufTy : (tb : Table) → Fin (tcTables nBuf tb) → BufTy
  | .hbm, ⟨0, _⟩ => ⟨S16384x2048, .f32⟩
  | .hbm, ⟨1, _⟩ => ⟨S16384x128, .f32⟩
  | .hbm, ⟨2, _⟩ => ⟨S16384x1024, .f32⟩
  | .hbm, ⟨3, _⟩ => ⟨S16384x1024, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S16384x2048, .f32⟩
  | .hbm, ⟨8, _⟩ => ⟨S16384x128, .bf16⟩
  | .hbm, ⟨9, _⟩ => ⟨S1x128, .f32⟩
  | .hbm, ⟨10, _⟩ => ⟨S1x128, .f32⟩
  | .hbm, ⟨11, _⟩ => ⟨S1x128, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x256, .f32⟩
  | .local _ .vmem, ⟨33, _⟩ => ⟨S128x256, .f32⟩
  | .local _ .vmem, ⟨34, _⟩ => ⟨S128x256, .f32⟩
  | .local _ .vmem, ⟨35, _⟩ => ⟨S128x256, .f32⟩
  | .local _ .vmem, ⟨36, _⟩ => ⟨S128x256, .f32⟩
  | .local _ .vmem, ⟨37, _⟩ => ⟨S128x256, .f32⟩
  | .local _ .vmem, ⟨38, _⟩ => ⟨S128x256, .f32⟩
  | .local _ .vmem, ⟨39, _⟩ => ⟨S128x256, .f32⟩
  | .local _ .vmem, ⟨40, _⟩ => ⟨S128x256, .f32⟩
  | .local _ .vmem, ⟨41, _⟩ => ⟨S128x256, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S128x2048, .f32⟩
  | .local _ .vmem, ⟨46, _⟩ => ⟨S128x2048, .f32⟩
  | .local _ .vmem, ⟨47, _⟩ => ⟨S128x128, .bf16⟩
  | .local _ .vmem, ⟨48, _⟩ => ⟨S128x128, .bf16⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S128x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg22_0 : Ref sig .tc := ⟨.vmem, 43, rfl⟩
abbrev cc0_stg23_0 : Ref sig .tc := ⟨.vmem, 44, rfl⟩
abbrev cc0_stg24_0 : Ref sig .tc := ⟨.vmem, 45, rfl⟩
abbrev cc0_stg24_1 : Ref sig .tc := ⟨.vmem, 46, rfl⟩
abbrev cc0_stg25_0 : Ref sig .tc := ⟨.vmem, 47, rfl⟩
abbrev cc0_stg25_1 : Ref sig .tc := ⟨.vmem, 48, rfl⟩
abbrev cc0_stg26_0 : Ref sig .tc := ⟨.vmem, 49, rfl⟩
abbrev cc0_stg27_0 : Ref sig .tc := ⟨.vmem, 50, rfl⟩
abbrev cc0_stg28_0 : Ref sig .tc := ⟨.vmem, 51, rfl⟩
abbrev cc0_scratch0 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem22_0 : DmaSem sig := 43
abbrev cc0_sem23_0 : DmaSem sig := 44
abbrev cc0_sem24_0 : DmaSem sig := 45
abbrev cc0_sem24_1 : DmaSem sig := 46
abbrev cc0_sem25_0 : DmaSem sig := 47
abbrev cc0_sem25_1 : DmaSem sig := 48
abbrev cc0_sem26_0 : DmaSem sig := 49
abbrev cc0_sem27_0 : DmaSem sig := 50
abbrev cc0_sem28_0 : DmaSem sig := 51

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c127_i32 : BitVec 32 := 127#32
  let v0 : BitVec 32 := Scalar.subi c127_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c127_i32 : BitVec 32 := 127#32
  let v0 : BitVec 32 := Scalar.subi c127_i32 arg0
  let c8_i32 : BitVec 32 := 8#32
  let c0_i32 : BitVec 32 := 0#32
  ![v0.toNat, c8_i32.toNat]

def cc0_transform_5 (i : grid0.Coords) : Fin 2 → Nat :=
  let arg0 : BitVec 32 := BitVec.ofNat 32 (i 0).val
  let c127_i32 : BitVec 32 := 127#32
  let v0 : BitVec 32 := Scalar.subi c127_i32 arg0
  let c9_i32 : BitVec 32 := 9#32
  let c0_i32 : BitVec 32 := 0#32
  ![v0.toNat, c9_i32.toNat]

def cc0_transform_6 (i : grid0.Coords) : Fin 2 → Nat :=
  let arg0 : BitVec 32 := BitVec.ofNat 32 (i 0).val
  let c127_i32 : BitVec 32 := 127#32
  let v0 : BitVec 32 := Scalar.subi c127_i32 arg0
  let c10_i32 : BitVec 32 := 10#32
  let c0_i32 : BitVec 32 := 0#32
  ![v0.toNat, c10_i32.toNat]

def cc0_transform_7 (i : grid0.Coords) : Fin 2 → Nat :=
  let arg0 : BitVec 32 := BitVec.ofNat 32 (i 0).val
  let c127_i32 : BitVec 32 := 127#32
  let v0 : BitVec 32 := Scalar.subi c127_i32 arg0
  let c11_i32 : BitVec 32 := 11#32
  let c0_i32 : BitVec 32 := 0#32
  ![v0.toNat, c11_i32.toNat]

def cc0_transform_8 (i : grid0.Coords) : Fin 2 → Nat :=
  let arg0 : BitVec 32 := BitVec.ofNat 32 (i 0).val
  let c127_i32 : BitVec 32 := 127#32
  let v0 : BitVec 32 := Scalar.subi c127_i32 arg0
  let c12_i32 : BitVec 32 := 12#32
  let c0_i32 : BitVec 32 := 0#32
  ![v0.toNat, c12_i32.toNat]

def cc0_transform_9 (i : grid0.Coords) : Fin 2 → Nat :=
  let arg0 : BitVec 32 := BitVec.ofNat 32 (i 0).val
  let c127_i32 : BitVec 32 := 127#32
  let v0 : BitVec 32 := Scalar.subi c127_i32 arg0
  let c13_i32 : BitVec 32 := 13#32
  let c0_i32 : BitVec 32 := 0#32
  ![v0.toNat, c13_i32.toNat]

def cc0_transform_10 (i : grid0.Coords) : Fin 2 → Nat :=
  let arg0 : BitVec 32 := BitVec.ofNat 32 (i 0).val
  let c127_i32 : BitVec 32 := 127#32
  let v0 : BitVec 32 := Scalar.subi c127_i32 arg0
  let c14_i32 : BitVec 32 := 14#32
  let c0_i32 : BitVec 32 := 0#32
  ![v0.toNat, c14_i32.toNat]

def cc0_transform_11 (i : grid0.Coords) : Fin 2 → Nat :=
  let arg0 : BitVec 32 := BitVec.ofNat 32 (i 0).val
  let c127_i32 : BitVec 32 := 127#32
  let v0 : BitVec 32 := Scalar.subi c127_i32 arg0
  let c15_i32 : BitVec 32 := 15#32
  let c0_i32 : BitVec 32 := 0#32
  ![v0.toNat, c15_i32.toNat]

def cc0_transform_12 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c127_i32 : BitVec 32 := 127#32
  let v0 : BitVec 32 := Scalar.subi c127_i32 arg0
  let c1_i32 : BitVec 32 := 1#32
  let c0_i32 : BitVec 32 := 0#32
  ![v0.toNat, c1_i32.toNat]

def cc0_transform_15 (i : grid0.Coords) : Fin 2 → Nat :=
  let arg0 : BitVec 32 := BitVec.ofNat 32 (i 0).val
  let c127_i32 : BitVec 32 := 127#32
  let v0 : BitVec 32 := Scalar.subi c127_i32 arg0
  let c2_i32 : BitVec 32 := 2#32
  let c0_i32 : BitVec 32 := 0#32
  ![v0.toNat, c2_i32.toNat]

def cc0_transform_16 (i : grid0.Coords) : Fin 2 → Nat :=
  let arg0 : BitVec 32 := BitVec.ofNat 32 (i 0).val
  let c127_i32 : BitVec 32 := 127#32
  let v0 : BitVec 32 := Scalar.subi c127_i32 arg0
  let c3_i32 : BitVec 32 := 3#32
  let c0_i32 : BitVec 32 := 0#32
  ![v0.toNat, c3_i32.toNat]

def cc0_transform_17 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c127_i32 : BitVec 32 := 127#32
  let v0 : BitVec 32 := Scalar.subi c127_i32 arg0
  let c1_i32 : BitVec 32 := 1#32
  let c0_i32 : BitVec 32 := 0#32
  ![v0.toNat, c1_i32.toNat]

def cc0_transform_19 (i : grid0.Coords) : Fin 2 → Nat :=
  let arg0 : BitVec 32 := BitVec.ofNat 32 (i 0).val
  let c127_i32 : BitVec 32 := 127#32
  let v0 : BitVec 32 := Scalar.subi c127_i32 arg0
  let c2_i32 : BitVec 32 := 2#32
  let c0_i32 : BitVec 32 := 0#32
  ![v0.toNat, c2_i32.toNat]

def cc0_transform_20 (i : grid0.Coords) : Fin 2 → Nat :=
  let arg0 : BitVec 32 := BitVec.ofNat 32 (i 0).val
  let c127_i32 : BitVec 32 := 127#32
  let v0 : BitVec 32 := Scalar.subi c127_i32 arg0
  let c3_i32 : BitVec 32 := 3#32
  let c0_i32 : BitVec 32 := 0#32
  ![v0.toNat, c3_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_25 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S128x2048 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S128x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== ReferenceIdeal.lean ====
abbrev S16384x2048 : Shape := ⟨2, ![16384, 2048]⟩
abbrev S16384x128 : Shape := ⟨2, ![16384, 128]⟩
abbrev S16384x1024 : Shape := ⟨2, ![16384, 1024]⟩
abbrev S1x128 : Shape := ⟨2, ![1, 128]⟩
abbrev S16384x16 : Shape := ⟨2, ![16384, 16]⟩
abbrev S1x16384x16 : Shape := ⟨3, ![1, 16384, 16]⟩
abbrev S1x16 : Shape := ⟨2, ![1, 16]⟩
abbrev S16 : Shape := ⟨1, ![16]⟩
abbrev S1x1x16 : Shape := ⟨3, ![1, 1, 16]⟩
abbrev S_ : Shape := ⟨0, ![]⟩
abbrev S1x16384x4x4 : Shape := ⟨4, ![1, 16384, 4, 4]⟩
abbrev S4x4 : Shape := ⟨2, ![4, 4]⟩
abbrev S4x4x1 : Shape := ⟨3, ![4, 4, 1]⟩
abbrev S1x16384x2048 : Shape := ⟨3, ![1, 16384, 2048]⟩
abbrev S1x16384x1024 : Shape := ⟨3, ![1, 16384, 1024]⟩
abbrev S1x16384x512 : Shape := ⟨3, ![1, 16384, 512]⟩
abbrev S1x16384x4x128 : Shape := ⟨4, ![1, 16384, 4, 128]⟩
abbrev S1x128x128x4x4x64 : Shape := ⟨6, ![1, 128, 128, 4, 4, 64]⟩
abbrev S1x128x4x4x64x128 : Shape := ⟨6, ![1, 128, 4, 4, 64, 128]⟩
abbrev S1x1x4x4 : Shape := ⟨4, ![1, 1, 4, 4]⟩
abbrev S1x128x128x4x4 : Shape := ⟨5, ![1, 128, 128, 4, 4]⟩
abbrev S1x128x4x4x128 : Shape := ⟨5, ![1, 128, 4, 4, 128]⟩
abbrev S1x128x4x4x128x1 : Shape := ⟨6, ![1, 128, 4, 4, 128, 1]⟩
abbrev S1x128x4x4x1x128 : Shape := ⟨6, ![1, 128, 4, 4, 1, 128]⟩
abbrev S1x128x4x4x128x128 : Shape := ⟨6, ![1, 128, 4, 4, 128, 128]⟩
abbrev S128x128 : Shape := ⟨2, ![128, 128]⟩
abbrev S1x128x4x4x1 : Shape := ⟨5, ![1, 128, 4, 4, 1]⟩
abbrev S1x128x4x4 : Shape := ⟨4, ![1, 128, 4, 4]⟩
abbrev S1x128x4x4x1x1 : Shape := ⟨6, ![1, 128, 4, 4, 1, 1]⟩
abbrev S1x16384x4x4x64 : Shape := ⟨5, ![1, 16384, 4, 4, 64]⟩
abbrev S1x16384x4x4x1 : Shape := ⟨5, ![1, 16384, 4, 4, 1]⟩
abbrev S1x128x128x4x128 : Shape := ⟨5, ![1, 128, 128, 4, 128]⟩
abbrev S1x128x4x128x128 : Shape := ⟨5, ![1, 128, 4, 128, 128]⟩
abbrev S1x128x4x1x128x128 : Shape := ⟨6, ![1, 128, 4, 1, 128, 128]⟩
abbrev S1x128x128x4x4x1 : Shape := ⟨6, ![1, 128, 128, 4, 4, 1]⟩
abbrev S128x4x128x128 : Shape := ⟨4, ![128, 4, 128, 128]⟩
abbrev S1x4x4x64x128 : Shape := ⟨5, ![1, 4, 4, 64, 128]⟩
abbrev S128x1x4x4x1x1 : Shape := ⟨6, ![128, 1, 4, 4, 1, 1]⟩
abbrev S128x1x4x4x64x128 : Shape := ⟨6, ![128, 1, 4, 4, 64, 128]⟩
abbrev S1x1x4x4x64x128 : Shape := ⟨6, ![1, 1, 4, 4, 64, 128]⟩
abbrev S1x1x4x4x1x1 : Shape := ⟨6, ![1, 1, 4, 4, 1, 1]⟩
abbrev S1x4x4x1x1 : Shape := ⟨5, ![1, 4, 4, 1, 1]⟩
abbrev S1x1x4x4x1 : Shape := ⟨5, ![1, 1, 4, 4, 1]⟩

abbrev nBuf : Space → Nat
  | .hbm => 210
  | .vmem => 0
  | .smem => 0
  | _ => 0

abbrev hbmTy0_0 (i : Nat) : BufTy := match i % 128 with
  | 0 => ⟨S16384x2048, .f32⟩
  | 1 => ⟨S16384x128, .f32⟩
  | 2 => ⟨S16384x1024, .f32⟩
  | 3 => ⟨S16384x1024, .f32⟩
  | 4 => ⟨S1x128, .f32⟩
  | 5 => ⟨S1x128, .f32⟩
  | 6 => ⟨S1x128, .f32⟩
  | 7 => ⟨S16384x16, .f32⟩
  | 8 => ⟨S1x16384x16, .f32⟩
  | 9 => ⟨S1x16, .f32⟩
  | 10 => ⟨S16, .f32⟩
  | 11 => ⟨S1x1x16, .f32⟩
  | 12 => ⟨S1x16384x16, .f32⟩
  | 13 => ⟨S1x16384x16, .f32⟩
  | 14 => ⟨S_, .f32⟩
  | 15 => ⟨S1x16384x16, .f32⟩
  | 16 => ⟨S1x16384x16, .f32⟩
  | 17 => ⟨S1x16384x16, .f32⟩
  | 18 => ⟨S1x16384x16, .f32⟩
  | 19 => ⟨S1x16384x16, .i1⟩
  | 20 => ⟨S1x16384x16, .f32⟩
  | 21 => ⟨S1x16384x16, .f32⟩
  | 22 => ⟨S1x16384x16, .f32⟩
  | 23 => ⟨S1x16384x16, .f32⟩
  | 24 => ⟨S1x16384x16, .f32⟩
  | 25 => ⟨S1x16384x16, .f32⟩
  | 26 => ⟨S1x16384x16, .f32⟩
  | 27 => ⟨S1x16384x16, .f32⟩
  | 28 => ⟨S1x16384x4x4, .f32⟩
  | 29 => ⟨S1x16, .f32⟩
  | 30 => ⟨S16, .f32⟩
  | 31 => ⟨S16, .f32⟩
  | 32 => ⟨S16, .f32⟩
  | 33 => ⟨S4x4, .f32⟩
  | 34 => ⟨S1x16, .f32⟩
  | 35 => ⟨S16, .f32⟩
  | 36 => ⟨S4x4, .f32⟩
  | 37 => ⟨S4x4x1, .f32⟩
  | 38 => ⟨S1x16384x2048, .f32⟩
  | 39 => ⟨S1x16384x1024, .f32⟩
  | 40 => ⟨S1x16384x512, .f32⟩
  | 41 => ⟨S1x16384x512, .f32⟩
  | 42 => ⟨S1x16384x4x128, .f32⟩
  | 43 => ⟨S1x16384x4x128, .f32⟩
  | 44 => ⟨S1x128x128x4x4x64, .f32⟩
  | 45 => ⟨S1x128x4x4x64x128, .f32⟩
  | 46 => ⟨S1x1x4x4, .f32⟩
  | 47 => ⟨S1x16384x4x4, .f32⟩
  | 48 => ⟨S1x16384x4x4, .f32⟩
  | 49 => ⟨S1x128x128x4x4, .f32⟩
  | 50 => ⟨S1x128x4x4x128, .f32⟩
  | 51 => ⟨S_, .f32⟩
  | 52 => ⟨S_, .f32⟩
  | 53 => ⟨S1x128x4x4x128, .f32⟩
  | 54 => ⟨S1x128x4x4x128x1, .f32⟩
  | 55 => ⟨S1x128x4x4x1x128, .f32⟩
  | 56 => ⟨S1x128x4x4x128x128, .f32⟩
  | 57 => ⟨S1x128x4x4x128x128, .f32⟩
  | 58 => ⟨S1x128x4x4x128x128, .f32⟩
  | 59 => ⟨S_, .i1⟩
  | 60 => ⟨S128x128, .i1⟩
  | 61 => ⟨S128x128, .i32⟩
  | 62 => ⟨S_, .i32⟩
  | 63 => ⟨S128x128, .i32⟩
  | 64 => ⟨S128x128, .i32⟩
  | 65 => ⟨S128x128, .i32⟩
  | 66 => ⟨S128x128, .i1⟩
  | 67 => ⟨S_, .i1⟩
  | 68 => ⟨S128x128, .i1⟩
  | 69 => ⟨S128x128, .i1⟩
  | 70 => ⟨S_, .f32⟩
  | 71 => ⟨S_, .f32⟩
  | 72 => ⟨S1x128x4x4x128x128, .i1⟩
  | 73 => ⟨S1x128x4x4x128x128, .f32⟩
  | 74 => ⟨S1x128x4x4x128x128, .f32⟩
  | 75 => ⟨S1x128x4x4x128x128, .f32⟩
  | 76 => ⟨S1x128x4x4x1, .f32⟩
  | 77 => ⟨S1x128x4x4x128, .f32⟩
  | 78 => ⟨S1x128x4x4x128, .f32⟩
  | 79 => ⟨S1x128x4x4x128, .f32⟩
  | 80 => ⟨S1x128x4x4x1, .f32⟩
  | 81 => ⟨S1x128x4x4, .f32⟩
  | 82 => ⟨S1x128x4x4, .f32⟩
  | 83 => ⟨S1x128x4x4x1x1, .f32⟩
  | 84 => ⟨S1x16384x1024, .f32⟩
  | 85 => ⟨S1x16384x4x4x64, .f32⟩
  | 86 => ⟨S1x16384x4x4x64, .f32⟩
  | 87 => ⟨S1x16384x4x4x1, .f32⟩
  | 88 => ⟨S1x16384x4x4x64, .f32⟩
  | 89 => ⟨S1x16384x4x4x64, .f32⟩
  | 90 => ⟨S1x128x128x4x4x64, .f32⟩
  | 91 => ⟨S1x128x128x4x128, .f32⟩
  | 92 => ⟨S1x128x128x4x128, .f32⟩
  | 93 => ⟨S1x128x4x128x128, .f32⟩
  | 94 => ⟨S1x128x4x1x128x128, .f32⟩
  | 95 => ⟨S1x128x4x4x128x128, .f32⟩
  | 96 => ⟨S1x128x4x4x128x128, .f32⟩
  | 97 => ⟨S1x128x4x4x64x128, .f32⟩
  | 98 => ⟨S1x128x128x4x4x64, .f32⟩
  | 99 => ⟨S1x128x4x4x64x128, .f32⟩
  | 100 => ⟨S1x128x128x4x4x64, .f32⟩
  | 101 => ⟨S1x128x4x4x128, .f32⟩
  | 102 => ⟨S1x128x128x4x4, .f32⟩
  | 103 => ⟨S1x128x128x4x4x1, .f32⟩
  | 104 => ⟨S1x128x128x4x4x64, .f32⟩
  | 105 => ⟨S1x128x128x4x4x64, .f32⟩
  | 106 => ⟨S1x128x128x4x4x64, .f32⟩
  | 107 => ⟨S1x128x128x4x4x64, .f32⟩
  | 108 => ⟨S1x128x128x4x4x64, .f32⟩
  | 109 => ⟨S1x128x128x4x4x64, .f32⟩
  | 110 => ⟨S1x128x4x4x64x128, .f32⟩
  | 111 => ⟨S1x128x4x128x128, .f32⟩
  | 112 => ⟨S1x128x128x4x128, .f32⟩
  | 113 => ⟨S1x128x4x4x64x128, .f32⟩
  | 114 => ⟨S1x128x4x4x64x128, .f32⟩
  | 115 => ⟨S1x128x4x4x128x128, .f32⟩
  | 116 => ⟨S1x128x4x4x64x128, .f32⟩
  | 117 => ⟨S1x128x128x4x4x64, .f32⟩
  | 118 => ⟨S1x128x4x4x128x128, .f32⟩
  | 119 => ⟨S_, .f32⟩
  | 120 => ⟨S1x128x4x128x128, .f32⟩
  | 121 => ⟨S1x128x4x1x128x128, .f32⟩
  | 122 => ⟨S_, .f32⟩
  | 123 => ⟨S128x4x128x128, .f32⟩
  | 124 => ⟨S1x128x4x128x128, .f32⟩
  | 125 => ⟨S1x128x4x128x128, .f32⟩
  | 126 => ⟨S1x128x128x4x128, .f32⟩
  | 127 => ⟨S1x128x4x128x128, .f32⟩
  | _ => ⟨S16384x2048, .f32⟩

abbrev hbmTy0_1 (i : Nat) : BufTy := match i % 128 with
  | 0 => ⟨S1x128x128x4x128, .f32⟩
  | 1 => ⟨S1x128x128x4x128, .f32⟩
  | 2 => ⟨S1x16384x4x128, .f32⟩
  | 3 => ⟨S1x16384x4x128, .f32⟩
  | 4 => ⟨S_, .f32⟩
  | 5 => ⟨S1x4x4x64x128, .f32⟩
  | 6 => ⟨S128x1x4x4x1x1, .f32⟩
  | 7 => ⟨S128x1x4x4x64x128, .f32⟩
  | 8 => ⟨S_, .f32⟩
  | 9 => ⟨S1x4x4x64x128, .f32⟩
  | 10 => ⟨S_, .f32⟩
  | 11 => ⟨S128x1x4x4x64x128, .f32⟩
  | 12 => ⟨S_, .i32⟩
  | 13 => ⟨S128x1x4x4x64x128, .f32⟩
  | 14 => ⟨S128x1x4x4x1x1, .f32⟩
  | 15 => ⟨S_, .i32⟩
  | 16 => ⟨S1x4x4x64x128, .f32⟩
  | 17 => ⟨S128x1x4x4x64x128, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S1x1x4x4x64x128, .f32⟩
  | 30 => ⟨S1x4x4x64x128, .f32⟩
  | 31 => ⟨S_, .i32⟩
  | 32 => ⟨S_, .i32⟩
  | 33 => ⟨S_, .i32⟩
  | 34 => ⟨S_, .i32⟩
  | 35 => ⟨S_, .i32⟩
  | 36 => ⟨S1x1x4x4x1x1, .f32⟩
  | 37 => ⟨S1x4x4x1x1, .f32⟩
  | 38 => ⟨S1x4x4x64x128, .f32⟩
  | 39 => ⟨S1x4x4x64x128, .f32⟩
  | 40 => ⟨S1x4x4x64x128, .f32⟩
  | 41 => ⟨S1x1x4x4x64x128, .f32⟩
  | 42 => ⟨S_, .i32⟩
  | 43 => ⟨S_, .i32⟩
  | 44 => ⟨S_, .i32⟩
  | 45 => ⟨S_, .i32⟩
  | 46 => ⟨S_, .i32⟩
  | 47 => ⟨S128x1x4x4x64x128, .f32⟩
  | 48 => ⟨S_, .i32⟩
  | 49 => ⟨S_, .i32⟩
  | 50 => ⟨S1x128x4x4x64x128, .f32⟩
  | 51 => ⟨S1x128x128x4x128, .f32⟩
  | 52 => ⟨S1x128x128x4x4, .f32⟩
  | 53 => ⟨S1x128x128x4x4x1, .f32⟩
  | 54 => ⟨S1x128x128x4x4x64, .f32⟩
  | 55 => ⟨S1x128x128x4x4x64, .f32⟩
  | 56 => ⟨S1x128x4x4x64x128, .f32⟩
  | 57 => ⟨S1x128x4x128x128, .f32⟩
  | 58 => ⟨S1x128x128x4x128, .f32⟩
  | 59 => ⟨S1x128x4x4x64x128, .f32⟩
  | 60 => ⟨S1x128x128x4x4x64, .f32⟩
  | 61 => ⟨S1x128x128x4x4x64, .f32⟩
  | 62 => ⟨S1x128x128x4x4x64, .f32⟩
  | 63 => ⟨S1x16384x4x128, .f32⟩
  | 64 => ⟨S1x16384x4x4x64, .f32⟩
  | 65 => ⟨S1x1x4x4x1, .f32⟩
  | 66 => ⟨S1x16384x4x4x64, .f32⟩
  | 67 => ⟨S1x16384x4x4x64, .f32⟩
  | 68 => ⟨S1x16384x4x4x64, .f32⟩
  | 69 => ⟨S1x16384x4x4x64, .f32⟩
  | 70 => ⟨S1x16384x1024, .f32⟩
  | 71 => ⟨S1x128x128x4x4x64, .f32⟩
  | 72 => ⟨S1x16384x4x4x64, .f32⟩
  | 73 => ⟨S1x16384x4x4x64, .f32⟩
  | 74 => ⟨S1x16384x4x4x64, .f32⟩
  | 75 => ⟨S1x16384x1024, .f32⟩
  | 76 => ⟨S1x16384x1024, .f32⟩
  | 77 => ⟨S1x16384x4x128, .f32⟩
  | 78 => ⟨S1x16384x512, .f32⟩
  | 79 => ⟨S1x16384x512, .f32⟩
  | 80 => ⟨S1x16384x2048, .f32⟩
  | 81 => ⟨S16384x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_call0_cst : Ref sig .tc := ⟨.hbm, 51, rfl⟩
abbrev main_call1_call0_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c : Ref sig .tc := ⟨.hbm, 59, rfl⟩
abbrev main_v37 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_0 : Ref sig .tc := ⟨.hbm, 67, rfl⟩
abbrev main_call2_v5 : Ref sig .tc := ⟨.hbm, 68, rfl⟩
abbrev main_v38 : Ref sig .tc := ⟨.hbm, 69, rfl⟩
abbrev main_cst : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_0 : Ref sig .tc := ⟨.hbm, 119, rfl⟩
abbrev main_v84 : Ref sig .tc := ⟨.hbm, 120, rfl⟩
abbrev main_v85 : Ref sig .tc := ⟨.hbm, 121, rfl⟩
abbrev main_cst_1 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_2 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_3 : Ref sig .tc := ⟨.hbm, 136, rfl⟩
abbrev main_v98 : Ref sig .tc := ⟨.hbm, 137, rfl⟩
abbrev main_cst_4 : Ref sig .tc := ⟨.hbm, 138, rfl⟩
abbrev main_v99 : Ref sig .tc := ⟨.hbm, 139, rfl⟩
abbrev main_c_5 : Ref sig .tc := ⟨.hbm, 140, rfl⟩
abbrev main_v100_0 : Ref sig .tc := ⟨.hbm, 141, rfl⟩
abbrev main_v100_1 : Ref sig .tc := ⟨.hbm, 142, rfl⟩
abbrev main_v100_2 : Ref sig .tc := ⟨.hbm, 143, rfl⟩
abbrev main_v100_3 : Ref sig .tc := ⟨.hbm, 144, rfl⟩
abbrev main_v100_4 : Ref sig .tc := ⟨.hbm, 145, rfl⟩
abbrev main_while0c_c_10 : Ref sig .tc := ⟨.hbm, 146, rfl⟩
abbrev main_while0c_v133 : Ref sig .tc := ⟨.hbm, 147, rfl⟩
abbrev main_while0b_c_10 : Ref sig .tc := ⟨.hbm, 148, rfl⟩
abbrev main_while0b_v133 : Ref sig .tc := ⟨.hbm, 149, rfl⟩
abbrev main_while0b_c_11 : Ref sig .tc := ⟨.hbm, 150, rfl⟩
abbrev main_while0b_v134 : Ref sig .tc := ⟨.hbm, 151, rfl⟩
abbrev main_while0b_call4_c : Ref sig .tc := ⟨.hbm, 152, rfl⟩
abbrev main_while0b_call4_c_0 : Ref sig .tc := ⟨.hbm, 153, rfl⟩
abbrev main_while0b_call4_c_1 : Ref sig .tc := ⟨.hbm, 154, rfl⟩
abbrev main_while0b_call4_c_2 : Ref sig .tc := ⟨.hbm, 155, rfl⟩
abbrev main_while0b_call4_c_3 : Ref sig .tc := ⟨.hbm, 156, rfl⟩
abbrev main_while0b_call4_v0 : Ref sig .tc := ⟨.hbm, 157, rfl⟩
abbrev main_while0b_v135 : Ref sig .tc := ⟨.hbm, 158, rfl⟩
abbrev main_while0b_call5_c : Ref sig .tc := ⟨.hbm, 159, rfl⟩
abbrev main_while0b_call5_c_0 : Ref sig .tc := ⟨.hbm, 160, rfl⟩
abbrev main_while0b_call5_c_1 : Ref sig .tc := ⟨.hbm, 161, rfl⟩
abbrev main_while0b_call5_c_2 : Ref sig .tc := ⟨.hbm, 162, rfl⟩
abbrev main_while0b_call5_c_3 : Ref sig .tc := ⟨.hbm, 163, rfl⟩
abbrev main_while0b_call5_v0 : Ref sig .tc := ⟨.hbm, 164, rfl⟩
abbrev main_while0b_v136 : Ref sig .tc := ⟨.hbm, 165, rfl⟩
abbrev main_while0b_v137 : Ref sig .tc := ⟨.hbm, 166, rfl⟩
abbrev main_while0b_v138 : Ref sig .tc := ⟨.hbm, 167, rfl⟩
abbrev main_while0b_v139 : Ref sig .tc := ⟨.hbm, 168, rfl⟩
abbrev main_while0b_call6_v0 : Ref sig .tc := ⟨.hbm, 169, rfl⟩
abbrev main_while0b_call6_c : Ref sig .tc := ⟨.hbm, 170, rfl⟩
abbrev main_while0b_call6_c_0 : Ref sig .tc := ⟨.hbm, 171, rfl⟩
abbrev main_while0b_call6_c_1 : Ref sig .tc := ⟨.hbm, 172, rfl⟩
abbrev main_while0b_call6_c_2 : Ref sig .tc := ⟨.hbm, 173, rfl⟩
abbrev main_while0b_call6_c_3 : Ref sig .tc := ⟨.hbm, 174, rfl⟩
abbrev main_while0b_v140 : Ref sig .tc := ⟨.hbm, 175, rfl⟩
abbrev main_while0b_c_12 : Ref sig .tc := ⟨.hbm, 176, rfl⟩
abbrev main_while0b_v141 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩

abbrev nD : Nat := 1
abbrev τ : Topo := Topo.v7x

variable {F : FTy → Type} [FloatOps F]

abbrev main_while0_count : Scf.Loop 32 := ⟨0#32, 128#32, 1#32⟩
-- ==== WeightGrad.lean ====
abbrev S4x16384x704 : Shape := ⟨3, ![4, 16384, 704]⟩
abbrev S16384x1024 : Shape := ⟨2, ![16384, 1024]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .f32⟩
  | .local _ .vmem, ⟨5, _⟩ => ⟨S1x704x1024, .f32⟩
  | .local _ .vmem, ⟨6, _⟩ => ⟨S704x1024, .f32⟩
  | _, _ => ⟨S4x16384x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== WeightGradReferenceIdeal.lean ====
abbrev S4x16384x704 : Shape := ⟨3, ![4, 16384, 704]⟩
abbrev S16384x1024 : Shape := ⟨2, ![16384, 1024]⟩
abbrev S1x16384x704 : Shape := ⟨3, ![1, 16384, 704]⟩
abbrev S16384x704 : Shape := ⟨2, ![16384, 704]⟩
abbrev S16384x2816 : Shape := ⟨2, ![16384, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S1x16384x704, .bf16⟩
  | .hbm, ⟨3, _⟩ => ⟨S16384x704, .bf16⟩
  | .hbm, ⟨4, _⟩ => ⟨S1x16384x704, .bf16⟩
  | .hbm, ⟨5, _⟩ => ⟨S16384x704, .bf16⟩
  | .hbm, ⟨6, _⟩ => ⟨S1x16384x704, .bf16⟩
  | .hbm, ⟨7, _⟩ => ⟨S16384x704, .bf16⟩
  | .hbm, ⟨8, _⟩ => ⟨S1x16384x704, .bf16⟩
  | .hbm, ⟨9, _⟩ => ⟨S16384x704, .bf16⟩
  | .hbm, ⟨10, _⟩ => ⟨S16384x2816, .bf16⟩
  | .hbm, ⟨11, _⟩ => ⟨S16384x2816, .f32⟩
  | .hbm, ⟨12, _⟩ => ⟨S_, .f32⟩
  | .hbm, ⟨13, _⟩ => ⟨S2816x1024, .f32⟩
  | .hbm, ⟨14, _⟩ => ⟨S16384x1024, .f32⟩
  | .hbm, ⟨15, _⟩ => ⟨S16384x1024, .f32⟩
  | .hbm, ⟨16, _⟩ => ⟨S1024x2816, .f32⟩
  | .hbm, ⟨17, _⟩ => ⟨S2816x1024, .f32⟩
  | .hbm, ⟨18, _⟩ => ⟨S4x704x1024, .f32⟩
  | _, _ => ⟨S4x16384x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Widen.lean ====
abbrev S16384x1024 : Shape := ⟨2, ![16384, 1024]⟩
abbrev S4x2048x704 : Shape := ⟨3, ![4, 2048, 704]⟩
abbrev S4x16384x704 : Shape := ⟨3, ![4, 16384, 704]⟩
abbrev S2048x1024 : Shape := ⟨2, ![2048, 1024]⟩
abbrev S1x1024x704 : Shape := ⟨3, ![1, 1024, 704]⟩
abbrev S1x2048x704 : Shape := ⟨3, ![1, 2048, 704]⟩
abbrev S256x1024 : Shape := ⟨2, ![256, 1024]⟩
abbrev S1024x704 : Shape := ⟨2, ![1024, 704]⟩
abbrev S256x704 : Shape := ⟨2, ![256, 704]⟩
abbrev S1x256x704 : Shape := ⟨3, ![1, 256, 704]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S4x2048x704, .bf16⟩
  | .hbm, ⟨2, _⟩ => ⟨S4x2048x704, .bf16⟩
  | .hbm, ⟨3, _⟩ => ⟨S4x16384x704, .bf16⟩
  | .hbm, ⟨4, _⟩ => ⟨S4x16384x704, .bf16⟩
  | .hbm, ⟨5, _⟩ => ⟨S4x16384x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WidenReferenceIdeal.lean ====
abbrev S16384x1024 : Shape := ⟨2, ![16384, 1024]⟩
abbrev S4x2048x704 : Shape := ⟨3, ![4, 2048, 704]⟩
abbrev S1x1024x704 : Shape := ⟨3, ![1, 1024, 704]⟩
abbrev S1024x704 : Shape := ⟨2, ![1024, 704]⟩
abbrev S1024x2816 : Shape := ⟨2, ![1024, 2816]⟩
abbrev S16384x2816 : Shape := ⟨2, ![16384, 2816]⟩
abbrev S_ : Shape := ⟨0, ![]⟩
abbrev S16384x4x704 : Shape := ⟨3, ![16384, 4, 704]⟩
abbrev S4x16384x704 : Shape := ⟨3, ![4, 16384, 704]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2048x704, .bf16⟩
  | .hbm, ⟨2, _⟩ => ⟨S4x2048x704, .bf16⟩
  | .hbm, ⟨3, _⟩ => ⟨S16384x1024, .f32⟩
  | .hbm, ⟨4, _⟩ => ⟨S1x1024x704, .bf16⟩
  | .hbm, ⟨5, _⟩ => ⟨S1024x704, .bf16⟩
  | .hbm, ⟨6, _⟩ => ⟨S1x1024x704, .bf16⟩
  | .hbm, ⟨7, _⟩ => ⟨S1024x704, .bf16⟩
  | .hbm, ⟨8, _⟩ => ⟨S1x1024x704, .bf16⟩
  | .hbm, ⟨9, _⟩ => ⟨S1024x704, .bf16⟩
  | .hbm, ⟨10, _⟩ => ⟨S1x1024x704, .bf16⟩
  | .hbm, ⟨11, _⟩ => ⟨S1024x704, .bf16⟩
  | .hbm, ⟨12, _⟩ => ⟨S1024x2816, .bf16⟩
  | .hbm, ⟨13, _⟩ => ⟨S1024x2816, .f32⟩
  | .hbm, ⟨14, _⟩ => ⟨S1x1024x704, .bf16⟩
  | .hbm, ⟨15, _⟩ => ⟨S1024x704, .bf16⟩
  | .hbm, ⟨16, _⟩ => ⟨S1x1024x704, .bf16⟩
  | .hbm, ⟨17, _⟩ => ⟨S1024x704, .bf16⟩
  | .hbm, ⟨18, _⟩ => ⟨S1x1024x704, .bf16⟩
  | .hbm, ⟨19, _⟩ => ⟨S1024x704, .bf16⟩
  | .hbm, ⟨20, _⟩ => ⟨S1x1024x704, .bf16⟩
  | .hbm, ⟨21, _⟩ => ⟨S1024x704, .bf16⟩
  | .hbm, ⟨22, _⟩ => ⟨S1024x2816, .bf16⟩
  | .hbm, ⟨23, _⟩ => ⟨S1024x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x4x704, .f32⟩
  | .hbm, ⟨37, _⟩ => ⟨S4x16384x704, .f32⟩
  | .hbm, ⟨38, _⟩ => ⟨S4x16384x704, .bf16⟩
  | .hbm, ⟨39, _⟩ => ⟨S16384x4x704, .f32⟩
  | .hbm, ⟨40, _⟩ => ⟨S4x16384x704, .f32⟩
  | .hbm, ⟨41, _⟩ => ⟨S4x16384x704, .bf16⟩
  | .hbm, ⟨42, _⟩ => ⟨S16384x4x704, .f32⟩
  | .hbm, ⟨43, _⟩ => ⟨S4x16384x704, .f32⟩
  | .hbm, ⟨44, _⟩ => ⟨S4x16384x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== WidenSecond.lean ====
abbrev S16384x1024 : Shape := ⟨2, ![16384, 1024]⟩
abbrev S4x2048x704 : Shape := ⟨3, ![4, 2048, 704]⟩
abbrev S4x16384x704 : Shape := ⟨3, ![4, 16384, 704]⟩
abbrev S2048x1024 : Shape := ⟨2, ![2048, 1024]⟩
abbrev S1x1024x704 : Shape := ⟨3, ![1, 1024, 704]⟩
abbrev S1x2048x704 : Shape := ⟨3, ![1, 2048, 704]⟩
abbrev S256x1024 : Shape := ⟨2, ![256, 1024]⟩
abbrev S1024x704 : Shape := ⟨2, ![1024, 704]⟩
abbrev S256x704 : Shape := ⟨2, ![256, 704]⟩
abbrev S1x256x704 : Shape := ⟨3, ![1, 256, 704]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S4x2048x704, .bf16⟩
  | .hbm, ⟨2, _⟩ => ⟨S4x2048x704, .bf16⟩
  | .hbm, ⟨3, _⟩ => ⟨S4x16384x704, .bf16⟩
  | .hbm, ⟨4, _⟩ => ⟨S4x16384x704, .bf16⟩
  | .hbm, ⟨5, _⟩ => ⟨S4x16384x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WidenSecondReferenceIdeal.lean ====
abbrev S16384x1024 : Shape := ⟨2, ![16384, 1024]⟩
abbrev S4x2048x704 : Shape := ⟨3, ![4, 2048, 704]⟩
abbrev S1x1024x704 : Shape := ⟨3, ![1, 1024, 704]⟩
abbrev S1024x704 : Shape := ⟨2, ![1024, 704]⟩
abbrev S1024x2816 : Shape := ⟨2, ![1024, 2816]⟩
abbrev S16384x2816 : Shape := ⟨2, ![16384, 2816]⟩
abbrev S_ : Shape := ⟨0, ![]⟩
abbrev S16384x4x704 : Shape := ⟨3, ![16384, 4, 704]⟩
abbrev S4x16384x704 : Shape := ⟨3, ![4, 16384, 704]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2048x704, .bf16⟩
  | .hbm, ⟨2, _⟩ => ⟨S4x2048x704, .bf16⟩
  | .hbm, ⟨3, _⟩ => ⟨S16384x1024, .f32⟩
  | .hbm, ⟨4, _⟩ => ⟨S1x1024x704, .bf16⟩
  | .hbm, ⟨5, _⟩ => ⟨S1024x704, .bf16⟩
  | .hbm, ⟨6, _⟩ => ⟨S1x1024x704, .bf16⟩
  | .hbm, ⟨7, _⟩ => ⟨S1024x704, .bf16⟩
  | .hbm, ⟨8, _⟩ => ⟨S1x1024x704, .bf16⟩
  | .hbm, ⟨9, _⟩ => ⟨S1024x704, .bf16⟩
  | .hbm, ⟨10, _⟩ => ⟨S1x1024x704, .bf16⟩
  | .hbm, ⟨11, _⟩ => ⟨S1024x704, .bf16⟩
  | .hbm, ⟨12, _⟩ => ⟨S1024x2816, .bf16⟩
  | .hbm, ⟨13, _⟩ => ⟨S1024x2816, .f32⟩
  | .hbm, ⟨14, _⟩ => ⟨S1x1024x704, .bf16⟩
  | .hbm, ⟨15, _⟩ => ⟨S1024x704, .bf16⟩
  | .hbm, ⟨16, _⟩ => ⟨S1x1024x704, .bf16⟩
  | .hbm, ⟨17, _⟩ => ⟨S1024x704, .bf16⟩
  | .hbm, ⟨18, _⟩ => ⟨S1x1024x704, .bf16⟩
  | .hbm, ⟨19, _⟩ => ⟨S1024x704, .bf16⟩
  | .hbm, ⟨20, _⟩ => ⟨S1x1024x704, .bf16⟩
  | .hbm, ⟨21, _⟩ => ⟨S1024x704, .bf16⟩
  | .hbm, ⟨22, _⟩ => ⟨S1024x2816, .bf16⟩
  | .hbm, ⟨23, _⟩ => ⟨S1024x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x4x704, .f32⟩
  | .hbm, ⟨37, _⟩ => ⟨S4x16384x704, .f32⟩
  | .hbm, ⟨38, _⟩ => ⟨S4x16384x704, .bf16⟩
  | .hbm, ⟨39, _⟩ => ⟨S16384x4x704, .f32⟩
  | .hbm, ⟨40, _⟩ => ⟨S4x16384x704, .f32⟩
  | .hbm, ⟨41, _⟩ => ⟨S4x16384x704, .bf16⟩
  | .hbm, ⟨42, _⟩ => ⟨S16384x4x704, .f32⟩
  | .hbm, ⟨43, _⟩ => ⟨S4x16384x704, .f32⟩
  | .hbm, ⟨44, _⟩ => ⟨S4x16384x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== InUvz.lean ====
abbrev S16384x1024 : Shape := ⟨2, ![16384, 1024]⟩
abbrev S1024x3072 : Shape := ⟨2, ![1024, 3072]⟩
abbrev S16384x3072 : Shape := ⟨2, ![16384, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InUvzReferenceIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x1024, .f32⟩
  | .hbm, ⟨3, _⟩ => ⟨S1024x3072, .f32⟩
  | .hbm, ⟨4, _⟩ => ⟨S16384x3072, .f32⟩
  | .hbm, ⟨5, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InXbc.lean ====
abbrev S16384x1024 : Shape := ⟨2, ![16384, 1024]⟩
abbrev S1024x2048 : Shape := ⟨2, ![1024, 2048]⟩
abbrev S16384x2048 : Shape := ⟨2, ![16384, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .bf16⟩
  | .hbm, ⟨2, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXbcReferenceIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .bf16⟩
  | .hbm, ⟨2, _⟩ => ⟨S16384x1024, .f32⟩
  | .hbm, ⟨3, _⟩ => ⟨S1024x2048, .f32⟩
  | .hbm, ⟨4, _⟩ => ⟨S16384x2048, .f32⟩
  | .hbm, ⟨5, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDy.lean ====
abbrev S16384x1024 : Shape := ⟨2, ![16384, 1024]⟩
abbrev S4x512x1024 : Shape := ⟨3, ![4, 512, 1024]⟩
abbrev S2048x1024 : Shape := ⟨2, ![2048, 1024]⟩
abbrev S16384x2048 : Shape := ⟨2, ![16384, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S4x512x1024, .bf16⟩
  | .hbm, ⟨2, _⟩ => ⟨S2048x1024, .bf16⟩
  | .hbm, ⟨3, _⟩ => ⟨S16384x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDyReferenceIdeal.lean ====
abbrev S16384x1024 : Shape := ⟨2, ![16384, 1024]⟩
abbrev S4x512x1024 : Shape := ⟨3, ![4, 512, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x512x1024, .bf16⟩
  | .hbm, ⟨2, _⟩ => ⟨S2048x1024, .bf16⟩
  | .hbm, ⟨3, _⟩ => ⟨S2048x1024, .f32⟩
  | .hbm, ⟨4, _⟩ => ⟨S_, .f32⟩
  | .hbm, ⟨5, _⟩ => ⟨S16384x2048, .f32⟩
  | .hbm, ⟨6, _⟩ => ⟨S16384x1024, .f32⟩
  | .hbm, ⟨7, _⟩ => ⟨S16384x1024, .f32⟩
  | .hbm, ⟨8, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDwu.lean ====
abbrev S16384x1024 : Shape := ⟨2, ![16384, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwuReferenceIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDwxbc.lean ====
abbrev S16384x2048 : Shape := ⟨2, ![16384, 2048]⟩
abbrev S16384x1024 : Shape := ⟨2, ![16384, 1024]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwxbcReferenceIdeal.lean ====
abbrev S16384x2048 : Shape := ⟨2, ![16384, 2048]⟩
abbrev S16384x1024 : Shape := ⟨2, ![16384, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .f32⟩
  | .hbm, ⟨3, _⟩ => ⟨S_, .f32⟩
  | .hbm, ⟨4, _⟩ => ⟨S1024x2048, .f32⟩
  | .hbm, ⟨5, _⟩ => ⟨S16384x2048, .f32⟩
  | .hbm, ⟨6, _⟩ => ⟨S16384x2048, .f32⟩
  | .hbm, ⟨7, _⟩ => ⟨S2048x1024, .f32⟩
  | .hbm, ⟨8, _⟩ => ⟨S1024x2048, .f32⟩
  | .hbm, ⟨9, _⟩ => ⟨S2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamGate.lean ====
abbrev S2048x704 : Shape := ⟨2, ![2048, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S2048x704 : Shape := ⟨2, ![2048, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateReferenceIdeal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x1284 : Shape := ⟨2, ![1024, 1284]⟩
abbrev S512x1284 : Shape := ⟨2, ![512, 1284]⟩

abbrev nBuf : Space → Nat
  | .hbm => 7
  | .vmem => 14
  | .smem => 0
  | _ => 0

abbrev bufTy : (tb : Table) → Fin (tcTables nBuf tb) → BufTy
  | .hbm, ⟨0, _⟩ => ⟨S1024x1284, .f32⟩
  | .hbm, ⟨1, _⟩ => ⟨S1024x1284, .f32⟩
  | .hbm, ⟨2, _⟩ => ⟨S1024x1284, .f32⟩
  | .hbm, ⟨3, _⟩ => ⟨S1024x1284, .f32⟩
  | .hbm, ⟨4, _⟩ => ⟨S1024x1284, .f32⟩
  | .hbm, ⟨5, _⟩ => ⟨S1024x1284, .f32⟩
  | .hbm, ⟨6, _⟩ => ⟨S1024x1284, .f32⟩
  | .local _ .vmem, ⟨0, _⟩ => ⟨S512x1284, .f32⟩
  | .local _ .vmem, ⟨1, _⟩ => ⟨S512x1284, .f32⟩
  | .local _ .vmem, ⟨2, _⟩ => ⟨S512x1284, .f32⟩
  | .local _ .vmem, ⟨3, _⟩ => ⟨S512x1284, .f32⟩
  | .local _ .vmem, ⟨4, _⟩ => ⟨S512x1284, .f32⟩
  | .local _ .vmem, ⟨5, _⟩ => ⟨S512x1284, .f32⟩
  | .local _ .vmem, ⟨6, _⟩ => ⟨S512x1284, .f32⟩
  | .local _ .vmem, ⟨7, _⟩ => ⟨S512x1284, .f32⟩
  | .local _ .vmem, ⟨8, _⟩ => ⟨S512x1284, .f32⟩
  | .local _ .vmem, ⟨9, _⟩ => ⟨S512x1284, .f32⟩
  | .local _ .vmem, ⟨10, _⟩ => ⟨S512x1284, .f32⟩
  | .local _ .vmem, ⟨11, _⟩ => ⟨S512x1284, .f32⟩
  | .local _ .vmem, ⟨12, _⟩ => ⟨S512x1284, .f32⟩
  | .local _ .vmem, ⟨13, _⟩ => ⟨S512x1284, .f32⟩
  | _, _ => ⟨S1024x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x1284 : Shape := ⟨2, ![1024, 1284]⟩
abbrev S512x1284 : Shape := ⟨2, ![512, 1284]⟩

abbrev nBuf : Space → Nat
  | .hbm => 7
  | .vmem => 14
  | .smem => 0
  | _ => 0

abbrev bufTy : (tb : Table) → Fin (tcTables nBuf tb) → BufTy
  | .hbm, ⟨0, _⟩ => ⟨S1024x1284, .f32⟩
  | .hbm, ⟨1, _⟩ => ⟨S1024x1284, .f32⟩
  | .hbm, ⟨2, _⟩ => ⟨S1024x1284, .f32⟩
  | .hbm, ⟨3, _⟩ => ⟨S1024x1284, .f32⟩
  | .hbm, ⟨4, _⟩ => ⟨S1024x1284, .f32⟩
  | .hbm, ⟨5, _⟩ => ⟨S1024x1284, .f32⟩
  | .hbm, ⟨6, _⟩ => ⟨S1024x1284, .f32⟩
  | .local _ .vmem, ⟨0, _⟩ => ⟨S512x1284, .f32⟩
  | .local _ .vmem, ⟨1, _⟩ => ⟨S512x1284, .f32⟩
  | .local _ .vmem, ⟨2, _⟩ => ⟨S512x1284, .f32⟩
  | .local _ .vmem, ⟨3, _⟩ => ⟨S512x1284, .f32⟩
  | .local _ .vmem, ⟨4, _⟩ => ⟨S512x1284, .f32⟩
  | .local _ .vmem, ⟨5, _⟩ => ⟨S512x1284, .f32⟩
  | .local _ .vmem, ⟨6, _⟩ => ⟨S512x1284, .f32⟩
  | .local _ .vmem, ⟨7, _⟩ => ⟨S512x1284, .f32⟩
  | .local _ .vmem, ⟨8, _⟩ => ⟨S512x1284, .f32⟩
  | .local _ .vmem, ⟨9, _⟩ => ⟨S512x1284, .f32⟩
  | .local _ .vmem, ⟨10, _⟩ => ⟨S512x1284, .f32⟩
  | .local _ .vmem, ⟨11, _⟩ => ⟨S512x1284, .f32⟩
  | .local _ .vmem, ⟨12, _⟩ => ⟨S512x1284, .f32⟩
  | .local _ .vmem, ⟨13, _⟩ => ⟨S512x1284, .f32⟩
  | _, _ => ⟨S1024x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S1024x1284 : Shape := ⟨2, ![1024, 1284]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1284, .f32⟩
  | .hbm, ⟨1, _⟩ => ⟨S1024x1284, .f32⟩
  | .hbm, ⟨2, _⟩ => ⟨S1024x1284, .f32⟩
  | .hbm, ⟨3, _⟩ => ⟨S1024x1284, .f32⟩
  | .hbm, ⟨4, _⟩ => ⟨S_, .f32⟩
  | .hbm, ⟨5, _⟩ => ⟨S1024x1284, .f32⟩
  | .hbm, ⟨6, _⟩ => ⟨S1024x1284, .f32⟩
  | .hbm, ⟨7, _⟩ => ⟨S_, .f32⟩
  | .hbm, ⟨8, _⟩ => ⟨S1024x1284, .f32⟩
  | .hbm, ⟨9, _⟩ => ⟨S1024x1284, .f32⟩
  | .hbm, ⟨10, _⟩ => ⟨S1024x1284, .f32⟩
  | .hbm, ⟨11, _⟩ => ⟨S_, .f32⟩
  | .hbm, ⟨12, _⟩ => ⟨S1024x1284, .f32⟩
  | .hbm, ⟨13, _⟩ => ⟨S1024x1284, .f32⟩
  | .hbm, ⟨14, _⟩ => ⟨S1024x1284, .f32⟩
  | .hbm, ⟨15, _⟩ => ⟨S_, .f32⟩
  | .hbm, ⟨16, _⟩ => ⟨S1024x1284, .f32⟩
  | .hbm, ⟨17, _⟩ => ⟨S1024x1284, .f32⟩
  | .hbm, ⟨18, _⟩ => ⟨S1024x1284, .f32⟩
  | .hbm, ⟨19, _⟩ => ⟨S_, .f32⟩
  | .hbm, ⟨20, _⟩ => ⟨S1024x1284, .f32⟩
  | .hbm, ⟨21, _⟩ => ⟨S1024x1284, .f32⟩
  | .hbm, ⟨22, _⟩ => ⟨S_, .f32⟩
  | .hbm, ⟨23, _⟩ => ⟨S1024x1284, .f32⟩
  | .hbm, ⟨24, _⟩ => ⟨S1024x1284, .f32⟩
  | .hbm, ⟨25, _⟩ => ⟨S1024x1284, .f32⟩
  | .hbm, ⟨26, _⟩ => ⟨S_, .f32⟩
  | .hbm, ⟨27, _⟩ => ⟨S1024x1284, .f32⟩
  | .hbm, ⟨28, _⟩ => ⟨S1024x1284, .f32⟩
  | .hbm, ⟨29, _⟩ => ⟨S1024x1284, .f32⟩
  | .hbm, ⟨30, _⟩ => ⟨S_, .f32⟩
  | .hbm, ⟨31, _⟩ => ⟨S1024x1284, .f32⟩
  | .hbm, ⟨32, _⟩ => ⟨S1024x1284, .f32⟩
  | .hbm, ⟨33, _⟩ => ⟨S1024x1284, .f32⟩
  | .hbm, ⟨34, _⟩ => ⟨S_, .f32⟩
  | .hbm, ⟨35, _⟩ => ⟨S1024x1284, .f32⟩
  | .hbm, ⟨36, _⟩ => ⟨S1024x1284, .f32⟩
  | _, _ => ⟨S1024x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolIdeal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolReferenceIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMix.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixIdeal.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixReferenceIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormReferenceIdeal.lean ====
abbrev S8x256 : Shape := ⟨2, ![8, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S_, .f32⟩
  | .hbm, ⟨5, _⟩ => ⟨S8x256, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8x256, .f32⟩
  | .hbm, ⟨21, _⟩ => ⟨S8x256, .f32⟩
  | .hbm, ⟨22, _⟩ => ⟨S_, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S_, .f32⟩
  | .hbm, ⟨35, _⟩ => ⟨S8x256, .f32⟩
  | .hbm, ⟨36, _⟩ => ⟨S8x256, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMixBias.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixBiasIdeal.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixBiasReferenceIdeal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPoolBias.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolBiasIdeal.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolBiasReferenceIdeal.lean ====
abbrev S4x64 : Shape := ⟨2, ![4, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S_, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvBias.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvBiasIdeal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvBiasReferenceIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPoolScale.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolScaleIdeal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolScaleReferenceIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadReferenceIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Held.lean ====
/-
  The launch of the state-space backward pass. The grid's 128 points visit the chunks of 128 tokens from the last to
  the first. The first point clears the gradient of the carried state and every later point reads what the point
  before left in it; three small outputs are summed up over the points in the same way. This module says what each
  point leaves in its output blocks and in that scratch, runs the whole grid, and reads the first output array
  block by block.
-/
module

public import proofs.«01_k».proof.Proof.Gen.KernelIdeal.Frame.RunB
public import Idealize.ShloMosaic.Lib.Claim
public import Idealize.ShloMosaic.Lib.Pipeline.Value

@[expose] public section

set_option maxRecDepth 16384

noncomputable section

namespace Cert.KernelIdeal.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

/-- The body's run at a point that clears the scratch. -/
def firstRun (c : Dev nD) (t : Fin cfg0.N) (h : t.val % 128 = 0) :=
  kernelRun0_A (F := F)
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) (ms0_24 t) (hs0_24 t)
    (ms0_25 t) (hs0_25 t) (ms0_26 t) (hs0_26 t) (ms0_27 t) (hs0_27 t) (ms0_28 t) (hs0_28 t) scM0_0
    (Memref.isWhole_whole _) ((hcond0_0 t).mpr h) ((hcond0_1 t).mpr h) (iblk m c 0 t) (iblk m c 1 t) (iblk m c 2 t)
    (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t)
    (iblk m c 17 t) (iblk m c 18 t) (iblk m c 19 t) (iblk m c 20 t) (iblk m c 21 t) (iblk m c 22 t) (iblk m c 23 t)

/-- What a point leaves: the five output blocks, then the scratch. -/
abbrev Left (F : FTy → Type) : Type :=
  Vec F S128x2048 .f32 × Vec F S128x128 .bf16 × Vec F S1x128 .f32 × Vec F S1x128 .f32 × Vec F S1x128 .f32
    × Vec F S128x1024 .f32

/-- The body's run at a later point, after `p`. -/
def laterRun (c : Dev nD) (t : Fin cfg0.N) (h : ¬t.val % 128 = 0) (p : Left F) :=
  kernelRun0_B (F := F)
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) (ms0_24 t) (hs0_24 t)
    (ms0_25 t) (hs0_25 t) (ms0_26 t) (hs0_26 t) (ms0_27 t) (hs0_27 t) (ms0_28 t) (hs0_28 t) scM0_0
    (Memref.isWhole_whole _) (fun e => h ((hcond0_0 t).mp e)) (fun e => h ((hcond0_1 t).mp e)) (iblk m c 0 t)
    (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
    (iblk m c 15 t) (iblk m c 16 t) (iblk m c 17 t) (iblk m c 18 t) (iblk m c 19 t) (iblk m c 20 t) (iblk m c 21 t)
    (iblk m c 22 t) (iblk m c 23 t) p.2.2.1 p.2.2.2.1 p.2.2.2.2.1 p.2.2.2.2.2

theorem first_covers_24 (c : Dev nD) (t : Fin cfg0.N) (h : t.val % 128 = 0) (y : S128x2048.Idx) :
    ∃ pc ∈ (firstRun m c t h).1, y ∈ pc.1.set :=
  View.cover_of_tiledBy (firstRun m c t h).1 ![128, 128] (by sl_kernel_rfl) y

theorem first_covers_25 (c : Dev nD) (t : Fin cfg0.N) (h : t.val % 128 = 0) (y : S128x128.Idx) :
    ∃ pc ∈ (firstRun m c t h).2.1, y ∈ pc.1.set :=
  View.cover_of_tiledL (firstRun m c t h).2.1 S128x128.size (by sl_kernel_rfl) y

theorem first_covers_26 (c : Dev nD) (t : Fin cfg0.N) (h : t.val % 128 = 0) (y : S1x128.Idx) :
    ∃ pc ∈ (firstRun m c t h).2.2.1, y ∈ pc.1.set :=
  View.cover_of_tiledL (firstRun m c t h).2.2.1 S1x128.size (by sl_kernel_rfl) y

theorem first_covers_27 (c : Dev nD) (t : Fin cfg0.N) (h : t.val % 128 = 0) (y : S1x128.Idx) :
    ∃ pc ∈ (firstRun m c t h).2.2.2.1, y ∈ pc.1.set :=
  View.cover_of_tiledL (firstRun m c t h).2.2.2.1 S1x128.size (by sl_kernel_rfl) y

theorem first_covers_28 (c : Dev nD) (t : Fin cfg0.N) (h : t.val % 128 = 0) (y : S1x128.Idx) :
    ∃ pc ∈ (firstRun m c t h).2.2.2.2.1, y ∈ pc.1.set :=
  View.cover_of_tiledL (firstRun m c t h).2.2.2.2.1 S1x128.size (by sl_kernel_rfl) y

theorem first_covers_scratch (c : Dev nD) (t : Fin cfg0.N) (h : t.val % 128 = 0) (y : S128x1024.Idx) :
    ∃ pc ∈ (firstRun m c t h).2.2.2.2.2.1, y ∈ pc.1.set :=
  View.cover_of_wholeMem (firstRun m c t h).2.2.2.2.2.1 (by sl_whole_mem) y

/-- What a first point leaves. -/
def firstLeft (c : Dev nD) (t : Fin cfg0.N) (h : t.val % 128 = 0) : Left F :=
  (VO0_24.read (Elt F) (VO0_24.writes (Elt F) VO0_24.junk (firstRun m c t h).1),
    VO0_25.read (Elt F) (VO0_25.writes (Elt F) VO0_25.junk (firstRun m c t h).2.1),
    VO0_26.read (Elt F) (VO0_26.writes (Elt F) VO0_26.junk (firstRun m c t h).2.2.1),
    VO0_27.read (Elt F) (VO0_27.writes (Elt F) VO0_27.junk (firstRun m c t h).2.2.2.1),
    VO0_28.read (Elt F) (VO0_28.writes (Elt F) VO0_28.junk (firstRun m c t h).2.2.2.2.1),
    VS0_0.read (Elt F) (VS0_0.writes (Elt F) VS0_0.junk (firstRun m c t h).2.2.2.2.2.1))

theorem later_covers_24 (c : Dev nD) (t : Fin cfg0.N) (h : ¬t.val % 128 = 0) (p : Left F) (y : S128x2048.Idx) :
    ∃ pc ∈ (laterRun m c t h p).1, y ∈ pc.1.set :=
  View.cover_of_tiledBy (laterRun m c t h p).1 ![128, 128] (by sl_kernel_rfl) y

theorem later_covers_25 (c : Dev nD) (t : Fin cfg0.N) (h : ¬t.val % 128 = 0) (p : Left F) (y : S128x128.Idx) :
    ∃ pc ∈ (laterRun m c t h p).2.1, y ∈ pc.1.set :=
  View.cover_of_tiledL (laterRun m c t h p).2.1 S128x128.size (by sl_kernel_rfl) y

theorem later_covers_26 (c : Dev nD) (t : Fin cfg0.N) (h : ¬t.val % 128 = 0) (p : Left F) (y : S1x128.Idx) :
    ∃ pc ∈ (laterRun m c t h p).2.2.1, y ∈ pc.1.set :=
  View.cover_of_tiledL (laterRun m c t h p).2.2.1 S1x128.size (by sl_kernel_rfl) y

theorem later_covers_27 (c : Dev nD) (t : Fin cfg0.N) (h : ¬t.val % 128 = 0) (p : Left F) (y : S1x128.Idx) :
    ∃ pc ∈ (laterRun m c t h p).2.2.2.1, y ∈ pc.1.set :=
  View.cover_of_tiledL (laterRun m c t h p).2.2.2.1 S1x128.size (by sl_kernel_rfl) y

theorem later_covers_28 (c : Dev nD) (t : Fin cfg0.N) (h : ¬t.val % 128 = 0) (p : Left F) (y : S1x128.Idx) :
    ∃ pc ∈ (laterRun m c t h p).2.2.2.2.1, y ∈ pc.1.set :=
  View.cover_of_tiledL (laterRun m c t h p).2.2.2.2.1 S1x128.size (by sl_kernel_rfl) y

theorem later_covers_scratch (c : Dev nD) (t : Fin cfg0.N) (h : ¬t.val % 128 = 0) (p : Left F) (y : S128x1024.Idx) :
    ∃ pc ∈ (laterRun m c t h p).2.2.2.2.2.1, y ∈ pc.1.set :=
  View.cover_of_tiledL (laterRun m c t h p).2.2.2.2.2.1 S128x256.size (by sl_kernel_rfl) y

/-- What a later point leaves. -/
def laterLeft (c : Dev nD) (t : Fin cfg0.N) (h : ¬t.val % 128 = 0) (p : Left F) : Left F :=
  (VO0_24.read (Elt F) (VO0_24.writes (Elt F) VO0_24.junk (laterRun m c t h p).1),
    VO0_25.read (Elt F) (VO0_25.writes (Elt F) VO0_25.junk (laterRun m c t h p).2.1),
    VO0_26.read (Elt F) (VO0_26.writes (Elt F) VO0_26.junk (laterRun m c t h p).2.2.1),
    VO0_27.read (Elt F) (VO0_27.writes (Elt F) VO0_27.junk (laterRun m c t h p).2.2.2.1),
    VO0_28.read (Elt F) (VO0_28.writes (Elt F) VO0_28.junk (laterRun m c t h p).2.2.2.2.1),
    VS0_0.read (Elt F) (VS0_0.writes (Elt F) VS0_0.junk (laterRun m c t h p).2.2.2.2.2.1))

/-! ## All points -/

/-- What is left after point `n`. -/
def left (c : Dev nD) : (n : ℕ) → n < cfg0.N → Left F
  | 0, hn => firstLeft m c ⟨0, hn⟩ (Nat.zero_mod _)
  | n + 1, hn => laterLeft m c ⟨n + 1, hn⟩
      (by have hN : n + 1 < 128 := lt_of_lt_of_eq hn (show cfg0.N = 128 from N_0); dsimp only; omega)
      (left c n (Nat.lt_of_succ_lt hn))

theorem left_first (c : Dev nD) (t : Fin cfg0.N) (h : t.val % 128 = 0) :
    left m c t.val t.isLt = firstLeft m c t h := by
  obtain ⟨n, hn⟩ := t
  cases n with
  | zero => rfl
  | succ n =>
    exfalso; have hN : n + 1 < 128 := lt_of_lt_of_eq hn (show cfg0.N = 128 from N_0); dsimp only at h; omega

theorem left_later (c : Dev nD) (t : Fin cfg0.N) (h : ¬t.val % 128 = 0) :
    left m c t.val t.isLt
      = laterLeft m c t h (left m c (t.val - 1) (Nat.lt_of_le_of_lt (Nat.sub_le _ _) t.isLt)) := by
  obtain ⟨n, hn⟩ := t
  cases n with
  | zero => exact absurd (Nat.zero_mod _) h
  | succ n => rfl

/-- Between the points: the scratch at what the last point left in it, and before the first point at anything. -/
def between (c : Dev nD) : (n : ℕ) → n ≤ cfg0.N → sProp 𝕄
  | 0, _ => Pipeline.ΦA spec0 c
  | n + 1, hn => iprop(iprop(owns (c : Thread nD τ) scM0_0 fullShare ((left m c n hn).2.2.2.2.2)) ∗ (∃ r, prngReg c r))

theorem between_zero (c : Dev nD) (n : ℕ) (h : n ≤ cfg0.N) (hz : n = 0) : between m c n h = Pipeline.ΦA spec0 c := by
  subst hz; rfl

theorem between_succ (c : Dev nD) (n : ℕ) (hn : n < cfg0.N) :
    between m c (n + 1) hn
      = iprop(iprop(owns (c : Thread nD τ) scM0_0 fullShare ((left m c n hn).2.2.2.2.2)) ∗ (∃ r, prngReg c r)) := rfl

theorem between_pos (c : Dev nD) (n : ℕ) (h : n ≤ cfg0.N) (hz : n ≠ 0) :
    between m c n h = iprop(iprop(owns (c : Thread nD τ) scM0_0 fullShare
      ((left m c (n - 1) (by omega)).2.2.2.2.2)) ∗ (∃ r, prngReg c r)) := by
  cases n with
  | zero => exact absurd rfl hz
  | succ n => rfl

/-- The launch's proof data: inputs keep their blocks, outputs hold what `left` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (left m c t.val t.isLt).1
    | ⟨25, _⟩ => (left m c t.val t.isLt).2.1
    | ⟨26, _⟩ => (left m c t.val t.isLt).2.2.1
    | ⟨27, _⟩ => (left m c t.val t.isLt).2.2.2.1
    | ⟨28, _⟩ => (left m c t.val t.isLt).2.2.2.2.1
    | ⟨_ + 29, h⟩ => absurd h (Nat.not_lt.2 (Nat.le_add_left _ _))
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) :
    (dats m 0 c).after 0 t = iblk m c 0 t := by dsimp only [dats]
theorem after_1 (c : Dev nD) (t : Fin cfg0.N) :
    (dats m 0 c).after 1 t = iblk m c 1 t := by dsimp only [dats]
theorem after_2 (c : Dev nD) (t : Fin cfg0.N) :
    (dats m 0 c).after 2 t = iblk m c 2 t := by dsimp only [dats]
theorem after_3 (c : Dev nD) (t : Fin cfg0.N) :
    (dats m 0 c).after 3 t = iblk m c 3 t := by dsimp only [dats]
theorem after_4 (c : Dev nD) (t : Fin cfg0.N) :
    (dats m 0 c).after 4 t = iblk m c 4 t := by dsimp only [dats]
theorem after_5 (c : Dev nD) (t : Fin cfg0.N) :
    (dats m 0 c).after 5 t = iblk m c 5 t := by dsimp only [dats]
theorem after_6 (c : Dev nD) (t : Fin cfg0.N) :
    (dats m 0 c).after 6 t = iblk m c 6 t := by dsimp only [dats]
theorem after_7 (c : Dev nD) (t : Fin cfg0.N) :
    (dats m 0 c).after 7 t = iblk m c 7 t := by dsimp only [dats]
theorem after_8 (c : Dev nD) (t : Fin cfg0.N) :
    (dats m 0 c).after 8 t = iblk m c 8 t := by dsimp only [dats]
theorem after_9 (c : Dev nD) (t : Fin cfg0.N) :
    (dats m 0 c).after 9 t = iblk m c 9 t := by dsimp only [dats]
theorem after_10 (c : Dev nD) (t : Fin cfg0.N) :
    (dats m 0 c).after 10 t = iblk m c 10 t := by dsimp only [dats]
theorem after_11 (c : Dev nD) (t : Fin cfg0.N) :
    (dats m 0 c).after 11 t = iblk m c 11 t := by dsimp only [dats]
theorem after_12 (c : Dev nD) (t : Fin cfg0.N) :
    (dats m 0 c).after 12 t = iblk m c 12 t := by dsimp only [dats]
theorem after_13 (c : Dev nD) (t : Fin cfg0.N) :
    (dats m 0 c).after 13 t = iblk m c 13 t := by dsimp only [dats]
theorem after_14 (c : Dev nD) (t : Fin cfg0.N) :
    (dats m 0 c).after 14 t = iblk m c 14 t := by dsimp only [dats]
theorem after_15 (c : Dev nD) (t : Fin cfg0.N) :
    (dats m 0 c).after 15 t = iblk m c 15 t := by dsimp only [dats]
theorem after_16 (c : Dev nD) (t : Fin cfg0.N) :
    (dats m 0 c).after 16 t = iblk m c 16 t := by dsimp only [dats]
theorem after_17 (c : Dev nD) (t : Fin cfg0.N) :
    (dats m 0 c).after 17 t = iblk m c 17 t := by dsimp only [dats]
theorem after_18 (c : Dev nD) (t : Fin cfg0.N) :
    (dats m 0 c).after 18 t = iblk m c 18 t := by dsimp only [dats]
theorem after_19 (c : Dev nD) (t : Fin cfg0.N) :
    (dats m 0 c).after 19 t = iblk m c 19 t := by dsimp only [dats]
theorem after_20 (c : Dev nD) (t : Fin cfg0.N) :
    (dats m 0 c).after 20 t = iblk m c 20 t := by dsimp only [dats]
theorem after_21 (c : Dev nD) (t : Fin cfg0.N) :
    (dats m 0 c).after 21 t = iblk m c 21 t := by dsimp only [dats]
theorem after_22 (c : Dev nD) (t : Fin cfg0.N) :
    (dats m 0 c).after 22 t = iblk m c 22 t := by dsimp only [dats]
theorem after_23 (c : Dev nD) (t : Fin cfg0.N) :
    (dats m 0 c).after 23 t = iblk m c 23 t := by dsimp only [dats]
theorem after_24 (c : Dev nD) (t : Fin cfg0.N) :
    (dats m 0 c).after 24 t = (left m c t.val t.isLt).1 := by dsimp only [dats]
theorem after_25 (c : Dev nD) (t : Fin cfg0.N) :
    (dats m 0 c).after 25 t = (left m c t.val t.isLt).2.1 := by dsimp only [dats]
theorem after_26 (c : Dev nD) (t : Fin cfg0.N) :
    (dats m 0 c).after 26 t = (left m c t.val t.isLt).2.2.1 := by dsimp only [dats]
theorem after_27 (c : Dev nD) (t : Fin cfg0.N) :
    (dats m 0 c).after 27 t = (left m c t.val t.isLt).2.2.2.1 := by dsimp only [dats]
theorem after_28 (c : Dev nD) (t : Fin cfg0.N) :
    (dats m 0 c).after 28 t = (left m c t.val t.isLt).2.2.2.2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d

/-! A later point finds in the three summed outputs what the point before left. -/

theorem before_26 (c : Dev nD) (t : Fin cfg0.N) (h : ¬t.val % 128 = 0) (d) :
    (dats m 0 c).before 26 t d = (left m c (t.val - 1) (Nat.lt_of_le_of_lt (Nat.sub_le _ _) t.isLt)).2.2.1 := by
  have hN : t.val < 128 := lt_of_lt_of_eq t.isLt (show cfg0.N = 128 from N_0)
  rw [Dat.before_out_kept _ 26 rfl t (by omega)
    (Bool.eq_false_iff.mpr fun e => by have := (flush0_26 _).mp e; dsimp only at this; omega)
    (fun _ => rfl) (fun _ _ => rfl)]
  dsimp only [dats]

theorem before_27 (c : Dev nD) (t : Fin cfg0.N) (h : ¬t.val % 128 = 0) (d) :
    (dats m 0 c).before 27 t d = (left m c (t.val - 1) (Nat.lt_of_le_of_lt (Nat.sub_le _ _) t.isLt)).2.2.2.1 := by
  have hN : t.val < 128 := lt_of_lt_of_eq t.isLt (show cfg0.N = 128 from N_0)
  rw [Dat.before_out_kept _ 27 rfl t (by omega)
    (Bool.eq_false_iff.mpr fun e => by have := (flush0_27 _).mp e; dsimp only at this; omega)
    (fun _ => rfl) (fun _ _ => rfl)]
  dsimp only [dats]

theorem before_28 (c : Dev nD) (t : Fin cfg0.N) (h : ¬t.val % 128 = 0) (d) :
    (dats m 0 c).before 28 t d = (left m c (t.val - 1) (Nat.lt_of_le_of_lt (Nat.sub_le _ _) t.isLt)).2.2.2.2.1 := by
  have hN : t.val < 128 := lt_of_lt_of_eq t.isLt (show cfg0.N = 128 from N_0)
  rw [Dat.before_out_kept _ 28 rfl t (by omega)
    (Bool.eq_false_iff.mpr fun e => by have := (flush0_28 _).mp e; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 8000000 in
/-- The body at a first point. -/
theorem body_first (c : Dev nD) (t : Fin cfg0.N) (h : t.val % 128 = 0) (hz : t.val = 0) :
    bodyPre m c t ⊢ wp frame (wpE (defs₀ (F := F)) Variants.none c none) Set.univ (bodyAt0 t)
      (fun _ => bodyPost m c t) := by
  unfold bodyPre bodyPost bodyAt0
  simp only [before_0, before_1, before_2, before_3, before_4, before_5, before_6, before_7, before_8, before_9, before_10,
    before_11, before_12, before_13, before_14, before_15, before_16, before_17, before_18, before_19, before_20,
    before_21, before_22, before_23]
  rw [show (dats m 0 c).owesAt () t.succ = (dats m 0 c).owesAt () t.castSucc from rfl,
    after_0, after_1, after_2, after_3, after_4, after_5, after_6, after_7, after_8, after_9, after_10, after_11,
    after_12, after_13, after_14, after_15, after_16, after_17, after_18, after_19, after_20, after_21, after_22,
    after_23, after_24, after_25, after_26, after_27, after_28]
  rw [show (dats m 0 c).Φ t.succ = between m c (t.val + 1) t.isLt from rfl, between_succ]
  rw [between_castSucc m c t, between_zero m c _ _ hz, PhiA0_eq, left_first m c t h]
  unfold firstLeft; (try dsimp only)
  iintro ⟨⟨⟨%ds0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16,
      H16⟩, ⟨%d17, H17⟩, ⟨%d18, H18⟩, ⟨%d19, H19⟩, ⟨%d20, H20⟩, ⟨%d21, H21⟩, ⟨%d22, H22⟩, ⟨%d23, H23⟩, ⟨%d24,
      H24⟩, ⟨%d25, H25⟩, ⟨%d26, H26⟩, ⟨%d27, H27⟩, ⟨%d28, H28⟩⟩
  iapply ((firstRun m c t h).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [HS0]; · iexists _; iexact HS0
  iintro ⟨H0, H1, H2, H3, H4, H5, H6, H7, H8, H9, H10, H11, H12, H13, H14, H15, H16, H17, H18, H19, H20, H21, H22, H23,
      ⟨%e24, H24⟩, ⟨%e25, H25⟩, ⟨%e26, H26⟩, ⟨%e27, H27⟩, ⟨%e28, H28⟩, ⟨%es0, HS0⟩⟩
  isplitl [HS0 Hg]
  · isplitl [HS0]
    · unfold owns; iexists _; isplitr
      swap; · iexact HS0
      ipureintro; exact View.read_writes_of_cover _ _ _ _ _ (first_covers_scratch m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (first_covers_24 m c t h)
  isplitl [H25]
  · unfold owns; iexists _; isplitr
    swap; · iexact H25
    ipureintro; exact View.read_writes_of_cover _ _ _ _ _ (first_covers_25 m c t h)
  isplitl [H26]
  · unfold owns; iexists _; isplitr
    swap; · iexact H26
    ipureintro; exact View.read_writes_of_cover _ _ _ _ _ (first_covers_26 m c t h)
  isplitl [H27]
  · unfold owns; iexists _; isplitr
    swap; · iexact H27
    ipureintro; exact View.read_writes_of_cover _ _ _ _ _ (first_covers_27 m c t h)
  unfold owns; iexists _; isplitr
  swap; · iexact H28
  ipureintro; exact View.read_writes_of_cover _ _ _ _ _ (first_covers_28 m c t h)

set_option maxHeartbeats 8000000 in
/-- The body at a later point. -/
theorem body_later (c : Dev nD) (t : Fin cfg0.N) (h : ¬t.val % 128 = 0) (hz : t.val ≠ 0) :
    bodyPre m c t ⊢ wp frame (wpE (defs₀ (F := F)) Variants.none c none) Set.univ (bodyAt0 t)
      (fun _ => bodyPost m c t) := by
  unfold bodyPre bodyPost bodyAt0
  simp only [before_0, before_1, before_2, before_3, before_4, before_5, before_6, before_7, before_8, before_9, before_10,
    before_11, before_12, before_13, before_14, before_15, before_16, before_17, before_18, before_19, before_20,
    before_21, before_22, before_23]
  rw [show (dats m 0 c).owesAt () t.succ = (dats m 0 c).owesAt () t.castSucc from rfl,
    after_0, after_1, after_2, after_3, after_4, after_5, after_6, after_7, after_8, after_9, after_10, after_11,
    after_12, after_13, after_14, after_15, after_16, after_17, after_18, after_19, after_20, after_21, after_22,
    after_23, after_24, after_25, after_26, after_27, after_28]
  rw [show (dats m 0 c).Φ t.succ = between m c (t.val + 1) t.isLt from rfl, between_succ]
  rw [between_castSucc m c t, between_pos m c _ _ hz, left_later m c t h]
  simp only [before_26 m c t h, before_27 m c t h, before_28 m c t h]
  unfold laterLeft; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩, ⟨%d13, H13⟩, ⟨%d14, H14⟩, ⟨%d15, H15⟩, ⟨%d16, H16⟩, ⟨%d17,
      H17⟩, ⟨%d18, H18⟩, ⟨%d19, H19⟩, ⟨%d20, H20⟩, ⟨%d21, H21⟩, ⟨%d22, H22⟩, ⟨%d23, H23⟩, ⟨%d24, H24⟩, ⟨%d25,
      H25⟩, ⟨%d26, H26⟩, ⟨%d27, H27⟩, ⟨%d28, H28⟩⟩
  iapply ((laterRun m c t h _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexact H26
  isplitl [H27]; · iexact H27
  isplitl [H28]; · iexact H28
  isplitl [HS0]; · iexact HS0
  iintro ⟨H0, H1, H2, H3, H4, H5, H6, H7, H8, H9, H10, H11, H12, H13, H14, H15, H16, H17, H18, H19, H20, H21, H22, H23,
      ⟨%e24, H24⟩, ⟨%e25, H25⟩, ⟨%e26, H26⟩, ⟨%e27, H27⟩, ⟨%e28, H28⟩, ⟨%es0, HS0⟩⟩
  isplitl [HS0 Hg]
  · isplitl [HS0]
    · unfold owns; iexists _; isplitr
      swap; · iexact HS0
      ipureintro; exact View.read_writes_of_cover _ _ _ _ _ (later_covers_scratch m c t h _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (later_covers_24 m c t h _)
  isplitl [H25]
  · unfold owns; iexists _; isplitr
    swap; · iexact H25
    ipureintro; exact View.read_writes_of_cover _ _ _ _ _ (later_covers_25 m c t h _)
  isplitl [H26]
  · unfold owns; iexists _; isplitr
    swap; · iexact H26
    ipureintro; exact View.read_writes_of_cover _ _ _ _ _ (later_covers_26 m c t h _)
  isplitl [H27]
  · unfold owns; iexists _; isplitr
    swap; · iexact H27
    ipureintro; exact View.read_writes_of_cover _ _ _ _ _ (later_covers_27 m c t h _)
  unfold owns; iexists _; isplitr
  swap; · iexact H28
  ipureintro; exact View.read_writes_of_cover _ _ _ _ _ (later_covers_28 m c t h _)

theorem body_at (c : Dev nD) (t : Fin cfg0.N) :
    bodyPre m c t ⊢ wp frame (wpE (defs₀ (F := F)) Variants.none c none) Set.univ (bodyAt0 t)
      (fun _ => bodyPost m c t) := by
  have hN : t.val < 128 := lt_of_lt_of_eq t.isLt (show cfg0.N = 128 from N_0)
  by_cases hz : t.val = 0
  · exact body_first m c t (by omega) hz
  · exact body_later m c t (by omega) hz

theorem defs₀_row (t : Fin cfg0.N) :
    defs₀ (F := F) .tc cfg0.body (cfg0.bodyArgs t (cfg0.slots t)) = bodyAt0 t := by
  unfold defs₀; rw [Defs.onTc_tc]

attribute [local irreducible] left

theorem body_obligation (c : Dev nD) :
    BodyObligation (dats (F := F) m 0 c) (defs₀ (F := F)) Variants.none () Set.univ := fun t => by
  rw [bigSep_W0, bigSep_W0, defs₀_row]
  exact body_at m c t

theorem enters (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem leaves (c : Dev nD) : (dats m 0 c).Φ (Fin.last cfg0.N) ⊢ Pipeline.ΦA spec0 c := by
  rw [show (dats m 0 c).Φ (Fin.last cfg0.N)
      = between m c (Fin.last cfg0.N).val (Nat.le_of_lt_succ (Fin.last cfg0.N).isLt) from rfl,
    between_pos m c _ _ (by rw [Fin.val_last]; have : cfg0.N = 128 := N_0; omega), PhiA0_eq]
  iintro ⟨HS0, Hg⟩
  isplitl [HS0]
  · iexists _; iexact HS0
  iexact Hg

/-! ## The whole run -/

set_option backward.isDefEq.respectTransparency.types false in
/-- The whole launch, with every counter at zero at the end. -/
theorem run_zero : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enters m)
    (hout := leaves m)

theorem run : θ_run defs (onTc (τ := τ) (main (F := F))) (s₀ m ρ) (Pipeline.FramePost cfgs (dats m) 0 (V m)) :=
  (θ_run defs _ _).mono (fun _ h => h.1) (run_zero m ρ)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_zero m ρ))

/-! ## The first output array, block by block -/

theorem flushed (c : Dev nD) (t : Fin cfg0.N) :
    (dats m 0 c).flushed 24 t = (cfg0.win 24).cut (grid0.coords t) ((left m c t.val t.isLt).1) := by
  show (cfg0.win 24).cut (grid0.coords t) ((dats m 0 c).after 24 t) = _
  rw [after_24]

theorem apart : ∀ t t' : Fin cfg0.N, win0_24.index t = win0_24.index t' → t = t' :=
  (by decide +kernel : ∀ t t' : Fin grid0.N, win0_24.index t = win0_24.index t' → t = t')

/-- Block `t` of the final array is what point `t` wrote. -/
theorem block (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24
    (fun t t' _ _ hne => (cfg0.win 24).disjoint_blk fun h => hne (apart t t' h)) cfg0.N t t.isLt hf

end Cert.KernelIdeal.Held

end
-- ==== Proof.Same.lean ====
/-
  The printed kernel and its idealization are the same text, so on machine words they are the same program.
-/
module
public import proofs.«01_k».proof.Defs
public import proofs.«01_k».proof.Proof.Gen.Kernel
public import proofs.«01_k».proof.Proof.Gen.KernelIdeal
public import Idealize.ShloMosaic.Init
public import proofs.«01_k».proof.Proof.Held
@[expose] public section
open Idealize.ShloMosaic Idealize.ShloMosaic.TcCoe Idealize.SL.Sem
namespace Cert.Proof

set_option maxHeartbeats 2000000

theorem body_same : Cert.Kernel.cc0_ssd_bwd (F := Bits) = Cert.KernelIdeal.cc0_ssd_bwd (F := Bits) := by
  exact Eq.refl (Cert.KernelIdeal.cc0_ssd_bwd (F := Bits))

theorem labels_same : Cert.Kernel.defs₀ (F := Bits) = Cert.KernelIdeal.defs₀ (F := Bits) := by
  refine congrArg Defs.onTc (funext fun ℓ => funext fun x => ?_)
  match ℓ, x with
  | 0, (t, s) => exact Eq.refl (Cert.KernelIdeal.cc0_ssd_bwd (F := Bits) _ _ _ _ _ _ _ _ _ _ _ _ _ _ _ _ _ _ _ _ _ _ _ _ _ _ _ _ _ _ _ _ _ _ _ _ _ _ _ _ _ _ _ _ _ _ _ _ _ _ _ _ _ _ _ _ _ _ _ _ _)
  | ⟨_ + 1, h⟩, _ => exact absurd h (Nat.not_lt.2 (Nat.le_add_left _ _))

theorem defs_same : Cert.Kernel.defs (F := Bits) = Cert.KernelIdeal.defs (F := Bits) := by
  exact congrArg (Pipeline.defs Cert.KernelIdeal.pcfgs) labels_same

theorem frame_kernel : Cert.quiescent_Kernel := fun m ρ _ => by
  rw [defs_same]
  exact Cert.KernelIdeal.Held.frame (F := Bits) m ρ

end Cert.Proof
-- ==== Proof.RefLoop.lean ====
/-
  What the reference's loop leaves alone: a buffer that neither the loop's condition nor its body writes holds at the
  end of the loop what it held at its start. In particular the argument arrays end as they began.
-/
module

public import proofs.«01_k».proof.Proof.Gen.ReferenceIdeal.Run
public import Idealize.ShloMosaic.Lib.StableHlo.RunRead
public import Idealize.ShloMosaic.Lib.Claim

@[expose] public section
noncomputable section
open Idealize.ShloMosaic Idealize.ShloMosaic.TcCoe Idealize.SL.Sem
namespace Cert.Proof.Ref
open Cert.ReferenceIdeal Cert.ReferenceIdeal.Gen Cert.ReferenceIdeal.Value Idealize.ShloMosaic.StableHlo

variable {F : FTy → Type} [FloatOps F]

/-- Every buffer that one trip of the loop writes. -/
abbrev tripWrites : List (Ref sig .tc) :=
  condOps_W ++ (while0Ops0_W ++ (while0Ops0_1_W ++ (while0Ops0_2_W ++ (while0Ops0_3_W ++ (while0Ops0_4_W ++ while0Ops0_5_W)))))

theorem trip_keeps (X : Valuation τ sig (Elt F)) (r : Ref sig .tc) (h : r ∉ tripWrites) :
    afterL bodyI (after condOps X) (Proc.devRef .tc r) = X (Proc.devRef .tc r) := by
  simp only [tripWrites, List.mem_append, not_or] at h
  obtain ⟨hc, h0, h1, h2, h3, h4, h5⟩ := h
  unfold bodyI
  simp only [afterL_cons, afterL_nil]
  rw [after_of_writes_sub _ _ while0Ops0_5_writes h5, after_of_writes_sub _ _ while0Ops0_4_writes h4,
    after_of_writes_sub _ _ while0Ops0_3_writes h3, after_of_writes_sub _ _ while0Ops0_2_writes h2,
    after_of_writes_sub _ _ while0Ops0_1_writes h1, after_of_writes_sub _ _ while0Ops0_writes h0,
    after_of_writes_sub _ _ condOps_writes hc]

variable (m : (ℓ : Loc nD τ sig) → Buf (Elt F) ℓ)

theorem loop_keeps (c : Dev nD) (r : Ref sig .tc) (h : r ∉ tripWrites) (k : ℕ) :
    atK m k c (Proc.devRef .tc r) = entryContents preI m c (Proc.devRef .tc r) := by
  induction k with
  | zero => rfl
  | succ k ih => exact (trip_keeps (atK m k c) r h).trans ih

/-- Every buffer that is written before the loop. -/
abbrev entryWrites : List (Ref sig .tc) :=
  hostOps0_W ++ (hostOps0_1_W ++ (hostOps0_2_W ++ (hostOps0_3_W ++ (hostOps0_4_W ++ (hostOps0_5_W ++ (hostOps0_6_W
    ++ (hostOps0_7_W ++ hostOps0_8_W)))))))

theorem entry_keeps (c : Dev nD) (r : Ref sig .tc) (h : r ∉ entryWrites) :
    entryContents preI m c (Proc.devRef .tc r) = m ((c.tc : Thread nD τ).loc r) := by
  simp only [entryWrites, List.mem_append, not_or] at h
  obtain ⟨h0, h1, h2, h3, h4, h5, h6, h7, h8⟩ := h
  unfold entryContents preI
  simp only [afterL_cons, afterL_nil]
  rw [after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- The contents when the loop is done. -/
def done (c : Dev nD) : Valuation τ sig (Elt F) := after condOps (atK m 128 c)

theorem done_keeps (c : Dev nD) (r : Ref sig .tc) (h : r ∉ tripWrites) :
    done m c (Proc.devRef .tc r) = entryContents preI m c (Proc.devRef .tc r) := by
  unfold done
  rw [after_of_writes_sub _ _ condOps_writes fun e => h (List.mem_append_left _ e)]
  exact loop_keeps m c r h 128

/-- The argument arrays. -/
abbrev argRefs : List (Ref sig .tc) := [main_arg0, main_arg1, main_arg2, main_arg3, main_arg4, main_arg5, main_arg6]

theorem args_keep (c : Dev nD) (r : Ref sig .tc) (h : r ∈ argRefs) :
    finalContents condOps preI bodyI postI 128 m c (Proc.devRef .tc r) = m ((c.tc : Thread nD τ).loc r) := by
  have hn : r ∉ tripWrites ∧ r ∉ entryWrites :=
    (by decide +kernel : ∀ r ∈ argRefs, r ∉ tripWrites ∧ r ∉ entryWrites) r h
  have hp : finalContents condOps preI bodyI postI 128 m c (Proc.devRef .tc r) = done m c (Proc.devRef .tc r) := by
    show after hostOps0_9 (done m c) (Proc.devRef .tc r) = _
    clear hn
    generalize done m c = W
    fin_cases h <;> after_reads_simp
  rw [hp, done_keeps m c r hn.1, entry_keeps m c r hn.2]

variable (ρ : Dev nD → PrngReg)

/-- The reference's run: the result as the stretch after the loop leaves it, the arguments as they began. -/
theorem run : θ_run (defs (F := F)) (onTc (τ := τ) (main (F := F))) ⟨m, fun _ => 0, ρ⟩ (fun r => ∀ c : Dev nD,
    r.2.mem ((c.tc : Thread nD τ).loc main_v132) = after hostOps0_9 (done m c) (Proc.devRef .tc main_v132)
    ∧ ∀ b ∈ argRefs, r.2.mem ((c.tc : Thread nD τ).loc b) = m ((c.tc : Thread nD τ).loc b)) :=
  (θ_run defs _ _).mono (fun r h c => ⟨h c main_v132 rfl, fun b hb =>
    (h c b ((by decide +kernel : ∀ b ∈ argRefs, (Proc.devRef .tc b : DevRef τ sig).isScoped = false) b hb)).trans
      (args_keep m c b hb)⟩) (run_fold m ρ)

end Cert.Proof.Ref
-- ==== Proof.Spec.lean ====
module

public import Idealize.ShloMosaic.Lib.Pointwise
public import Idealize.ShloMosaic.PureOps.Ideal

/-! The gradient of the chunked scan, in plain sums over the extended reals.

A sequence of 16384 positions is cut into 128 chunks of 128 positions. The 1024 features are four groups of four heads of 64 lanes;
a group has its own `B` and `C` rows of 128 states. `Chunk` holds what one group's part of one chunk is computed from, and the
functions after it are the gradients of that part, given the adjoint `adj` of the state that leaves the chunk. `Args` holds the
whole arrays and `Args.grad` the array of gradients. -/

@[expose] public section
noncomputable section
open Idealize.ShloMosaic

namespace Cert.Proof

/-- What one group's part of one chunk is computed from: inputs `x`, output gradients `dy`, the state `s` that enters the chunk,
the rows `b` and `c`, the step sizes `dt`, the running sums `ac` of the log decays with their total `tot`, and the skip gains `dk`. -/
structure Chunk where
  x : Fin 128 → Fin 4 → Fin 64 → EReal
  dy : Fin 128 → Fin 4 → Fin 64 → EReal
  s : Fin 128 → Fin 4 → Fin 64 → EReal
  b : Fin 128 → Fin 128 → EReal
  c : Fin 128 → Fin 128 → EReal
  dt : Fin 128 → Fin 4 → EReal
  ac : Fin 128 → Fin 4 → EReal
  tot : Fin 4 → EReal
  dk : Fin 4 → EReal

namespace Chunk
variable (K : Chunk) (adj : Fin 128 → Fin 4 → Fin 64 → EReal)

/-- The decay from position `s` to position `l`; nothing flows backwards. -/
def dec (r : Fin 4) (l s : Fin 128) : EReal := Ideal.exp (if s ≤ l then K.ac l r - K.ac s r else ⊥)

/-- The product of the rows `C l` and `B s`. -/
def cb (l s : Fin 128) : EReal := ∑ n, K.c l n * K.b s n

/-- The gradient of `cb`. -/
def dcb (l s : Fin 128) : EReal := ∑ r, (∑ p, K.dy l r p * (K.x s r p * K.dt s r)) * K.dec r l s

/-- The gradient of the inputs. -/
def dx (s : Fin 128) (r : Fin 4) (p : Fin 64) : EReal :=
  K.dy s r p * K.dk r
    + ((∑ l, K.dy l r p * (K.cb l s * K.dec r l s)) + (∑ n, adj n r p * K.b s n) * Ideal.exp (K.tot r - K.ac s r)) * K.dt s r

/-- The gradient of the rows `B`. -/
def db (s n : Fin 128) : EReal :=
  (∑ l, K.dcb l s * K.c l n) + ∑ r, ∑ p, adj n r p * (K.x s r p * K.dt s r * Ideal.exp (K.tot r - K.ac s r))

/-- The gradient of the rows `C`. -/
def dc (l n : Fin 128) : EReal := (∑ r, ∑ p, K.dy l r p * Ideal.exp (K.ac l r) * K.s n r p) + ∑ s, K.dcb l s * K.b s n

/-- The adjoint of the state that enters the chunk. -/
def back (n : Fin 128) (r : Fin 4) (p : Fin 64) : EReal :=
  (∑ l, K.dy l r p * Ideal.exp (K.ac l r) * K.c l n) + adj n r p * Ideal.exp (K.tot r)

end Chunk

/-- The argument arrays. -/
structure Args where
  xc : (⟨2, ![16384, 2048]⟩ : Shape).Idx → EReal
  dtr : (⟨2, ![16384, 128]⟩ : Shape).Idx → EReal
  sprev : (⟨2, ![16384, 1024]⟩ : Shape).Idx → EReal
  dy : (⟨2, ![16384, 1024]⟩ : Shape).Idx → EReal
  dtb : (⟨2, ![1, 128]⟩ : Shape).Idx → EReal
  alog : (⟨2, ![1, 128]⟩ : Shape).Idx → EReal
  dsk : (⟨2, ![1, 128]⟩ : Shape).Idx → EReal

/-- Position `l` of chunk `j` in the sequence. -/
def row (j l : Fin 128) : Fin 16384 := ⟨j.val * 128 + l.val, by omega⟩

/-- Head `r` of group `g`. -/
def head (g r : Fin 4) : Fin 128 := ⟨g.val * 4 + r.val, by omega⟩

/-- Lane `p` of head `r` of group `g` among the 1024 features. -/
def lane (g r : Fin 4) (p : Fin 64) : Fin 1024 := ⟨g.val * 256 + r.val * 64 + p.val, by omega⟩

/-- The logarithm of `1 + exp x`. -/
def softplus (x : EReal) : EReal := max x 0 + Ideal.log1p (Ideal.exp (-max x (-x)))

namespace Args
variable (A : Args)

/-- The step size of head `h` at a position. -/
def dt (i : Fin 16384) (h : Fin 128) : EReal := softplus (A.dtr (ix2 i h) + A.dtb (ix2 0 h))

/-- The log decay of head `h` at a position. -/
def da (i : Fin 16384) (h : Fin 128) : EReal := A.dt i h * -Ideal.exp (A.alog (ix2 0 h))

/-- The running sum of the log decays within chunk `j`. -/
def ac (j l : Fin 128) (h : Fin 128) : EReal := ∑ s : Fin 128, if s ≤ l then A.da (row j s) h else 0

/-- Group `g`'s part of chunk `j`. -/
def chunk (j : Fin 128) (g : Fin 4) : Chunk where
  x l r p := A.xc (ix2 (row j l) ⟨(lane g r p).val, by omega⟩)
  dy l r p := A.dy (ix2 (row j l) (lane g r p))
  s n r p := A.sprev (ix2 (row j n) (lane g r p))
  b l n := A.xc (ix2 (row j l) ⟨1024 + (g.val * 128 + n.val), by omega⟩)
  c l n := A.xc (ix2 (row j l) ⟨1536 + (g.val * 128 + n.val), by omega⟩)
  dt l r := A.dt (row j l) (head g r)
  ac l r := A.ac j l (head g r)
  tot r := A.ac j 127 (head g r)
  dk r := A.dsk (ix2 0 (head g r))

/-- The adjoint of group `g`'s state after `t` chunks, counted from the end: nothing follows the last chunk. -/
def adj (g : Fin 4) (t : ℕ) : Fin 128 → Fin 4 → Fin 64 → EReal :=
  t.rec (fun _ _ _ => 0) fun t a => (A.chunk ⟨127 - t, by omega⟩ g).back a

/-- The gradient of the first argument: of the inputs in the first 1024 columns, of `B` in the next 512 and of `C` in the last 512. -/
def grad (i : Fin 16384) (j : Fin 2048) : EReal :=
  let k : Fin 128 := ⟨i.val / 128, by omega⟩
  let l : Fin 128 := ⟨i.val % 128, by omega⟩
  if h : j.val < 1024 then
    let g : Fin 4 := ⟨j.val / 256, by omega⟩
    (A.chunk k g).dx (A.adj g (127 - k.val)) l ⟨j.val / 64 % 4, by omega⟩ ⟨j.val % 64, by omega⟩
  else if h' : j.val - 1024 < 512 then
    let g : Fin 4 := ⟨(j.val - 1024) / 128, by omega⟩
    (A.chunk k g).db (A.adj g (127 - k.val)) l ⟨(j.val - 1024) % 128, by omega⟩
  else
    (A.chunk k ⟨(j.val - 1024 - 512) / 128, by omega⟩).dc l ⟨(j.val - 1024 - 512) % 128, by omega⟩

end Args

end Cert.Proof
-- ==== Proof.RefOps.lean ====
module

public import proofs.«01_k».proof.Proof.Gen.ReferenceIdeal.Run
public import Idealize.ShloMosaic.Lib.StableHlo.RunRead
public import Idealize.ShloMosaic.Lib.Pointwise
public import Idealize.ShloMosaic.Lib.DynamicIndex
public import proofs.«01_k».proof.Proof.Spec

/-! The reference's operations that the reading by index does not open: sums over a rank-six array, the running sum, and one trip of
the loop over the chunks. -/

@[expose] public section
noncomputable section
open Idealize.ShloMosaic Idealize.ShloMosaic.TcCoe Idealize.SL.Sem
namespace Cert.Proof.Ref
open Cert.ReferenceIdeal Cert.ReferenceIdeal.Gen Cert.ReferenceIdeal.Value Idealize.ShloMosaic.StableHlo

/-- The sum over the heads of a rank-six array. -/
theorem sum_heads (x : S1x128x4x4x128x128.Idx → EReal) (z : EReal) (c l s : Fin 128) (g : Fin 4) :
    Ideal.hostReduceAdd reducesTo_S1x128x4x4x128x128_S1x128x4x128x128_d3 x z (ix5 0 c g l s)
      = z + ∑ r : Fin 4, x (ix6 0 c g r l s) := by
  rw [Ideal.hostReduceAdd_single _ (by decide)]
  congr 1
  refine Finset.sum_congr rfl fun r _ => congrArg x (funext fun a => ?_)
  fin_cases a <;> rfl

/-- The sum over two axes of extent one drops them. -/
theorem drop_unit (x : S1x128x4x1x128x128.Idx → EReal) (z : EReal) (c l s : Fin 128) (g : Fin 4) :
    Ideal.hostReduceAdd reducesTo_S1x128x4x1x128x128_S128x4x128x128_d0_3 x z (ix4 c g l s)
      = z + x (ix6 0 c g 0 l s) := by
  unfold Ideal.hostReduceAdd
  congr 1
  have hd : ∀ i : S1x128x4x1x128x128.Idx, reducesTo_S1x128x4x1x128x128_S128x4x128x128_d0_3.drop i = ix4 (i 1) (i 2) (i 4) (i 5) := by
    intro i
    funext a
    apply Fin.ext
    match a with
    | ⟨0, _⟩ => exact Shape.ReducesTo.drop_apply_val_of_eq _ i 0 1
    | ⟨1, _⟩ => exact Shape.ReducesTo.drop_apply_val_of_eq _ i 1 2
    | ⟨2, _⟩ => exact Shape.ReducesTo.drop_apply_val_of_eq _ i 2 4
    | ⟨3, _⟩ => exact Shape.ReducesTo.drop_apply_val_of_eq _ i 3 5
  rw [Finset.sum_filter]
  simp only [hd]
  rw [Fintype.sum_eq_single (ix6 0 c g 0 l s)]
  · exact if_pos (hd _)
  · intro i hne
    refine if_neg fun h' => hne (funext fun a => ?_)
    have h := (hd i).symm.trans h'
    match a with
    | ⟨0, _⟩ => exact Subsingleton.elim (α := Fin 1) _ _
    | ⟨1, _⟩ => exact congrFun h 0
    | ⟨2, _⟩ => exact congrFun h 1
    | ⟨3, _⟩ => exact Subsingleton.elim (α := Fin 1) _ _
    | ⟨4, _⟩ => exact congrFun h 2
    | ⟨5, _⟩ => exact congrFun h 3

/-- A window of 128 positions that ends at position `j` sums the entries up to `j`. -/
theorem sum_shift (f : Fin 128 → EReal) (j : Fin 128) :
    (∑ w : Fin 128, if h : 127 ≤ j.val + w.val then f ⟨j.val + w.val - 127, by omega⟩ else 0) = ∑ s : Fin 128, if s ≤ j then f s else 0 := by
  rw [← Equiv.sum_comp (Equiv.addRight (j + 1)) fun s => if s ≤ j then f s else 0]
  refine Finset.sum_congr rfl fun w _ => ?_
  have e : (w + (j + 1) : Fin 128).val = (w.val + (j.val + 1)) % 128 := by
    rw [Fin.val_add, Fin.val_add]; simp
  show _ = if (w + (j + 1) : Fin 128) ≤ j then f (w + (j + 1)) else 0
  by_cases h : 127 ≤ j.val + w.val
  · have e' : (w + (j + 1) : Fin 128) = ⟨j.val + w.val - 127, by omega⟩ := Fin.ext (by rw [e]; simp only; omega)
    rw [dif_pos h, e', if_pos (by rw [Fin.le_def]; simp only; omega)]
  · rw [dif_neg h, if_neg (by rw [Fin.le_def, e]; omega)]

/-- A left fold of additions is a sum. -/
theorem foldl_sum {n : ℕ} (f : Fin n → EReal) : (List.finRange n).foldl (fun r k => r + f k) 0 = ∑ k, f k := by
  rw [← List.sum_ofFn, List.ofFn_eq_map, List.sum_eq_foldl, List.foldl_map]

/-- A position of a window that is one wide but for its last axis is a number. -/
def window : Fin 128 ≃ (⟨5, ![1, 1, 1, 1, 128]⟩ : Shape).Idx where
  toFun w := ix5 0 0 0 0 w
  invFun i := i 4
  left_inv _ := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl

/-- The running sum along the last axis. -/
theorem running (x : FVec Ideal S1x128x4x4x128 .f32) (c l : Fin 128) (g r : Fin 4) :
    Ideal.hostReduceWindowAdd ![1, 1, 1, 1, 128] ![1, 1, 1, 1, 1] ![0, 0, 0, 0, 127] ![0, 0, 0, 0, 0]
      reduceWindows_S1x128x4x4x128_S1x128x4x4x128_w1s1p0_0_w1s1p0_0_w1s1p0_0_w1s1p0_0_w128s1p127_0 x 0 (ix5 0 c g r l) = ∑ s : Fin 128, if s ≤ l then x (ix5 0 c g r s) else 0 := by
  unfold Ideal.hostReduceWindowAdd Host.reduceWindow
  dsimp only
  rw [foldl_sum, ← sum_shift fun s => x (ix5 0 c g r s)]
  rw [← Equiv.sum_comp ((Shape.rowMajor ⟨5, ![1, 1, 1, 1, 128]⟩))]
  simp only [Equiv.symm_apply_apply]
  rw [← Equiv.sum_comp window]
  refine Finset.sum_congr rfl fun w _ => ?_
  show (if h : _ then _ else _) = _
  by_cases h : 127 ≤ l.val + w.val
  · rw [dif_pos h, dif_pos]
    · refine congrArg x (funext fun a => Fin.ext ?_)
      match a with
      | ⟨0, _⟩ => rfl
      | ⟨1, _⟩ => exact (Nat.mul_one c.val)
      | ⟨2, _⟩ => exact (Nat.mul_one g.val)
      | ⟨3, _⟩ => exact (Nat.mul_one r.val)
      | ⟨4, _⟩ => exact congrArg (· + w.val - 127) (Nat.mul_one l.val)
    · intro a
      match a with
      | ⟨0, _⟩ => exact ⟨Nat.zero_le _, Nat.zero_lt_one⟩
      | ⟨1, _⟩ => exact ⟨Nat.zero_le _, show c.val * 1 + 0 - 0 < 128 by omega⟩
      | ⟨2, _⟩ => exact ⟨Nat.zero_le _, show g.val * 1 + 0 - 0 < 4 by omega⟩
      | ⟨3, _⟩ => exact ⟨Nat.zero_le _, show r.val * 1 + 0 - 0 < 4 by omega⟩
      | ⟨4, _⟩ => exact ⟨show 127 ≤ l.val * 1 + w.val by omega, show l.val * 1 + w.val - 127 < 128 by omega⟩
  · rw [dif_neg h, dif_neg]
    intro hh
    have h4 : 127 ≤ l.val * 1 + w.val := (hh 4).1
    omega

/-- Trip `k` reads and writes chunk `127 - k`. -/
theorem start_eq (V : Valuation τ sig (Elt Ideal)) (k : ℕ) (hk : k < 128) (hctr : V (Proc.devRef .tc main_v100_2) = fun _ => Scf.iv 0#32 1#32 k) (a : Fin 6) :
    (((![res_main_while0b_v134 V, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt
      = ((![127 - k, 0, 0, 0, 0, 0] : Fin 6 → ℕ) a : ℤ) := by
  match a with
  | ⟨0, _⟩ =>
    show (res_main_while0b_v134 V (Shape.Idx.first h_S_)).toInt = ((127 - k : ℕ) : ℤ)
    unfold res_main_while0b_v134
    rw [hctr]
    show ((128#32 - Scf.iv 0#32 1#32 k) - 1#32).toInt = _
    have : ((128#32 - Scf.iv 0#32 1#32 k) - 1#32) = BitVec.ofNat 32 (127 - k) := by
      apply BitVec.eq_of_toNat_eq
      simp [Scf.iv]
      omega
    rw [this, toInt_ofNat_of_lt (by omega)]
  | ⟨1, _⟩ => rfl
  | ⟨2, _⟩ => rfl
  | ⟨3, _⟩ => rfl
  | ⟨4, _⟩ => rfl
  | ⟨5, _⟩ => rfl

/-- The loop's buffers: what each chunk adds to the adjoint, its decay, the running adjoint and the adjoint kept for each chunk. -/
abbrev ins (V : Valuation τ sig (Elt Ideal)) : S128x1x4x4x64x128.Idx → EReal := V (Proc.devRef .tc main_v100_0)
abbrev decays (V : Valuation τ sig (Elt Ideal)) : S128x1x4x4x1x1.Idx → EReal := V (Proc.devRef .tc main_v100_1)
abbrev state (V : Valuation τ sig (Elt Ideal)) : S1x4x4x64x128.Idx → EReal := V (Proc.devRef .tc main_v100_3)
abbrev states (V : Valuation τ sig (Elt Ideal)) : S128x1x4x4x64x128.Idx → EReal := V (Proc.devRef .tc main_v100_4)

/-- One trip's new adjoint. -/
theorem step3 (V : Valuation τ sig (Elt Ideal)) (k : ℕ) (hk : k < 128) (hctr : V (Proc.devRef .tc main_v100_2) = fun _ => Scf.iv 0#32 1#32 k)
    (g r : Fin 4) (p : Fin 64) (n : Fin 128) :
    state (STEP V) (ix5 0 g r p n)
      = ins V (ix6 ⟨127 - k, by omega⟩ 0 g r p n) + state V (ix5 0 g r p n) * decays V (ix6 ⟨127 - k, by omega⟩ 0 g r 0 0) := by
  have hs : S128x1x4x4x64x128.Slices ![127 - k, 0, 0, 0, 0, 0] S1x1x4x4x64x128 := by
    refine ⟨rfl, fun a => ?_⟩
    fin_cases a <;> simp <;> omega
  have hs' : S128x1x4x4x1x1.Slices ![127 - k, 0, 0, 0, 0, 0] S1x1x4x4x1x1 := by
    refine ⟨rfl, fun a => ?_⟩
    fin_cases a <;> simp <;> omega
  unfold state
  rw [STEP_main_v100_3]
  unfold step_main_v100_3
  simp only [id]
  rw [Host.dynamicSlice_eq_extractStridedSlice _ _ _ ![127 - k, 0, 0, 0, 0, 0] _ hs (start_eq V k hk hctr)]
  rw [Host.dynamicSlice_eq_extractStridedSlice _ _ _ ![127 - k, 0, 0, 0, 0, 0] _ hs' (start_eq V k hk hctr)]
  pointwise

/-- One trip keeps the old adjoint for its chunk. -/
theorem step4 (V : Valuation τ sig (Elt Ideal)) (k : ℕ) (hk : k < 128) (hctr : V (Proc.devRef .tc main_v100_2) = fun _ => Scf.iv 0#32 1#32 k)
    (c : Fin 128) (g r : Fin 4) (p : Fin 64) (n : Fin 128) :
    states (STEP V) (ix6 c 0 g r p n) = if c.val = 127 - k then state V (ix5 0 g r p n) else states V (ix6 c 0 g r p n) := by
  have hs : S128x1x4x4x64x128.Slices ![127 - k, 0, 0, 0, 0, 0] S1x1x4x4x64x128 := by
    refine ⟨rfl, fun a => ?_⟩
    fin_cases a <;> simp <;> omega
  unfold states
  rw [STEP_main_v100_4]
  unfold step_main_v100_4
  simp only [id]
  rw [Host.dynamicUpdateSlice_eq_updateSlice _ _ _ _ ![127 - k, 0, 0, 0, 0, 0] (fun a => ?_) hs]
  · pointwise
    by_cases h : c.val = 127 - k
    · rw [if_pos h, dif_pos]
      intro a
      match a with
      | ⟨0, _⟩ => exact ⟨h.ge, show c.val < 127 - k + 1 by omega⟩
      | ⟨1, _⟩ => exact ⟨Nat.zero_le _, show 0 < 0 + 1 by omega⟩
      | ⟨2, _⟩ => exact ⟨Nat.zero_le _, show g.val < 0 + 4 by omega⟩
      | ⟨3, _⟩ => exact ⟨Nat.zero_le _, show r.val < 0 + 4 by omega⟩
      | ⟨4, _⟩ => exact ⟨Nat.zero_le _, show p.val < 0 + 64 by omega⟩
      | ⟨5, _⟩ => exact ⟨Nat.zero_le _, show n.val < 0 + 128 by omega⟩
    · rw [if_neg h, dif_neg]
      intro hh
      have h0 : 127 - k ≤ c.val ∧ c.val < 127 - k + 1 := hh 0
      omega
  · rw [start_eq V k hk hctr]
    have := hs.2 a
    change ![127 - k, 0, 0, 0, 0, 0] a + S1x1x4x4x64x128.size a ≤ S128x1x4x4x64x128.size a at this
    show (min (max (((![127 - k, 0, 0, 0, 0, 0] : Fin 6 → ℕ) a : ℕ) : ℤ) 0) ((S128x1x4x4x64x128.size a - S1x1x4x4x64x128.size a : ℕ) : ℤ)).toNat = (![127 - k, 0, 0, 0, 0, 0] : Fin 6 → ℕ) a
    omega

end Cert.Proof.Ref
-- ==== Proof.Words.lean ====
module

public import Idealize.ShloMosaic.Lib.Pointwise
public import Idealize.ShloMosaic.PureOps.Ideal

/-! Comparisons of small positions held in 32-bit words, and the zeros and ones made from them. -/

@[expose] public section
noncomputable section
open Idealize.ShloMosaic

namespace Cert.Proof

theorem toInt_small {a : ℕ} (h : a < 128) : (BitVec.ofNat 32 a).toInt = a := by
  rw [BitVec.toInt_eq_toNat_of_lt (by rw [BitVec.toNat_ofNat]; omega), BitVec.toNat_ofNat]
  omega

/-- "at or after", of two positions in a chunk. -/
theorem cmpi_sge (a b : Fin 128) : IntOp.cmpi .sge (BitVec.ofNat 32 a.val) (BitVec.ofNat 32 b.val) = if b ≤ a then 1#1 else 0#1 := by
  show BitVec.ofBool ((BitVec.ofNat 32 b.val).sle (BitVec.ofNat 32 a.val)) = _
  unfold BitVec.sle
  rw [toInt_small a.isLt, toInt_small b.isLt]
  by_cases h : b ≤ a
  · rw [if_pos h, decide_eq_true (by rw [Fin.le_def] at h; omega)]; rfl
  · rw [if_neg h, decide_eq_false (by rw [Fin.le_def] at h; omega)]; rfl

/-- "equal", of two small numbers. -/
theorem cmpi_eq {a b : ℕ} (ha : a < 128) (hb : b < 128) : IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h]; simp
  · rw [if_neg h, beq_eq_false_iff_ne.2 fun e => h (by have := congrArg BitVec.toInt e; rw [toInt_small ha, toInt_small hb] at this; omega)]; rfl

/-- A bit made into a float. -/
theorem sitofp_bit (p : Prop) [Decidable p] :
    FloatOps.sitofp (F := Ideal) .f32 (BitVec.setWidth 32 (if p then 1#1 else 0#1)) = if p then (1 : EReal) else 0 := by
  split
  · show (((BitVec.setWidth 32 1#1).toInt : ℝ) : EReal) = 1
    norm_num
  · show (((BitVec.setWidth 32 0#1).toInt : ℝ) : EReal) = 0
    norm_num

theorem select_bit {α : Type} (p : Prop) [Decidable p] (x y : α) : Scalar.select (if p then 1#1 else 0#1) x y = if p then x else y := by
  split <;> rfl

/-- The word of minus infinity. -/
theorem ofBits_bot : Ideal.ofBits .f32 0xFF800000#32 = ⊥ := by
  simp [Ideal.ofBits, Ideal.ieee]

end Cert.Proof
-- ==== Proof.RefRead.lean ====
/-
  What the reference's stretches before the loop leave, entry by entry, in the terms of `Spec.lean`.
-/
module

public import proofs.«01_k».proof.Proof.Gen.ReferenceIdeal.Run
public import Idealize.ShloMosaic.Lib.StableHlo.RunRead
public import Idealize.ShloMosaic.Lib.Pointwise
public import Idealize.ShloMosaic.Lib.DynamicIndex
public import proofs.«01_k».proof.Proof.Spec
public import proofs.«01_k».proof.Proof.RefOps
public import proofs.«01_k».proof.Proof.Words

@[expose] public section
noncomputable section
open Idealize.ShloMosaic Idealize.ShloMosaic.TcCoe Idealize.SL.Sem
namespace Cert.Proof.Ref
open Cert.ReferenceIdeal Cert.ReferenceIdeal.Gen Cert.ReferenceIdeal.Value Idealize.ShloMosaic.StableHlo

/-- The arguments as arrays. -/
def argsOf (V : Valuation τ sig (Elt Ideal)) : Args where
  xc := V (Proc.devRef .tc main_arg0)
  dtr := V (Proc.devRef .tc main_arg1)
  sprev := V (Proc.devRef .tc main_arg2)
  dy := V (Proc.devRef .tc main_arg3)
  dtb := V (Proc.devRef .tc main_arg4)
  alog := V (Proc.devRef .tc main_arg5)
  dsk := V (Proc.devRef .tc main_arg6)

/-- The contents after the first three stretches. -/
def P2 (V : Valuation τ sig (Elt Ideal)) : Valuation τ sig (Elt Ideal) := after hostOps0_2 (after hostOps0_1 (after hostOps0 V))
/-- … after four. -/
def P3 (V : Valuation τ sig (Elt Ideal)) : Valuation τ sig (Elt Ideal) := after hostOps0_3 (P2 V)
/-- … after eight. -/
def P7 (V : Valuation τ sig (Elt Ideal)) : Valuation τ sig (Elt Ideal) := after hostOps0_7 (after hostOps0_6 (after hostOps0_5 (after hostOps0_4 (P3 V))))
/-- … when the loop begins. -/
def P8 (V : Valuation τ sig (Elt Ideal)) : Valuation τ sig (Elt Ideal) := after hostOps0_8 (P7 V)

/-! A buffer read by a module-local function is read at its own type. -/

theorem ofBuf_v6 {h1 h2 h3} (v : S1x16384x16.Idx → EReal) : (StableHlo.TRef.of main_v6 h1 h2 h3 : StableHlo.TRef sig ⟨S1x16384x16, .f32⟩).ofBuf (Val := Elt Ideal) v = v := rfl
theorem toBuf_v7 {h1 h2 h3} (v : S1x16384x16.Idx → EReal) : (StableHlo.TRef.of main_v7 h1 h2 h3 : StableHlo.TRef sig ⟨S1x16384x16, .f32⟩).toBuf (Val := Elt Ideal) v = v := rfl

theorem ofBuf_v30 {h1 h2 h3} (v : S1x128x4x4x128.Idx → EReal) : (StableHlo.TRef.of main_v30 h1 h2 h3 : StableHlo.TRef sig ⟨S1x128x4x4x128, .f32⟩).ofBuf (Val := Elt Ideal) v = v := rfl
theorem toBuf_v31 {h1 h2 h3} (v : S1x128x4x4x128.Idx → EReal) : (StableHlo.TRef.of main_v31 h1 h2 h3 : StableHlo.TRef sig ⟨S1x128x4x4x128, .f32⟩).toBuf (Val := Elt Ideal) v = v := rfl
theorem ofBuf_v36 {h1 h2 h3} (v : S1x128x4x4x128x128.Idx → EReal) : (StableHlo.TRef.of main_v36 h1 h2 h3 : StableHlo.TRef sig ⟨S1x128x4x4x128x128, .f32⟩).ofBuf (Val := Elt Ideal) v = v := rfl
theorem ofBuf_v37 {h1 h2 h3} (v : S128x128.Idx → BitVec 1) : (StableHlo.TRef.of main_v37 h1 h2 h3 : StableHlo.TRef sig ⟨S128x128, .i1⟩).ofBuf (Val := Elt Ideal) v = v := rfl
theorem ofBuf_cst {h1 h2 h3} (v : S_.Idx → EReal) : (StableHlo.TRef.of main_cst h1 h2 h3 : StableHlo.TRef sig ⟨S_, .f32⟩).ofBuf (Val := Elt Ideal) v = v := rfl
theorem toBuf_v39 {h1 h2 h3} (v : S1x128x4x4x128x128.Idx → EReal) : (StableHlo.TRef.of main_v39 h1 h2 h3 : StableHlo.TRef sig ⟨S1x128x4x4x128x128, .f32⟩).toBuf (Val := Elt Ideal) v = v := rfl

variable (V : Valuation τ sig (Elt Ideal))

theorem v8 (i : Fin 16384) (g r : Fin 4) :
    (P2 V (Proc.devRef .tc main_v8) : S1x16384x4x4.Idx → EReal) (ix4 0 i g r) = (argsOf V).dt i (head g r) := by
  unfold P2
  after_reads_simp
  simp only [StableHlo.TRef.ofBuf_toBuf]
  simp only [ofBuf_v6, toBuf_v7]
  pointwise
  rw [if_neg (not_not.2 rfl)]
  rfl
theorem v30 (c l : Fin 128) (g r : Fin 4) :
    (P2 V (Proc.devRef .tc main_v30) : S1x128x4x4x128.Idx → EReal) (ix5 0 c g r l) = (argsOf V).da (row c l) (head g r) := by
  unfold P2
  after_reads_simp
  simp only [StableHlo.TRef.ofBuf_toBuf]
  simp only [ofBuf_v6, toBuf_v7]
  pointwise
  rw [if_neg (not_not.2 rfl)]
  rfl
theorem v31 (c l : Fin 128) (g r : Fin 4) :
    (P3 V (Proc.devRef .tc main_v31) : S1x128x4x4x128.Idx → EReal) (ix5 0 c g r l) = (argsOf V).ac c l (head g r) := by
  unfold P3
  after_reads_simp
  simp only [StableHlo.TRef.ofBuf_toBuf]
  simp only [ofBuf_v30, toBuf_v31]
  have h0 : (broadcastInDim S_ ![] bcast_S_S_ (constant (F := Ideal) S_ FTy.f32 0#32) (Shape.Idx.first h_S_) : EReal) = 0 := by
    pointwise
  refine Eq.trans ?_ ((running (P2 V (Proc.devRef .tc main_v30)) c l g r).trans ?_)
  · rw [← h0]
    rfl
  exact Finset.sum_congr rfl fun s _ => congrArg (fun y => if s ≤ l then y else (0 : EReal)) (v30 V c s g r)
theorem v39 (c l s : Fin 128) (g r : Fin 4) :
    (P7 V (Proc.devRef .tc main_v39) : S1x128x4x4x128x128.Idx → EReal) (ix6 0 c g r l s)
      = if s ≤ l then (argsOf V).ac c l (head g r) - (argsOf V).ac c s (head g r) else ⊥ := by
  unfold P7
  after_reads_simp
  simp only [StableHlo.TRef.ofBuf_toBuf]
  simp only [ofBuf_v36, ofBuf_v37, toBuf_v39, ofBuf_cst, id]
  pointwise
  rw [show IntOp.addi (BitVec.ofNat 32 l.val) 0#32 = BitVec.ofNat 32 l.val from BitVec.add_zero _, cmpi_sge, select_bit, select_bit, ofBits_bot]
  have h : ∀ t, (P3 V (Proc.devRef .tc main_v31) : S1x128x4x4x128.Idx → EReal) (ix5 0 c g r t) = (argsOf V).ac c t (head g r) := fun t => v31 V c t g r
  split
  · exact congrArg₂ (· - ·) (h l) (h s)
  · rfl
theorem P7_v31 (c l : Fin 128) (g r : Fin 4) :
    (P7 V (Proc.devRef .tc main_v31) : S1x128x4x4x128.Idx → EReal) (ix5 0 c g r l) = (argsOf V).ac c l (head g r) := by
  unfold P7
  after_reads_simp
  exact v31 V c l g r
theorem P7_v8 (i : Fin 16384) (g r : Fin 4) :
    (P7 V (Proc.devRef .tc main_v8) : S1x16384x4x4.Idx → EReal) (ix4 0 i g r) = (argsOf V).dt i (head g r) := by
  unfold P7 P3
  after_reads_simp
  exact v8 V i g r
theorem P7_v17 (g r : Fin 4) :
    (P7 V (Proc.devRef .tc main_v17) : S4x4x1.Idx → EReal) (ix3 g r 0) = (argsOf V).dsk (ix2 0 (head g r)) := by
  unfold P7 P3 P2
  after_reads_simp
  pointwise
  rfl
theorem P7_v19 (i : Fin 16384) (j : Fin 1024) :
    (P7 V (Proc.devRef .tc main_v19) : S1x16384x1024.Idx → EReal) (ix3 0 i j) = (argsOf V).xc (ix2 i ⟨j.val, by omega⟩) := by
  unfold P7 P3 P2
  after_reads_simp
  pointwise
  rfl
theorem P7_v22 (i : Fin 16384) (g : Fin 4) (n : Fin 128) :
    (P7 V (Proc.devRef .tc main_v22) : S1x16384x4x128.Idx → EReal) (ix4 0 i g n) = (argsOf V).xc (ix2 i ⟨1024 + (g.val * 128 + n.val), by omega⟩) := by
  unfold P7 P3 P2
  after_reads_simp
  pointwise
  rfl
theorem P7_v23 (i : Fin 16384) (g : Fin 4) (n : Fin 128) :
    (P7 V (Proc.devRef .tc main_v23) : S1x16384x4x128.Idx → EReal) (ix4 0 i g n) = (argsOf V).xc (ix2 i ⟨1536 + (g.val * 128 + n.val), by omega⟩) := by
  unfold P7 P3 P2
  after_reads_simp
  pointwise
  rfl
theorem P7_v25 (c n : Fin 128) (g r : Fin 4) (p : Fin 64) :
    (P7 V (Proc.devRef .tc main_v25) : S1x128x4x4x64x128.Idx → EReal) (ix6 0 c g r p n) = (argsOf V).sprev (ix2 (row c n) (lane g r p)) := by
  unfold P7 P3 P2
  after_reads_simp
  pointwise
  rfl
theorem P7_arg3 : P7 V (Proc.devRef .tc main_arg3) = (argsOf V).dy := by
  unfold P7 P3 P2
  after_reads_simp
  rfl

/-! ## When the loop begins -/

theorem P8_ins (c : Fin 128) (g r : Fin 4) (p : Fin 64) (n : Fin 128) :
    ins (P8 V) (ix6 c 0 g r p n) = ∑ l, ((argsOf V).chunk c g).dy l r p * Ideal.exp (((argsOf V).chunk c g).ac l r) * ((argsOf V).chunk c g).c l n := by
  unfold ins P8
  after_reads_simp
  simp only [id]
  pointwise
  refine Finset.sum_congr rfl fun l _ => ?_
  rw [P7_arg3, P7_v31, P7_v23]
  rfl
theorem P8_decays (c : Fin 128) (g r : Fin 4) : decays (P8 V) (ix6 c 0 g r 0 0) = Ideal.exp (((argsOf V).chunk c g).tot r) := by
  unfold decays P8
  after_reads_simp
  simp only [id]
  pointwise
  rw [P7_v31]
  rfl
theorem P8_state (g r : Fin 4) (p : Fin 64) (n : Fin 128) : state (P8 V) (ix5 0 g r p n) = 0 := by
  unfold state P8
  after_reads_simp
  simp only [id]
  pointwise
/-- The arrays that the gradient of `cb` is made of, at their own types. -/
abbrev dyOf : S16384x1024.Idx → EReal := P7 V (Proc.devRef .tc main_arg3)
abbrev xOf : S1x16384x1024.Idx → EReal := P7 V (Proc.devRef .tc main_v19)
abbrev dtOf : S1x16384x4x4.Idx → EReal := P7 V (Proc.devRef .tc main_v8)
abbrev decOf : S1x128x4x4x128x128.Idx → EReal := P7 V (Proc.devRef .tc main_v39)
abbrev bOf : S1x16384x4x128.Idx → EReal := P7 V (Proc.devRef .tc main_v22)
abbrev cOf : S1x16384x4x128.Idx → EReal := P7 V (Proc.devRef .tc main_v23)

theorem dcb_read (c l s : Fin 128) (g : Fin 4) :
    (∑ r : Fin 4, (∑ p : Fin 64, dyOf V (ix2 (row c l) (lane g r p))
        * (xOf V (ix3 0 (row c s) (lane g r p)) * dtOf V (ix4 0 (row c s) g r)))
      * Ideal.exp (decOf V (ix6 0 c g r l s)))
      = ((argsOf V).chunk c g).dcb l s :=
  Finset.sum_congr rfl fun r _ => congrArg₂ (· * ·)
    (Finset.sum_congr rfl fun p _ => congrArg₂ (· * ·) (congrFun (P7_arg3 V) _)
      (congrArg₂ (· * ·) (P7_v19 V (row c s) (lane g r p)) (P7_v8 V (row c s) g r)))
    (congrArg Ideal.exp (v39 V c l s g r))
theorem P8_v87 (c l s : Fin 128) (g : Fin 4) :
    (P8 V (Proc.devRef .tc main_v87) : S1x128x4x128x128.Idx → EReal) (ix5 0 c g l s) = ((argsOf V).chunk c g).dcb l s := by
  unfold P8
  after_reads_simp
  pointwise [drop_unit, sum_heads]
  exact dcb_read V c l s g
theorem P8_v93 (c l : Fin 128) (g : Fin 4) (n : Fin 128) :
    (P8 V (Proc.devRef .tc main_v93) : S1x16384x4x128.Idx → EReal) (ix4 0 (row c l) g n) = ((argsOf V).chunk c g).dc l n := by
  unfold P8 row
  after_reads_simp
  pointwise [drop_unit, sum_heads]
  refine congrArg₂ (· + ·) (Finset.sum_congr rfl fun r _ => Finset.sum_congr rfl fun p _ => ?_)
    (Finset.sum_congr rfl fun s _ => congrArg₂ (· * ·) (dcb_read V c l s g) (P7_v22 V (row c s) g n))
  rw [P7_arg3, P7_v31, P7_v25]
  rfl
theorem db_read (c s : Fin 128) (g : Fin 4) (n : Fin 128) :
    (∑ l : Fin 128, (∑ r : Fin 4, (∑ p : Fin 64, dyOf V (ix2 (row c l) (lane g r p))
        * (xOf V (ix3 0 (row c s) (lane g r p)) * dtOf V (ix4 0 (row c s) g r)))
      * Ideal.exp (decOf V (ix6 0 c g r l s))) * cOf V (ix4 0 (row c l) g n))
      = ∑ l, ((argsOf V).chunk c g).dcb l s * ((argsOf V).chunk c g).c l n :=
  Finset.sum_congr rfl fun l _ => congrArg₂ (· * ·) (dcb_read V c l s g) (P7_v23 V (row c l) g n)
theorem P8_v94 (c s : Fin 128) (g : Fin 4) (n : Fin 128) :
    (P8 V (Proc.devRef .tc main_v94) : S1x16384x4x128.Idx → EReal) (ix4 0 (row c s) g n) = ∑ l, ((argsOf V).chunk c g).dcb l s * ((argsOf V).chunk c g).c l n := by
  unfold P8 row
  after_reads_simp
  pointwise [drop_unit, sum_heads]
  exact db_read V c s g n
theorem diag_read (c s : Fin 128) (g r : Fin 4) (p : Fin 64) :
    (∑ l : Fin 128, dyOf V (ix2 (row c l) (lane g r p))
        * ((∑ n : Fin 128, cOf V (ix4 0 (row c l) g n) * bOf V (ix4 0 (row c s) g n)) * Ideal.exp (decOf V (ix6 0 c g r l s))))
      = ∑ l, ((argsOf V).chunk c g).dy l r p * (((argsOf V).chunk c g).cb l s * ((argsOf V).chunk c g).dec r l s) :=
  Finset.sum_congr rfl fun l _ => congrArg₂ (· * ·) (congrFun (P7_arg3 V) _)
    (congrArg₂ (· * ·) (Finset.sum_congr rfl fun n _ => congrArg₂ (· * ·) (P7_v23 V (row c l) g n) (P7_v22 V (row c s) g n))
      (congrArg Ideal.exp (v39 V c l s g r)))
theorem P8_v82 (c s : Fin 128) (g r : Fin 4) (p : Fin 64) :
    (P8 V (Proc.devRef .tc main_v82) : S1x128x128x4x4x64.Idx → EReal) (ix6 0 c s g r p)
      = ∑ l, ((argsOf V).chunk c g).dy l r p * (((argsOf V).chunk c g).cb l s * ((argsOf V).chunk c g).dec r l s) := by
  unfold P8
  after_reads_simp
  pointwise [drop_unit, sum_heads]
  exact diag_read V c s g r p
theorem P8_v44 (c l : Fin 128) (g r : Fin 4) :
    (P8 V (Proc.devRef .tc main_v44) : S1x128x4x4x128.Idx → EReal) (ix5 0 c g r l)
      = Ideal.exp (((argsOf V).chunk c g).tot r - ((argsOf V).chunk c g).ac l r) := by
  unfold P8
  after_reads_simp
  pointwise
  rw [P7_v31, P7_v31]
  rfl
theorem P8_v50 (c l : Fin 128) (g r : Fin 4) (p : Fin 64) :
    (P8 V (Proc.devRef .tc main_v50) : S1x16384x4x4x64.Idx → EReal) (ix5 0 (row c l) g r p) = ((argsOf V).chunk c g).dy l r p := by
  unfold P8
  after_reads_simp
  pointwise
  rw [P7_arg3]
  rfl
theorem P8_v52 (c l : Fin 128) (g r : Fin 4) :
    (P8 V (Proc.devRef .tc main_v52) : S1x16384x4x4x1.Idx → EReal) (ix5 0 (row c l) g r 0) = ((argsOf V).chunk c g).dt l r := by
  unfold P8
  after_reads_simp
  pointwise
  exact P7_v8 V (row c l) g r
theorem P8_v55 (c l : Fin 128) (g r : Fin 4) (p : Fin 64) :
    (P8 V (Proc.devRef .tc main_v55) : S1x128x128x4x4x64.Idx → EReal) (ix6 0 c l g r p)
      = ((argsOf V).chunk c g).x l r p * ((argsOf V).chunk c g).dt l r := by
  unfold P8
  after_reads_simp
  pointwise
  exact congrArg₂ (· * ·) (P7_v19 V (row c l) (lane g r p)) (P7_v8 V (row c l) g r)

end Cert.Proof.Ref
-- ==== Proof.RefValue.lean ====
/-
  The reference's result, entry by entry: the loop over the chunks carries the adjoint of the state backwards and keeps
  it for every chunk, and the stretch after the loop puts the gradients together.
-/
module

public import proofs.«01_k».proof.Proof.RefRead
public import proofs.«01_k».proof.Proof.RefLoop

@[expose] public section
noncomputable section
open Idealize.ShloMosaic Idealize.ShloMosaic.TcCoe Idealize.SL.Sem
namespace Cert.Proof.Ref
open Cert.ReferenceIdeal Cert.ReferenceIdeal.Gen Cert.ReferenceIdeal.Value Idealize.ShloMosaic.StableHlo

variable (m : (ℓ : Loc nD τ sig) → Buf (Elt Ideal) ℓ) (c : Dev nD)

/-- The arguments of a device. -/
abbrev given : Args := argsOf (launchContents m c)

theorem entry_eq : entryContents preI m c = P8 (launchContents m c) := rfl

/-- What the loop carries after `k` trips. -/
abbrev after_trips (k : ℕ) : Valuation τ sig (Elt Ideal) := STEP^[k] (entryContents preI m c)

theorem trips_ctr (k : ℕ) : after_trips m c k (Proc.devRef .tc main_v100_2) = fun _ => Scf.iv 0#32 1#32 k :=
  (atK_agree m c k main_v100_2 (by decide)).symm.trans (atK_ctr m c k)

theorem trips_ins (k : ℕ) : ins (after_trips m c k) = ins (P8 (launchContents m c)) := by
  induction k with
  | zero => rfl
  | succ k ih =>
    rw [← ih]
    unfold after_trips
    rw [Function.iterate_succ_apply']
    exact STEP_main_v100_0 _

theorem trips_decays (k : ℕ) : decays (after_trips m c k) = decays (P8 (launchContents m c)) := by
  induction k with
  | zero => rfl
  | succ k ih =>
    rw [← ih]
    unfold after_trips
    rw [Function.iterate_succ_apply']
    exact STEP_main_v100_1 _

/-- After `k` trips the loop carries the adjoint of the state that leaves chunk `127 - k`. -/
theorem trips_state (g r : Fin 4) (p : Fin 64) (n : Fin 128) (k : ℕ) (hk : k ≤ 128) :
    state (after_trips m c k) (ix5 0 g r p n) = (given m c).adj g k n r p := by
  induction k with
  | zero => exact P8_state (launchContents m c) g r p n
  | succ k ih =>
    have e : after_trips m c (k + 1) = STEP (after_trips m c k) := Function.iterate_succ_apply' _ _ _
    rw [e, step3 _ k (by omega) (trips_ctr m c k), ih (by omega), trips_ins, trips_decays, P8_ins, P8_decays]
    rfl

/-- … and has kept the adjoint of every state that leaves a chunk it has passed. -/
theorem trips_states (j : Fin 128) (g r : Fin 4) (p : Fin 64) (n : Fin 128) (k : ℕ) (hk : k ≤ 128) (hj : 128 ≤ j.val + k) :
    states (after_trips m c k) (ix6 j 0 g r p n) = (given m c).adj g (127 - j.val) n r p := by
  induction k with
  | zero => omega
  | succ k ih =>
    have e : after_trips m c (k + 1) = STEP (after_trips m c k) := Function.iterate_succ_apply' _ _ _
    rw [e, step4 _ k (by omega) (trips_ctr m c k)]
    by_cases h : j.val = 127 - k
    · rw [if_pos h, trips_state m c g r p n k (by omega), show 127 - j.val = k by omega]
    · rw [if_neg h, ih (by omega) (by omega)]

theorem done_states (j : Fin 128) (g r : Fin 4) (p : Fin 64) (n : Fin 128) :
    states (done m c) (ix6 j 0 g r p n) = (given m c).adj g (127 - j.val) n r p := by
  have h : states (done m c) = states (after_trips m c 128) := by
    unfold states done
    rw [after_of_writes_sub _ _ condOps_writes (by decide)]
    exact atK_agree m c 128 main_v100_4 (by decide)
  rw [h]
  exact trips_states m c j g r p n 128 le_rfl (by omega)

/-- What the last stretch reads but the loop does not touch. -/
theorem done_at (b : Ref sig .tc) (h : b ∉ tripWrites) :
    done m c (Proc.devRef .tc b) = P8 (launchContents m c) (Proc.devRef .tc b) := done_keeps m c b h

variable (V : Valuation τ sig (Elt Ideal))

theorem P8_v17 (g r : Fin 4) : (P8 V (Proc.devRef .tc main_v17) : S4x4x1.Idx → EReal) (ix3 g r 0) = (argsOf V).dsk (ix2 0 (head g r)) := by
  unfold P8
  after_reads_simp
  exact P7_v17 V g r
theorem P8_v22 (i : Fin 16384) (g : Fin 4) (n : Fin 128) :
    (P8 V (Proc.devRef .tc main_v22) : S1x16384x4x128.Idx → EReal) (ix4 0 i g n) = (argsOf V).xc (ix2 i ⟨1024 + (g.val * 128 + n.val), by omega⟩) := by
  unfold P8
  after_reads_simp
  exact P7_v22 V i g n

/-! What the last stretch reads, each at its own type. -/

abbrev skipG (W : Valuation τ sig (Elt Ideal)) : S4x4x1.Idx → EReal := W (Proc.devRef .tc main_v17)
abbrev dyG (W : Valuation τ sig (Elt Ideal)) : S1x16384x4x4x64.Idx → EReal := W (Proc.devRef .tc main_v50)
abbrev diagG (W : Valuation τ sig (Elt Ideal)) : S1x128x128x4x4x64.Idx → EReal := W (Proc.devRef .tc main_v82)
abbrev bG (W : Valuation τ sig (Elt Ideal)) : S1x16384x4x128.Idx → EReal := W (Proc.devRef .tc main_v22)
abbrev endG (W : Valuation τ sig (Elt Ideal)) : S1x128x4x4x128.Idx → EReal := W (Proc.devRef .tc main_v44)
abbrev dtG (W : Valuation τ sig (Elt Ideal)) : S1x16384x4x4x1.Idx → EReal := W (Proc.devRef .tc main_v52)
abbrev dbG (W : Valuation τ sig (Elt Ideal)) : S1x16384x4x128.Idx → EReal := W (Proc.devRef .tc main_v94)
abbrev xdtG (W : Valuation τ sig (Elt Ideal)) : S1x128x128x4x4x64.Idx → EReal := W (Proc.devRef .tc main_v55)
abbrev dcG (W : Valuation τ sig (Elt Ideal)) : S1x16384x4x128.Idx → EReal := W (Proc.devRef .tc main_v93)

variable (W : Valuation τ sig (Elt Ideal))

/-! A position's chunk and place in it, a lane's group, head and place in it. -/

theorem row_div (k l : Fin 128) (h) : (⟨(row k l).val / 128, h⟩ : Fin 128) = k := Fin.ext (by simp only [row]; omega)
theorem row_mod (k l : Fin 128) (h) : (⟨(row k l).val % 128, h⟩ : Fin 128) = l := Fin.ext (by simp only [row]; omega)
theorem row_back (k l : Fin 128) (h) : (⟨(row k l).val / 128 * 128 + (row k l).val % 128, h⟩ : Fin 16384) = row k l :=
  Fin.ext (by simp only; omega)
theorem lane_div (g r : Fin 4) (p : Fin 64) (h) : (⟨(lane g r p).val / 256, h⟩ : Fin 4) = g := Fin.ext (by simp only [lane]; omega)
theorem lane_mid (g r : Fin 4) (p : Fin 64) (h) : (⟨(lane g r p).val / 64 % 4, h⟩ : Fin 4) = r := Fin.ext (by simp only [lane]; omega)
theorem lane_mod (g r : Fin 4) (p : Fin 64) (h) : (⟨(lane g r p).val % 64, h⟩ : Fin 64) = p := Fin.ext (by simp only [lane]; omega)

/-- The result as the last stretch leaves it. -/
abbrev resultG : S16384x2048.Idx → EReal := after hostOps0_9 W (Proc.devRef .tc main_v132)

theorem result_x (k l : Fin 128) (g r : Fin 4) (p : Fin 64) :
    resultG W (ix2 (row k l) ⟨(lane g r p).val, by omega⟩)
      = skipG W (ix3 g r 0) * dyG W (ix5 0 (row k l) g r p)
        + (diagG W (ix6 0 k l g r p) + (∑ n : Fin 128, states W (ix6 k 0 g r p n) * bG W (ix4 0 (row k l) g n)) * endG W (ix5 0 k g r l))
          * dtG W (ix5 0 (row k l) g r 0) := by
  unfold resultG
  after_reads_simp
  pointwise
  after_reads_simp
  pointwise
  simp only [row_div, row_mod, row_back, lane_div, lane_mid, lane_mod]
theorem result_b (k l : Fin 128) (g : Fin 4) (n : Fin 128) :
    resultG W (ix2 (row k l) ⟨1024 + (g.val * 128 + n.val), by omega⟩)
      = dbG W (ix4 0 (row k l) g n)
        + ∑ r : Fin 4, ∑ p : Fin 64, states W (ix6 k 0 g r p n) * (xdtG W (ix6 0 k l g r p) * endG W (ix5 0 k g r l)) := by
  unfold resultG
  after_reads_simp
  pointwise
  after_reads_simp
  pointwise
  simp only [row_div, row_mod, row_back, lane_div, lane_mid, lane_mod]
  rw [dif_pos (by omega)]
theorem result_c (k l : Fin 128) (g : Fin 4) (n : Fin 128) :
    resultG W (ix2 (row k l) ⟨1536 + (g.val * 128 + n.val), by omega⟩) = dcG W (ix4 0 (row k l) g n) := by
  unfold resultG
  after_reads_simp
  pointwise
  rw [dif_neg (by omega), dif_neg (by omega)]
  after_reads_simp
  pointwise
  exact congrArg₂ (fun x y => dcG W (ix4 0 (row k l) x y)) (Fin.ext (by simp only; omega)) (Fin.ext (by simp only; omega))

/-! ## The result -/

/-- A row of the sequence is a chunk and a position in it. -/
theorem exists_row (i : Fin 16384) : ∃ k l, i = row k l :=
  ⟨⟨i.val / 128, by omega⟩, ⟨i.val % 128, by omega⟩, Fin.ext (by simp only [row]; omega)⟩

/-- A buffer that the loop does not touch holds an entry at its end if it does at its start. -/
theorem done_entry (b : Ref sig .tc) (h : b ∉ tripWrites) (i) {x} (e : P8 (launchContents m c) (Proc.devRef .tc b) i = x) :
    done m c (Proc.devRef .tc b) i = x := (congrFun (done_at m c b h) i).trans e

theorem value_x (k l : Fin 128) (g r : Fin 4) (p : Fin 64) :
    resultG (done m c) (ix2 (row k l) ⟨(lane g r p).val, by omega⟩)
      = ((given m c).chunk k g).dx ((given m c).adj g (127 - k.val)) l r p := by
  rw [result_x]
  unfold Chunk.dx
  refine congrArg₂ (· + ·) ?_ (congrArg₂ (· * ·) (congrArg₂ (· + ·) ?_ (congrArg₂ (· * ·) ?_ ?_)) ?_)
  · rw [mul_comm]
    exact congrArg₂ (· * ·) (done_entry m c main_v50 (by decide) _ (P8_v50 _ k l g r p))
      (done_entry m c main_v17 (by decide) _ (P8_v17 _ g r))
  · exact done_entry m c main_v82 (by decide) _ (P8_v82 _ k l g r p)
  · exact Finset.sum_congr rfl fun n _ => congrArg₂ (· * ·) (done_states m c k g r p n)
      (done_entry m c main_v22 (by decide) _ (P8_v22 _ (row k l) g n))
  · exact done_entry m c main_v44 (by decide) _ (P8_v44 _ k l g r)
  · exact done_entry m c main_v52 (by decide) _ (P8_v52 _ k l g r)

theorem value_b (k l : Fin 128) (g : Fin 4) (n : Fin 128) :
    resultG (done m c) (ix2 (row k l) ⟨1024 + (g.val * 128 + n.val), by omega⟩)
      = ((given m c).chunk k g).db ((given m c).adj g (127 - k.val)) l n :=
  (result_b _ k l g n).trans (congrArg₂ (· + ·) (done_entry m c main_v94 (by decide) _ (P8_v94 _ k l g n))
    (Finset.sum_congr rfl fun r _ => Finset.sum_congr rfl fun p _ => congrArg₂ (· * ·) (done_states m c k g r p n)
      (congrArg₂ (· * ·) (done_entry m c main_v55 (by decide) _ (P8_v55 _ k l g r p))
        (done_entry m c main_v44 (by decide) _ (P8_v44 _ k l g r)))))

theorem value_c (k l : Fin 128) (g : Fin 4) (n : Fin 128) :
    resultG (done m c) (ix2 (row k l) ⟨1536 + (g.val * 128 + n.val), by omega⟩) = ((given m c).chunk k g).dc l n :=
  (result_c _ k l g n).trans (done_entry m c main_v93 (by decide) _ (P8_v93 _ k l g n))

end Cert.Proof.Ref
-- ==== Proof.KernelOps.lean ====
/-
  What the kernel's masks and picks are, read at an index.
-/
module
public import proofs.«01_k».proof.Proof.Words
public import proofs.«01_k».proof.Proof.Spec
@[expose] public section
noncomputable section
open Idealize.ShloMosaic Idealize.ShloMosaic.TcCoe Idealize.SL.Sem
namespace Cert.Proof.Kern

/-- A lane of a group, as head and place within the head. -/
abbrev spot (r : Fin 4) (p : Fin 64) : Fin 256 := ⟨r.val * 64 + p.val, by omega⟩

/-- The word of the head that a lane lies in, as the kernel computes it by a floor division. -/
abbrev floorW (w : BitVec 32) : BitVec 32 :=
  Scalar.select (IntOp.andi (IntOp.cmpi CmpIPredicate.ne (IntOp.subi (BitVec.setWidth 32 (IntOp.cmpi CmpIPredicate.sgt w 0#32))
      (BitVec.setWidth 32 (IntOp.cmpi CmpIPredicate.slt w 0#32)))
      (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32) (IntOp.divsi ArithUnit.vector w 64#32)

theorem floorW_spot : ∀ (r : Fin 4) (p : Fin 64), floorW (BitVec.ofNat 32 (spot r p).val) = BitVec.ofNat 32 r.val := by
  decide +kernel

/-- A product with a picking column takes one entry. -/
theorem pick (f : Fin 128 → EReal) (k : ℕ) (hk : k < 128) :
    ∑ x, f x * FloatOps.sitofp (F := Ideal) .f32 (BitVec.setWidth 32 (IntOp.cmpi CmpIPredicate.eq (BitVec.ofNat 32 x.val) (BitVec.ofNat 32 k)))
      = f ⟨k, hk⟩ := by
  rw [Finset.sum_eq_single (⟨k, hk⟩ : Fin 128)]
  · rw [cmpi_eq hk hk, sitofp_bit, if_pos rfl, mul_one]
  · intro x _ hx
    rw [cmpi_eq x.isLt hk, sitofp_bit, if_neg fun e => hx (Fin.ext e), mul_zero]
  · exact fun h => absurd (Finset.mem_univ _) h

/-- The same, the picking row on the left. -/
theorem pick' (f : Fin 128 → EReal) (k : ℕ) (hk : k < 128) :
    ∑ x, FloatOps.sitofp (F := Ideal) .f32 (BitVec.setWidth 32 (IntOp.cmpi CmpIPredicate.eq (BitVec.ofNat 32 x.val) (BitVec.ofNat 32 k))) * f x
      = f ⟨k, hk⟩ := by
  rw [← pick f k hk]
  exact Finset.sum_congr rfl fun x _ => mul_comm _ _

/-- The mask of one head at a lane. -/
theorem mask (r : Fin 4) (p : Fin 64) (k : ℕ) (hk : k < 128) :
    FloatOps.sitofp (F := Ideal) .f32 (BitVec.setWidth 32 (IntOp.cmpi CmpIPredicate.eq (floorW (BitVec.ofNat 32 (r.val * 64 + p.val))) (BitVec.ofNat 32 k)))
      = if r.val = k then (1 : EReal) else 0 := by
  rw [floorW_spot r p, cmpi_eq (by omega) hk, sitofp_bit]

/-- A sum over a group's lanes, head by head. -/
theorem sum_lanes (f : Fin 256 → EReal) : ∑ q, f q = ∑ r : Fin 4, ∑ p : Fin 64, f (spot r p) := by
  rw [← Fintype.sum_prod_type' (fun r p => f (spot r p))]
  exact (Fintype.sum_equiv finProdFinEquiv (fun x : Fin 4 × Fin 64 => f (spot x.1 x.2)) f fun x =>
    congrArg f (Fin.ext (by show (x.1.val : ℕ) * 64 + x.2.val = x.2.val + 64 * x.1.val; ring))).symm

theorem head_cases (r : Fin 4) : r = 0 ∨ r = 1 ∨ r = 2 ∨ r = 3 := by omega

/-- A number per head, laid over a group's lanes by the masks of its four heads. -/
theorem spread (f : Fin 128 → EReal) (g r : Fin 4) (k0 k1 k2 k3 : Fin 128) (h0 : k0 = head g 0) (h1 : k1 = head g 1) (h2 : k2 = head g 2)
    (h3 : k3 = head g 3) :
    f k0 * (if r.val = 0 then 1 else 0) + f k1 * (if r.val = 1 then 1 else 0) + f k2 * (if r.val = 2 then 1 else 0)
      + f k3 * (if r.val = 3 then 1 else 0) = f (head g r) := by
  subst h0 h1 h2 h3
  obtain rfl | rfl | rfl | rfl := head_cases r <;> simp

end Cert.Proof.Kern
-- ==== Proof.KernelBlocks.lean ====
/-
  The blocks that a grid point of the kernel works on, as parts of the argument arrays.
-/
module
public import proofs.«01_k».proof.Proof.Held
public import proofs.«01_k».proof.Proof.Spec
public import proofs.«01_k».proof.Proof.KernelOps
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.Proof.Kern
open Cert.KernelIdeal Cert.KernelIdeal.Gen Cert.KernelIdeal.Held
variable (m : (ℓ : Loc nD τ sig) → Buf (Elt Ideal) ℓ) (c : Dev nD)

/-- The argument arrays as the kernel's program finds them. -/
def given : Args where
  xc := m (c.tc.loc main_arg0)
  dtr := m (c.tc.loc main_arg1)
  sprev := m (c.tc.loc main_arg2)
  dy := m (c.tc.loc main_arg3)
  dtb := m (c.tc.loc main_arg4)
  alog := m (c.tc.loc main_arg5)
  dsk := m (c.tc.loc main_arg6)

/-- The chunk that a grid point works on: the points run through the chunks backwards. -/
def chunkAt (t : Fin cfg0.N) : Fin 128 := ⟨127 - t.val, by omega⟩

/-- Where the blocks of the inputs lie. -/
theorem idx_x : ∀ t : Fin cfg0.N,
    win0_0.index t = ![127 - t.val, 0] ∧ win0_1.index t = ![127 - t.val, 1] ∧
    win0_2.index t = ![127 - t.val, 2] ∧ win0_3.index t = ![127 - t.val, 3] := by
  decide +kernel

/-- Where the blocks of the rows `B` lie. -/
theorem idx_b : ∀ t : Fin cfg0.N,
    win0_4.index t = ![127 - t.val, 8] ∧ win0_5.index t = ![127 - t.val, 9] ∧
    win0_6.index t = ![127 - t.val, 10] ∧ win0_7.index t = ![127 - t.val, 11] := by
  decide +kernel

/-- Where the blocks of the rows `C` lie. -/
theorem idx_c : ∀ t : Fin cfg0.N,
    win0_8.index t = ![127 - t.val, 12] ∧ win0_9.index t = ![127 - t.val, 13] ∧
    win0_10.index t = ![127 - t.val, 14] ∧ win0_11.index t = ![127 - t.val, 15] := by
  decide +kernel

/-- Where the blocks of the entering states lie. -/
theorem idx_s : ∀ t : Fin cfg0.N,
    win0_13.index t = ![127 - t.val, 0] ∧ win0_14.index t = ![127 - t.val, 1] ∧
    win0_15.index t = ![127 - t.val, 2] ∧ win0_16.index t = ![127 - t.val, 3] := by
  decide +kernel

/-- Where the blocks of the output gradients lie. -/
theorem idx_dy : ∀ t : Fin cfg0.N,
    win0_17.index t = ![127 - t.val, 0] ∧ win0_18.index t = ![127 - t.val, 1] ∧
    win0_19.index t = ![127 - t.val, 2] ∧ win0_20.index t = ![127 - t.val, 3] := by
  decide +kernel

/-- Where the blocks of the numbers per head lie. -/
theorem idx_h : ∀ t : Fin cfg0.N,
    win0_21.index t = ![0, 0] ∧ win0_22.index t = ![0, 0] ∧
    win0_23.index t = ![0, 0] := by
  decide +kernel

theorem idx_12 : ∀ t : Fin cfg0.N, win0_12.index t = ![127 - t.val, 0] := by
  decide +kernel

/-- The inputs. -/
theorem blk_x (t : Fin cfg0.N) :
    (∀ l r p, iblk m c 0 t (ix2 l (spot r p)) = ((given m c).chunk (chunkAt t) 0).x l r p) ∧
    (∀ l r p, iblk m c 1 t (ix2 l (spot r p)) = ((given m c).chunk (chunkAt t) 1).x l r p) ∧
    (∀ l r p, iblk m c 2 t (ix2 l (spot r p)) = ((given m c).chunk (chunkAt t) 2).x l r p) ∧
    (∀ l r p, iblk m c 3 t (ix2 l (spot r p)) = ((given m c).chunk (chunkAt t) 3).x l r p) := by
  obtain ⟨e0, e1, e2, e3⟩ := idx_x t
  refine ⟨fun l r p => ?_, fun l r p => ?_, fun l r p => ?_, fun l r p => ?_⟩
  · show _ = m (c.tc.loc main_arg0) (ix2 _ _)
    blk_ext [iblk, V, e0, row, lane, chunkAt]
  · show _ = m (c.tc.loc main_arg0) (ix2 _ _)
    blk_ext [iblk, V, e1, row, lane, chunkAt]
  · show _ = m (c.tc.loc main_arg0) (ix2 _ _)
    blk_ext [iblk, V, e2, row, lane, chunkAt]
  · show _ = m (c.tc.loc main_arg0) (ix2 _ _)
    blk_ext [iblk, V, e3, row, lane, chunkAt]

/-- The rows `B`. -/
theorem blk_b (t : Fin cfg0.N) :
    (∀ l n, iblk m c 4 t (ix2 l n) = ((given m c).chunk (chunkAt t) 0).b l n) ∧
    (∀ l n, iblk m c 5 t (ix2 l n) = ((given m c).chunk (chunkAt t) 1).b l n) ∧
    (∀ l n, iblk m c 6 t (ix2 l n) = ((given m c).chunk (chunkAt t) 2).b l n) ∧
    (∀ l n, iblk m c 7 t (ix2 l n) = ((given m c).chunk (chunkAt t) 3).b l n) := by
  obtain ⟨e0, e1, e2, e3⟩ := idx_b t
  refine ⟨fun l n => ?_, fun l n => ?_, fun l n => ?_, fun l n => ?_⟩
  · show _ = m (c.tc.loc main_arg0) (ix2 _ _)
    blk_ext [iblk, V, e0, row, lane, chunkAt]
  · show _ = m (c.tc.loc main_arg0) (ix2 _ _)
    blk_ext [iblk, V, e1, row, lane, chunkAt]
  · show _ = m (c.tc.loc main_arg0) (ix2 _ _)
    blk_ext [iblk, V, e2, row, lane, chunkAt]
  · show _ = m (c.tc.loc main_arg0) (ix2 _ _)
    blk_ext [iblk, V, e3, row, lane, chunkAt]

/-- The rows `C`. -/
theorem blk_c (t : Fin cfg0.N) :
    (∀ l n, iblk m c 8 t (ix2 l n) = ((given m c).chunk (chunkAt t) 0).c l n) ∧
    (∀ l n, iblk m c 9 t (ix2 l n) = ((given m c).chunk (chunkAt t) 1).c l n) ∧
    (∀ l n, iblk m c 10 t (ix2 l n) = ((given m c).chunk (chunkAt t) 2).c l n) ∧
    (∀ l n, iblk m c 11 t (ix2 l n) = ((given m c).chunk (chunkAt t) 3).c l n) := by
  obtain ⟨e0, e1, e2, e3⟩ := idx_c t
  refine ⟨fun l n => ?_, fun l n => ?_, fun l n => ?_, fun l n => ?_⟩
  · show _ = m (c.tc.loc main_arg0) (ix2 _ _)
    blk_ext [iblk, V, e0, row, lane, chunkAt]
  · show _ = m (c.tc.loc main_arg0) (ix2 _ _)
    blk_ext [iblk, V, e1, row, lane, chunkAt]
  · show _ = m (c.tc.loc main_arg0) (ix2 _ _)
    blk_ext [iblk, V, e2, row, lane, chunkAt]
  · show _ = m (c.tc.loc main_arg0) (ix2 _ _)
    blk_ext [iblk, V, e3, row, lane, chunkAt]

/-- The entering states. -/
theorem blk_s (t : Fin cfg0.N) :
    (∀ n r p, iblk m c 13 t (ix2 n (spot r p)) = ((given m c).chunk (chunkAt t) 0).s n r p) ∧
    (∀ n r p, iblk m c 14 t (ix2 n (spot r p)) = ((given m c).chunk (chunkAt t) 1).s n r p) ∧
    (∀ n r p, iblk m c 15 t (ix2 n (spot r p)) = ((given m c).chunk (chunkAt t) 2).s n r p) ∧
    (∀ n r p, iblk m c 16 t (ix2 n (spot r p)) = ((given m c).chunk (chunkAt t) 3).s n r p) := by
  obtain ⟨e0, e1, e2, e3⟩ := idx_s t
  refine ⟨fun n r p => ?_, fun n r p => ?_, fun n r p => ?_, fun n r p => ?_⟩
  · show _ = m (c.tc.loc main_arg2) (ix2 _ _)
    blk_ext [iblk, V, e0, row, lane, chunkAt]
  · show _ = m (c.tc.loc main_arg2) (ix2 _ _)
    blk_ext [iblk, V, e1, row, lane, chunkAt]
  · show _ = m (c.tc.loc main_arg2) (ix2 _ _)
    blk_ext [iblk, V, e2, row, lane, chunkAt]
  · show _ = m (c.tc.loc main_arg2) (ix2 _ _)
    blk_ext [iblk, V, e3, row, lane, chunkAt]

/-- The output gradients. -/
theorem blk_dy (t : Fin cfg0.N) :
    (∀ l r p, iblk m c 17 t (ix2 l (spot r p)) = ((given m c).chunk (chunkAt t) 0).dy l r p) ∧
    (∀ l r p, iblk m c 18 t (ix2 l (spot r p)) = ((given m c).chunk (chunkAt t) 1).dy l r p) ∧
    (∀ l r p, iblk m c 19 t (ix2 l (spot r p)) = ((given m c).chunk (chunkAt t) 2).dy l r p) ∧
    (∀ l r p, iblk m c 20 t (ix2 l (spot r p)) = ((given m c).chunk (chunkAt t) 3).dy l r p) := by
  obtain ⟨e0, e1, e2, e3⟩ := idx_dy t
  refine ⟨fun l r p => ?_, fun l r p => ?_, fun l r p => ?_, fun l r p => ?_⟩
  · show _ = m (c.tc.loc main_arg3) (ix2 _ _)
    blk_ext [iblk, V, e0, row, lane, chunkAt]
  · show _ = m (c.tc.loc main_arg3) (ix2 _ _)
    blk_ext [iblk, V, e1, row, lane, chunkAt]
  · show _ = m (c.tc.loc main_arg3) (ix2 _ _)
    blk_ext [iblk, V, e2, row, lane, chunkAt]
  · show _ = m (c.tc.loc main_arg3) (ix2 _ _)
    blk_ext [iblk, V, e3, row, lane, chunkAt]

theorem blk_12 (t : Fin cfg0.N) (l h : Fin 128) : iblk m c 12 t (ix2 l h) = (given m c).dtr (ix2 (row (chunkAt t) l) h) := by
  show _ = m (c.tc.loc main_arg1) (ix2 _ _)
  blk_ext [iblk, V, idx_12 t, row, chunkAt]

theorem blk_21 (t : Fin cfg0.N) (h : Fin 128) : iblk m c 21 t (ix2 0 h) = (given m c).dtb (ix2 0 h) := by
  show _ = m (c.tc.loc main_arg4) (ix2 _ _)
  blk_ext [iblk, V, (idx_h t).1]

theorem blk_22 (t : Fin cfg0.N) (h : Fin 128) : iblk m c 22 t (ix2 0 h) = (given m c).alog (ix2 0 h) := by
  show _ = m (c.tc.loc main_arg5) (ix2 _ _)
  blk_ext [iblk, V, (idx_h t).2.1]

theorem blk_23 (t : Fin cfg0.N) (h : Fin 128) : iblk m c 23 t (ix2 0 h) = (given m c).dsk (ix2 0 h) := by
  show _ = m (c.tc.loc main_arg6) (ix2 _ _)
  blk_ext [iblk, V, (idx_h t).2.2]

end Cert.Proof.Kern
-- ==== Proof.KernelBase.lean ====
/-
  The step sizes, the log decays and their running sums, as the body computes them from a point's blocks.
-/
module
public import proofs.«01_k».proof.Proof.KernelBlocks
@[expose] public section
set_option maxRecDepth 16384
noncomputable section
open Idealize.ShloMosaic Idealize.ShloMosaic.TcCoe Idealize.SL.Sem
namespace Cert.Proof.Kern
open Cert.KernelIdeal Cert.KernelIdeal.Gen Cert.KernelIdeal.Held

/-- Under stores that cover an index, earlier stores do not show. -/
theorem canon_under {S : Shape} {e : EltTy} (L L' : List (View.Piece (Elt Ideal) S e)) (y : S.Idx) (hc : ∃ p ∈ L, y ∈ p.1.set) :
    View.canon (L ++ L') y = View.canon L y := by
  induction L with
  | nil => obtain ⟨p, hp, _⟩ := hc; exact absurd hp List.not_mem_nil
  | cons p L ih =>
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      obtain ⟨q, hq, hy⟩ := hc
      obtain rfl | hq := List.mem_cons.mp hq
      · exact absurd hy hm
      · exact ih ⟨q, hq, hy⟩

variable (x12 : Vec Ideal S128x128 .f32) (x21 x22 : Vec Ideal S1x128 .f32)

abbrev stepW : FVec Ideal S128x128 .f32 := k0_pay13 (k0_pay7 x12 x21) (k0_pay8 x12 x21)
abbrev sumW : FVec Ideal S128x128 .f32 :=
  k0_pay18 x22 (iota Kind.tc S128x128 32 [0] iota_S128x128_d0_w32) (iota Kind.tc S128x128 32 [1] iota_S128x128_d1_w32)
    (k0_pay7 x12 x21) (k0_pay8 x12 x21)
abbrev acrossW : FVec Ideal S128x128 .f32 :=
  k0_pay19 x22 (iota Kind.tc S128x128 32 [0] iota_S128x128_d0_w32) (iota Kind.tc S128x128 32 [1] iota_S128x128_d1_w32)
    (k0_pay7 x12 x21) (k0_pay8 x12 x21)
abbrev totalW : FVec Ideal S1x128 .f32 := k0_pay20 x22 (k0_pay7 x12 x21) (k0_pay8 x12 x21)

theorem step_at (l h : Fin 128) : stepW x12 x21 (ix2 l h) = softplus (x12 (ix2 l h) + x21 (ix2 0 h)) := by
  unfold softplus stepW
  open_payloads
  pointwise
  rw [zero_sub]
  rfl

theorem sum_at (l h : Fin 128) : sumW x12 x21 x22 (ix2 l h)
    = ∑ s : Fin 128, if s ≤ l then softplus (x12 (ix2 s h) + x21 (ix2 0 h)) * -Ideal.exp (x22 (ix2 0 h)) else 0 := by
  unfold softplus sumW
  open_payloads
  pointwise
  refine Finset.sum_congr rfl fun s _ => ?_
  rw [cmpi_sge, sitofp_bit, zero_sub, zero_sub, ite_mul, one_mul, zero_mul]
  rfl

theorem across_at (l h : Fin 128) : acrossW x12 x21 x22 (ix2 h l) = sumW x12 x21 x22 (ix2 l h) := by
  unfold acrossW sumW k0_pay19
  generalize k0_pay18 x22 _ _ _ _ = Y
  pointwise

theorem total_at (h : Fin 128) : totalW x12 x21 x22 (ix2 0 h) = ∑ s : Fin 128, softplus (x12 (ix2 s h) + x21 (ix2 0 h)) * -Ideal.exp (x22 (ix2 0 h)) := by
  unfold softplus totalW
  open_payloads
  pointwise
  refine Finset.sum_congr rfl fun s _ => ?_
  rw [zero_sub, zero_sub]
  rfl

variable (m : (ℓ : Loc nD τ sig) → Buf (Elt Ideal) ℓ) (c : Dev nD) (t : Fin cfg0.N)

/-- The step sizes at a point. -/
theorem step_blk (l h : Fin 128) :
    stepW (iblk m c 12 t) (iblk m c 21 t) (ix2 l h) = (given m c).dt (row (chunkAt t) l) h := by
  rw [step_at, blk_12, blk_21]
  rfl

/-- The running sums of the log decays at a point. -/
theorem sum_blk (l h : Fin 128) :
    sumW (iblk m c 12 t) (iblk m c 21 t) (iblk m c 22 t) (ix2 l h) = (given m c).ac (chunkAt t) l h := by
  rw [sum_at]
  simp only [blk_12, blk_21, blk_22]
  rfl

/-- Their transpose. -/
theorem across_blk (h l : Fin 128) :
    acrossW (iblk m c 12 t) (iblk m c 21 t) (iblk m c 22 t) (ix2 h l) = (given m c).ac (chunkAt t) l h := by
  rw [across_at, sum_blk]

/-- Their totals at a point. -/
theorem total_blk (h : Fin 128) :
    totalW (iblk m c 12 t) (iblk m c 21 t) (iblk m c 22 t) (ix2 0 h) = (given m c).ac (chunkAt t) 127 h := by
  rw [total_at]
  simp only [blk_12, blk_21, blk_22]
  refine Finset.sum_congr rfl fun s _ => ?_
  rw [if_pos (show s ≤ 127 by rw [Fin.le_def]; exact Nat.le_of_lt_succ s.isLt)]
  rfl

end Cert.Proof.Kern
-- ==== Proof.KernelState.lean ====
/-
  What a grid point leaves in the scratch: the adjoint of the states that enter its chunk.
-/
module
public import proofs.«01_k».proof.Proof.KernelBase
@[expose] public section
set_option maxRecDepth 16384
noncomputable section
open Idealize.ShloMosaic Idealize.ShloMosaic.TcCoe Idealize.SL.Sem
namespace Cert.Proof.Kern
open Cert.KernelIdeal Cert.KernelIdeal.Gen Cert.KernelIdeal.Held
variable (m : (ℓ : Loc nD τ sig) → Buf (Elt Ideal) ℓ) (c : Dev nD)

/-- The scratch after a point, from the adjoint `adj` that the point finds in it: zeros at the first point. -/
theorem state_at (t : Fin cfg0.N) (n : Fin 128) (g r : Fin 4) (q : Fin 64) (adj : Fin 4 → Fin 128 → Fin 4 → Fin 64 → EReal)
    (hfirst : t.val % 128 = 0 → ∀ g n r q, adj g n r q = 0)
    (hlater : ¬t.val % 128 = 0 → ∀ g n r q, (left m c (t.val - 1) (Nat.lt_of_le_of_lt (Nat.sub_le _ _) t.isLt)).2.2.2.2.2 (ix2 n (lane g r q)) = adj g n r q) :
    (left m c t.val t.isLt).2.2.2.2.2 (ix2 n (lane g r q)) = ((given m c).chunk (chunkAt t) g).back (adj g) n r q := by
  obtain ⟨c0, c1, c2, c3⟩ := blk_c m c t
  obtain ⟨y0, y1, y2, y3⟩ := blk_dy m c t
  have hs := sum_blk m c t
  have ht := total_blk m c t
  unfold sumW at hs
  unfold totalW at ht
  generalize hy : ix2 n (lane g r q) = y
  have hy0 : y 0 = n := by rw [← hy]; rfl
  have hy1 : (y 1).val = g.val * 256 + r.val * 64 + q.val := by rw [← hy]; rfl
  by_cases h : t.val % 128 = 0
  on_goal 1 =>
    rw [left_first m c t h]
    have hl : ∀ g n r q, 0 = adj g n r q := fun g n r q => (hfirst h g n r q).symm
    clear hfirst hlater
    unfold firstLeft firstRun
    frame_out
    simp (disch := decide) only [View.readCov_skip, View.readCov_fill]
    refine (canon_under [_, _, _, _] [_] y ?_).trans ?_
    · exact View.cover_of_tiledL (s := S128x1024) _ S128x256.size (by sl_kernel_rfl) y
  on_goal 2 =>
    rw [left_later m c t h]
    have hl : ∀ g n r q (i : Fin 1024), i.val = g.val * 256 + r.val * 64 + q.val →
        (left m c (t.val - 1) (Nat.lt_of_le_of_lt (Nat.sub_le _ _) t.isLt)).2.2.2.2.2 (ix2 n i) = adj g n r q :=
      fun g n r q i e => (congrArg (fun i => (left m c (t.val - 1) _).2.2.2.2.2 (ix2 n i)) (Fin.ext e)).trans (hlater h g n r q)
    clear hfirst hlater
    generalize left m c (t.val - 1) _ = p at *
    unfold laterLeft laterRun
    frame_out
    simp only [read_unread_whole]
  all_goals
    generalize k0_pay18 (iblk m c 22 t) (iota Kind.tc S128x128 32 [0] iota_S128x128_d0_w32)
      (iota Kind.tc S128x128 32 [1] iota_S128x128_d1_w32) (k0_pay7 (iblk m c 12 t) (iblk m c 21 t))
      (k0_pay8 (iblk m c 12 t) (iblk m c 21 t)) = AC at *
    generalize k0_pay20 (iblk m c 22 t) (k0_pay7 (iblk m c 12 t) (iblk m c 21 t))
      (k0_pay8 (iblk m c 12 t) (iblk m c 21 t)) = TOT at *
    generalize iblk m c 8 t = X8 at *
    generalize iblk m c 9 t = X9 at *
    generalize iblk m c 10 t = X10 at *
    generalize iblk m c 11 t = X11 at *
    generalize iblk m c 17 t = X17 at *
    generalize iblk m c 18 t = X18 at *
    generalize iblk m c 19 t = X19 at *
    generalize iblk m c 20 t = X20 at *
    canon_tiles z h
    all_goals
      have e : (z 1).val = r.val * 64 + q.val := by omega
      obtain rfl | rfl | rfl | rfl := head_cases g <;> try (exfalso; omega)
      obtain rfl : z = ix2 n (spot r q) := by
        funext a; match a with
        | ⟨0, _⟩ => exact Fin.ext (h0.symm.trans (congrArg Fin.val hy0))
        | ⟨1, _⟩ => exact Fin.ext e
      clear hy0 hy1 hy h0 h1 z0_lt z1_lt e
      open_payloads
      pointwise
      simp (disch := decide) only [pick, mask, hs, ht, c0, c1, c2, c3, y0, y1, y2, y3]
      rw [Chunk.back, add_comm]
      refine congrArg₂ (· + ·) (Finset.sum_congr rfl fun x _ => congrArg₂ (· * ·) (congrArg₂ (· * ·) rfl ?_) rfl) (congrArg₂ (· * ·) ?_ ?_)
      · exact spread (fun h => Ideal.exp ((given m c).ac (chunkAt t) x h)) _ r _ _ _ _ rfl rfl rfl rfl
      · first
        | exact hl _ _ _ _
        | refine hl _ _ _ _ _ ?_
          dsimp only
          omega
      · exact spread (fun h => Ideal.exp ((given m c).ac (chunkAt t) 127 h)) _ r _ _ _ _ rfl rfl rfl rfl
end Cert.Proof.Kern
-- ==== Proof.KernelForms.lean ====
/-
  The gradients of one group's part of one chunk, in the form in which the kernel's body adds them up: a number per head is laid over the
  lanes by four masks, and the terms of the four heads are added from the last to the first.
-/
module
public import proofs.«01_k».proof.Proof.KernelOps
@[expose] public section
noncomputable section
open Idealize.ShloMosaic
namespace Cert.Proof.Kern

/-- The mask of head `k` at a lane of head `r`. -/
abbrev mark (r : Fin 4) (k : ℕ) : EReal := if r.val = k then 1 else 0

/-- A number per head, laid over the lanes. -/
abbrev over (f : Fin 4 → EReal) (r : Fin 4) : EReal := f 0 * mark r 0 + f 1 * mark r 1 + f 2 * mark r 2 + f 3 * mark r 3

/-- The masked terms of the four heads, added to `a`. -/
abbrev down (a : EReal) (f : Fin 4 → EReal) (r : Fin 4) : EReal := a + f 3 * mark r 3 + f 2 * mark r 2 + f 1 * mark r 1 + f 0 * mark r 0

theorem over_eq (f : Fin 4 → EReal) (r : Fin 4) : over f r = f r := by
  unfold over mark
  obtain rfl | rfl | rfl | rfl := head_cases r <;> simp

theorem down_eq (a : EReal) (f : Fin 4 → EReal) (r : Fin 4) : down a f r = f r + a := by
  unfold down mark
  obtain rfl | rfl | rfl | rfl := head_cases r <;> simp [add_comm]

/-- A sum over a group's lanes that one head's mask cuts down to that head. -/
theorem masked (f x : Fin 4 → Fin 64 → EReal) (d : Fin 4 → EReal) (k : Fin 4) :
    ∑ r, ∑ p, f r p * (x r p * over d r * mark r k.val) = ∑ p, f k p * (x k p * d k) := by
  simp only [over_eq]
  rw [Finset.sum_eq_single k (fun r _ hr => Finset.sum_eq_zero fun p _ => by
      rw [show mark r k.val = 0 from if_neg fun e => hr (Fin.ext e), mul_zero, mul_zero])
    fun h => absurd (Finset.mem_univ _) h]
  exact Finset.sum_congr rfl fun p _ => by rw [show mark k k.val = 1 from if_pos rfl, mul_one]

variable (K : Chunk) (adj : Fin 128 → Fin 4 → Fin 64 → EReal)

theorem dx_form (l : Fin 128) (r : Fin 4) (q : Fin 64) :
    K.dy l r q * over K.dk r + down ((∑ n, adj n r q * K.b l n) * over (fun s => Ideal.exp (K.tot s - K.ac l s)) r)
      (fun s => ∑ x, K.dy x r q * (K.cb x l * K.dec s x l)) r * over (K.dt l) r = K.dx adj l r q := by
  rw [down_eq, over_eq, over_eq, over_eq]
  rfl

/-- The gradient of the product of the rows. -/
abbrev dcbForm (l s : Fin 128) : EReal :=
  (∑ r, ∑ p, K.dy l r p * (K.x s r p * over (K.dt s) r * mark r 3)) * K.dec 3 l s
    + (∑ r, ∑ p, K.dy l r p * (K.x s r p * over (K.dt s) r * mark r 2)) * K.dec 2 l s
    + (∑ r, ∑ p, K.dy l r p * (K.x s r p * over (K.dt s) r * mark r 1)) * K.dec 1 l s
    + (∑ r, ∑ p, K.dy l r p * (K.x s r p * over (K.dt s) r * mark r 0)) * K.dec 0 l s

theorem dcbForm_eq (l s : Fin 128) : dcbForm K l s = K.dcb l s := by
  have h := fun k => masked (K.dy l) (K.x s) (K.dt s) k
  have h3 := h 3; have h2 := h 2; have h1 := h 1; have h0 := h 0
  refine (congrArg₂ (· + ·) (congrArg₂ (· + ·) (congrArg₂ (· + ·) (congrArg₂ (· * ·) h3 rfl) (congrArg₂ (· * ·) h2 rfl))
    (congrArg₂ (· * ·) h1 rfl)) (congrArg₂ (· * ·) h0 rfl)).trans ?_
  rw [Chunk.dcb, Fin.sum_univ_four, add_comm, add_comm (_ + _) (_ * Chunk.dec K 1 l s), add_comm (_ * Chunk.dec K 3 l s)]
  simp only [add_assoc]

theorem db_form (s n : Fin 128) :
    (∑ r, ∑ p, adj n r p * (K.x s r p * over (K.dt s) r * over (fun r => Ideal.exp (K.tot r - K.ac s r)) r)) + ∑ l, dcbForm K l s * K.c l n
      = K.db adj s n := by
  simp only [over_eq]
  rw [add_comm]
  refine congrArg₂ (· + ·) (Finset.sum_congr rfl fun l _ => congrArg₂ (· * ·) ?_ rfl) rfl
  refine Eq.trans ?_ (dcbForm_eq K l s)
  simp only [over_eq]

theorem dc_form (l n : Fin 128) :
    (∑ r, ∑ p, K.dy l r p * over (fun r => Ideal.exp (K.ac l r)) r * K.s n r p) + ∑ s, dcbForm K l s * K.b s n = K.dc l n := by
  refine congrArg₂ (· + ·) ?_ (Finset.sum_congr rfl fun s _ => congrArg₂ (· * ·) (dcbForm_eq K l s) rfl)
  simp only [over_eq]

theorem back_form (n : Fin 128) (r : Fin 4) (q : Fin 64) :
    adj n r q * over (fun s => Ideal.exp (K.tot s)) r + ∑ l, K.dy l r q * over (fun s => Ideal.exp (K.ac l s)) r * K.c l n = K.back adj n r q := by
  simp only [over_eq]
  exact add_comm _ _

end Cert.Proof.Kern
-- ==== Proof.KernelOut.lean ====
/-
  What a grid point leaves in the first output's block: the gradients of its chunk.
-/
module
public import proofs.«01_k».proof.Proof.KernelBase
public import proofs.«01_k».proof.Proof.KernelForms
@[expose] public section
set_option maxRecDepth 16384
noncomputable section
open Idealize.ShloMosaic Idealize.ShloMosaic.TcCoe Idealize.SL.Sem
namespace Cert.Proof.Kern
open Cert.KernelIdeal Cert.KernelIdeal.Gen Cert.KernelIdeal.Held
variable (m : (ℓ : Loc nD τ sig) → Buf (Elt Ideal) ℓ) (c : Dev nD)

set_option maxHeartbeats 2000000 in
/-- The first output's block after a point, from the adjoint `adj` that the point finds in the scratch. -/
theorem out_at (t : Fin cfg0.N) (adj : Fin 4 → Fin 128 → Fin 4 → Fin 64 → EReal)
    (hfirst : t.val % 128 = 0 → ∀ g n r q, adj g n r q = 0)
    (hlater : ¬t.val % 128 = 0 → ∀ g n r q,
      (left m c (t.val - 1) (Nat.lt_of_le_of_lt (Nat.sub_le _ _) t.isLt)).2.2.2.2.2 (ix2 n (lane g r q)) = adj g n r q) :
    (∀ l g r q, (left m c t.val t.isLt).1 (ix2 l ⟨(lane g r q).val, by omega⟩) = ((given m c).chunk (chunkAt t) g).dx (adj g) l r q) ∧
    (∀ (l : Fin 128) (g : Fin 4) (n : Fin 128), (left m c t.val t.isLt).1 (ix2 l ⟨1024 + (g.val * 128 + n.val), by omega⟩)
      = ((given m c).chunk (chunkAt t) g).db (adj g) l n) ∧
    (∀ (l : Fin 128) (g : Fin 4) (n : Fin 128), (left m c t.val t.isLt).1 (ix2 l ⟨1536 + (g.val * 128 + n.val), by omega⟩)
      = ((given m c).chunk (chunkAt t) g).dc l n) := by
  obtain ⟨x0, x1, x2, x3⟩ := blk_x m c t
  obtain ⟨b0, b1, b2, b3⟩ := blk_b m c t
  obtain ⟨c0, c1, c2, c3⟩ := blk_c m c t
  obtain ⟨y0, y1, y2, y3⟩ := blk_dy m c t
  have hs := sum_blk m c t
  have ht := total_blk m c t
  obtain ⟨s0, s1, s2, s3⟩ := blk_s m c t
  have ha := across_blk m c t
  have hd := step_blk m c t
  have hk := blk_23 m c t
  unfold acrossW at ha
  unfold stepW at hd
  unfold sumW at hs
  unfold totalW at ht
  have dxF := fun g l r q => dx_form ((given m c).chunk (chunkAt t) g) (adj g) l r q
  have dbF := fun g l n => db_form ((given m c).chunk (chunkAt t) g) (adj g) l n
  by_cases h : t.val % 128 = 0
  on_goal 1 =>
    rw [left_first m c t h]
    obtain rfl : adj = fun _ _ _ _ => 0 := funext fun g => funext fun n => funext fun r => funext fun q => hfirst h g n r q
    have l0 := True.intro
    have l1 := True.intro
    have l2 := True.intro
    have l3 := True.intro
    clear hfirst hlater
    unfold firstLeft firstRun
    frame_out
    simp (disch := decide) only [View.readCov_skip, View.readCov_fill]
  on_goal 2 =>
    rw [left_later m c t h]
    have hl : ∀ n g r q (i : Fin 1024), i.val = g.val * 256 + r.val * 64 + q.val →
        (left m c (t.val - 1) (Nat.lt_of_le_of_lt (Nat.sub_le _ _) t.isLt)).2.2.2.2.2 (ix2 n i) = adj g n r q :=
      fun n g r q i e => (congrArg (fun i => (left m c (t.val - 1) _).2.2.2.2.2 (ix2 n i)) (Fin.ext e)).trans (hlater h g n r q)
    have l0 : ∀ (n : Fin 128) (r : Fin 4) (q : Fin 64) (hi : r.val * 64 + q.val < 1024),
        (left m c (t.val - 1) (Nat.lt_of_le_of_lt (Nat.sub_le _ _) t.isLt)).2.2.2.2.2 (ix2 n ⟨r.val * 64 + q.val, hi⟩) = adj 0 n r q :=
      fun n r q hi => hl n 0 r q _ (by show r.val * 64 + q.val = 0 * 256 + r.val * 64 + q.val; omega)
    have l1 : ∀ (n : Fin 128) (r : Fin 4) (q : Fin 64) (hi : 256 + (r.val * 64 + q.val) < 1024),
        (left m c (t.val - 1) (Nat.lt_of_le_of_lt (Nat.sub_le _ _) t.isLt)).2.2.2.2.2 (ix2 n ⟨256 + (r.val * 64 + q.val), hi⟩) = adj 1 n r q :=
      fun n r q hi => hl n 1 r q _ (by show 256 + (r.val * 64 + q.val) = 1 * 256 + r.val * 64 + q.val; omega)
    have l2 : ∀ (n : Fin 128) (r : Fin 4) (q : Fin 64) (hi : 512 + (r.val * 64 + q.val) < 1024),
        (left m c (t.val - 1) (Nat.lt_of_le_of_lt (Nat.sub_le _ _) t.isLt)).2.2.2.2.2 (ix2 n ⟨512 + (r.val * 64 + q.val), hi⟩) = adj 2 n r q :=
      fun n r q hi => hl n 2 r q _ (by show 512 + (r.val * 64 + q.val) = 2 * 256 + r.val * 64 + q.val; omega)
    have l3 : ∀ (n : Fin 128) (r : Fin 4) (q : Fin 64) (hi : 768 + (r.val * 64 + q.val) < 1024),
        (left m c (t.val - 1) (Nat.lt_of_le_of_lt (Nat.sub_le _ _) t.isLt)).2.2.2.2.2 (ix2 n ⟨768 + (r.val * 64 + q.val), hi⟩) = adj 3 n r q :=
      fun n r q hi => hl n 3 r q _ (by show 768 + (r.val * 64 + q.val) = 3 * 256 + r.val * 64 + q.val; omega)
    clear hl
    clear hfirst hlater
    generalize left m c (t.val - 1) _ = p at *
    unfold laterLeft laterRun
    frame_out
    simp only [read_unread_whole]
  all_goals
    generalize k0_pay18 (iblk m c 22 t) (iota Kind.tc S128x128 32 [0] iota_S128x128_d0_w32)
      (iota Kind.tc S128x128 32 [1] iota_S128x128_d1_w32) (k0_pay7 (iblk m c 12 t) (iblk m c 21 t))
      (k0_pay8 (iblk m c 12 t) (iblk m c 21 t)) = AC at *
    generalize k0_pay20 (iblk m c 22 t) (k0_pay7 (iblk m c 12 t) (iblk m c 21 t))
      (k0_pay8 (iblk m c 12 t) (iblk m c 21 t)) = TOT at *
    generalize k0_pay19 (iblk m c 22 t) (iota Kind.tc S128x128 32 [0] iota_S128x128_d0_w32)
      (iota Kind.tc S128x128 32 [1] iota_S128x128_d1_w32) (k0_pay7 (iblk m c 12 t) (iblk m c 21 t))
      (k0_pay8 (iblk m c 12 t) (iblk m c 21 t)) = AT at *
    generalize k0_pay13 (k0_pay7 (iblk m c 12 t) (iblk m c 21 t)) (k0_pay8 (iblk m c 12 t) (iblk m c 21 t)) = DT at *
    generalize iblk m c 0 t = X0 at *
    generalize iblk m c 1 t = X1 at *
    generalize iblk m c 2 t = X2 at *
    generalize iblk m c 3 t = X3 at *
    generalize iblk m c 4 t = X4 at *
    generalize iblk m c 5 t = X5 at *
    generalize iblk m c 6 t = X6 at *
    generalize iblk m c 7 t = X7 at *
    generalize iblk m c 23 t = X23 at *
    generalize iblk m c 8 t = X8 at *
    generalize iblk m c 9 t = X9 at *
    generalize iblk m c 10 t = X10 at *
    generalize iblk m c 11 t = X11 at *
    generalize iblk m c 13 t = X13 at *
    generalize iblk m c 14 t = X14 at *
    generalize iblk m c 15 t = X15 at *
    generalize iblk m c 16 t = X16 at *
    generalize iblk m c 17 t = X17 at *
    generalize iblk m c 18 t = X18 at *
    generalize iblk m c 19 t = X19 at *
    generalize iblk m c 20 t = X20 at *
    refine ⟨?_, ?_, ?_⟩
    · intro l g r q
      have F := dxF g l r q
      clear dxF dbF
      generalize hy : ix2 l (⟨(lane g r q).val, by omega⟩ : Fin 2048) = y
      have hy0 : y 0 = l := by rw [← hy]; rfl
      have hy1 : (y 1).val = g.val * 256 + r.val * 64 + q.val := by rw [← hy]; rfl
      canon_tiles z h using View.cover_of_tiledBy (s := S128x2048) _ ![128, 128] (by sl_kernel_rfl) y
      all_goals try (exfalso; omega)
      all_goals
        have e : (z 1).val = r.val * 64 + q.val := by omega
        obtain rfl | rfl | rfl | rfl := head_cases g <;> try (exfalso; omega)
        obtain rfl : z = ix2 l (spot r q) := by
          funext a; match a with
          | ⟨0, _⟩ => exact Fin.ext (h0.symm.trans (congrArg Fin.val hy0))
          | ⟨1, _⟩ => exact Fin.ext e
        clear hy0 hy1 hy h0 h1 z0_lt z1_lt e
        open_payloads
        pointwise
        simp (disch := decide) only [pick, pick', mask, hs, ht, ha, hd, hk, x0, x1, x2, x3, b0, b1, b2, b3, c0, c1, c2, c3, y0, y1, y2,
          y3, s0, s1, s2, s3, l0, l1, l2, l3, cmpi_sge, select_bit, ofBits_bot, sum_lanes]
        exact F
    · intro l g n
      have F := dbF g l n
      clear dxF dbF
      generalize hy : ix2 l (⟨1024 + (g.val * 128 + n.val), by omega⟩ : Fin 2048) = y
      have hy0 : y 0 = l := by rw [← hy]; rfl
      have hy1 : (y 1).val = 1024 + (g.val * 128 + n.val) := by rw [← hy]; rfl
      canon_tiles z h using View.cover_of_tiledBy (s := S128x2048) _ ![128, 128] (by sl_kernel_rfl) y
      all_goals try (exfalso; omega)
      all_goals
        have e : (z 1).val = n.val := by omega
        obtain rfl | rfl | rfl | rfl := head_cases g <;> try (exfalso; omega)
        obtain rfl : z = ix2 l n := by
          funext a; match a with
          | ⟨0, _⟩ => exact Fin.ext (h0.symm.trans (congrArg Fin.val hy0))
          | ⟨1, _⟩ => exact Fin.ext e
        clear hy0 hy1 hy h0 h1 z0_lt z1_lt e
        open_payloads
        pointwise
        simp (disch := decide) only [pick, pick', mask, hs, ht, ha, hd, hk, x0, x1, x2, x3, b0, b1, b2, b3, c0, c1, c2, c3, y0, y1, y2,
          y3, s0, s1, s2, s3, l0, l1, l2, l3, cmpi_sge, select_bit, ofBits_bot, sum_lanes]
        exact F
    · intro l g n
      have F := dc_form ((given m c).chunk (chunkAt t) g) l n
      clear dxF dbF
      generalize hy : ix2 l (⟨1536 + (g.val * 128 + n.val), by omega⟩ : Fin 2048) = y
      have hy0 : y 0 = l := by rw [← hy]; rfl
      have hy1 : (y 1).val = 1536 + (g.val * 128 + n.val) := by rw [← hy]; rfl
      canon_tiles z h using View.cover_of_tiledBy (s := S128x2048) _ ![128, 128] (by sl_kernel_rfl) y
      all_goals try (exfalso; omega)
      all_goals
        have e : (z 1).val = n.val := by omega
        obtain rfl | rfl | rfl | rfl := head_cases g <;> try (exfalso; omega)
        obtain rfl : z = ix2 l n := by
          funext a; match a with
          | ⟨0, _⟩ => exact Fin.ext (h0.symm.trans (congrArg Fin.val hy0))
          | ⟨1, _⟩ => exact Fin.ext e
        clear hy0 hy1 hy h0 h1 z0_lt z1_lt e
        open_payloads
        pointwise
        simp (disch := decide) only [pick, pick', mask, hs, ht, ha, hd, hk, x0, x1, x2, x3, b0, b1, b2, b3, c0, c1, c2, c3, y0, y1, y2,
          y3, s0, s1, s2, s3, l0, l1, l2, l3, cmpi_sge, select_bit, ofBits_bot, sum_lanes]
        exact F

end Cert.Proof.Kern
-- ==== Proof.KernelValue.lean ====
/-
  The kernel's result, entry by entry: the scratch carries the adjoint of the state from one grid point to the next, and every grid
  point writes the rows of its chunk.
-/
module
public import proofs.«01_k».proof.Proof.KernelState
public import proofs.«01_k».proof.Proof.KernelOut
@[expose] public section
noncomputable section
open Idealize.ShloMosaic Idealize.ShloMosaic.TcCoe Idealize.SL.Sem
namespace Cert.Proof.Kern
open Cert.KernelIdeal Cert.KernelIdeal.Gen Cert.KernelIdeal.Held
variable (m : (ℓ : Loc nD τ sig) → Buf (Elt Ideal) ℓ) (c : Dev nD)

/-- The scratch after a point holds the adjoint of the state that enters the point's chunk. -/
theorem carried (t : ℕ) : ∀ (ht : t < cfg0.N) (g : Fin 4) (n : Fin 128) (r : Fin 4) (q : Fin 64),
    (left m c t ht).2.2.2.2.2 (ix2 n (lane g r q)) = (given m c).adj g (t + 1) n r q := by
  induction t with
  | zero =>
    intro ht g n r q
    exact state_at m c ⟨0, ht⟩ n g r q (fun g => (given m c).adj g 0) (fun _ _ _ _ _ => rfl) fun h => absurd rfl h
  | succ t ih =>
    intro ht g n r q
    refine state_at m c ⟨t + 1, ht⟩ n g r q (fun g => (given m c).adj g (t + 1)) (fun h => ?_) fun _ g n r q => ih _ g n r q
    have : t + 1 < 128 := ht
    exact absurd h (by show ¬(t + 1) % 128 = 0; omega)

/-- What a point leaves in the block of the first output. -/
theorem out (t : Fin cfg0.N) :
    (∀ l g r q, (left m c t.val t.isLt).1 (ix2 l ⟨(lane g r q).val, by omega⟩)
      = ((given m c).chunk (chunkAt t) g).dx ((given m c).adj g t.val) l r q) ∧
    (∀ (l : Fin 128) (g : Fin 4) (n : Fin 128), (left m c t.val t.isLt).1 (ix2 l ⟨1024 + (g.val * 128 + n.val), by omega⟩)
      = ((given m c).chunk (chunkAt t) g).db ((given m c).adj g t.val) l n) ∧
    (∀ (l : Fin 128) (g : Fin 4) (n : Fin 128), (left m c t.val t.isLt).1 (ix2 l ⟨1536 + (g.val * 128 + n.val), by omega⟩)
      = ((given m c).chunk (chunkAt t) g).dc l n) := by
  have lt : t.val < 128 := t.isLt
  refine out_at m c t (fun g => (given m c).adj g t.val) (fun h g n r q => ?_) fun h g n r q => ?_
  · rw [show t.val = 0 by omega]; rfl
  · refine (carried m c (t.val - 1) _ g n r q).trans ?_
    rw [show t.val - 1 + 1 = t.val by omega]

/-- The point that works on a chunk. -/
def pointOf (k : Fin 128) : Fin cfg0.N := ⟨127 - k.val, by show 127 - k.val < 128; omega⟩

theorem chunkAt_pointOf (k : Fin 128) : chunkAt (pointOf k) = k := Fin.ext (by show 127 - (127 - k.val) = k.val; omega)

theorem idx_out : ∀ t : Fin cfg0.N, win0_24.index t = ![127 - t.val, 0] := by decide +kernel

/-- The first output, put together from the blocks. -/
theorem array : (dats m 0 c).arrAt 24 cfg0.N = fun i : S16384x2048.Idx =>
    (left m c (pointOf ⟨(i 0).val / 128, by have : (i 0).val < 16384 := (i 0).isLt; omega⟩).val
      (pointOf ⟨(i 0).val / 128, by have : (i 0).val < 16384 := (i 0).isLt; omega⟩).isLt).1
      (ix2 (⟨(i 0).val % 128, Nat.mod_lt _ (by decide)⟩ : Fin 128) (i 1)) := by
  refine (dats m 0 c).arrAt_eq_of_covers 24 _ (by decide +kernel) fun t hf y => ?_
  blk_simp
  rw [after_24]
  have key : ∀ (k l : Fin 128) (j : Fin 2048), chunkAt t = k → (y 0).val = l.val → (y 1).val = j.val →
      (left m c t.val t.isLt).1 y = (left m c (pointOf k).val (pointOf k).isLt).1 (ix2 l j) := by
    rintro k l j rfl h0 h1
    obtain rfl : y = ix2 l j := by
      funext a; match a with
      | ⟨0, _⟩ => exact Fin.ext h0
      | ⟨1, _⟩ => exact Fin.ext h1
    have e : pointOf (chunkAt t) = t := Fin.ext (by
      have : t.val < 128 := t.isLt
      show 127 - (127 - t.val) = t.val; omega)
    rw [e]
  have e0 : win0_24.index t 0 = 127 - t.val := by rw [idx_out]; rfl
  have e1 : win0_24.index t 1 = 0 := by rw [idx_out]; rfl
  have b : (y 0).val < 128 := (y 0).isLt
  exact key _ _ _ (Fin.ext (by show 127 - t.val = _ / 128; omega)) (by show _ = _ % 128; omega) (by show _ = win0_24.index t 1 * 2048 + 1 * (y 1).val; omega)

theorem entry (k l : Fin 128) (j : Fin 2048) :
    (dats m 0 c).arrAt 24 cfg0.N (ix2 (row k l) j) = (left m c (pointOf k).val (pointOf k).isLt).1 (ix2 l j) := by
  rw [array]
  have hk : (⟨(row k l).val / 128, by omega⟩ : Fin 128) = k := Fin.ext (by show (k.val * 128 + l.val) / 128 = _; omega)
  have hl : (⟨(row k l).val % 128, by omega⟩ : Fin 128) = l := Fin.ext (by show (k.val * 128 + l.val) % 128 = _; omega)
  show (left m c (pointOf ⟨(row k l).val / 128, _⟩).val _).1 (ix2 ⟨(row k l).val % 128, _⟩ j) = _
  simp only [hk, hl]

/-! ## The result, entry by entry -/

theorem value_x (k l : Fin 128) (g r : Fin 4) (p : Fin 64) :
    (dats m 0 c).arrAt 24 cfg0.N (ix2 (row k l) (⟨(lane g r p).val, by omega⟩ : Fin 2048))
      = ((given m c).chunk k g).dx ((given m c).adj g (127 - k.val)) l r p :=
  (entry m c k l _).trans (((out m c (pointOf k)).1 l g r p).trans (by rw [chunkAt_pointOf]; rfl))

theorem value_b (k l : Fin 128) (g : Fin 4) (n : Fin 128) :
    (dats m 0 c).arrAt 24 cfg0.N (ix2 (row k l) (⟨1024 + (g.val * 128 + n.val), by omega⟩ : Fin 2048))
      = ((given m c).chunk k g).db ((given m c).adj g (127 - k.val)) l n :=
  (entry m c k l _).trans (((out m c (pointOf k)).2.1 l g n).trans (by rw [chunkAt_pointOf]; rfl))

theorem value_c (k l : Fin 128) (g : Fin 4) (n : Fin 128) :
    (dats m 0 c).arrAt 24 cfg0.N (ix2 (row k l) (⟨1536 + (g.val * 128 + n.val), by omega⟩ : Fin 2048))
      = ((given m c).chunk k g).dc l n :=
  (entry m c k l _).trans (((out m c (pointOf k)).2.2 l g n).trans (by rw [chunkAt_pointOf]))

end Cert.Proof.Kern
-- ==== Proof.Equal.lean ====
/-
  The two results are equal: both are the gradient that `Spec.lean` writes, entry by entry.
-/
module
public import proofs.«01_k».proof.Proof.RefValue
public import proofs.«01_k».proof.Proof.KernelValue
@[expose] public section
noncomputable section
open Idealize.ShloMosaic Idealize.ShloMosaic.TcCoe Idealize.SL.Sem
namespace Cert.Proof

/-- Every column is one of the inputs', one of `B`'s or one of `C`'s. -/
theorem exists_col (j : Fin 2048) :
    (∃ (g r : Fin 4) (p : Fin 64), j = ⟨(lane g r p).val, by omega⟩) ∨
    (∃ (g : Fin 4) (n : Fin 128), j = ⟨1024 + (g.val * 128 + n.val), by omega⟩) ∨
    (∃ (g : Fin 4) (n : Fin 128), j = ⟨1536 + (g.val * 128 + n.val), by omega⟩) := by
  by_cases h : j.val < 1024
  · exact .inl ⟨⟨j.val / 256, by omega⟩, ⟨j.val / 64 % 4, by omega⟩, ⟨j.val % 64, by omega⟩,
      Fin.ext (by show j.val = j.val / 256 * 256 + j.val / 64 % 4 * 64 + j.val % 64; omega)⟩
  by_cases h' : j.val < 1536
  · exact .inr (.inl ⟨⟨(j.val - 1024) / 128, by omega⟩, ⟨(j.val - 1024) % 128, by omega⟩,
      Fin.ext (by show j.val = 1024 + ((j.val - 1024) / 128 * 128 + (j.val - 1024) % 128); omega)⟩)
  · exact .inr (.inr ⟨⟨(j.val - 1536) / 128, by omega⟩, ⟨(j.val - 1536) % 128, by omega⟩,
      Fin.ext (by show j.val = 1536 + ((j.val - 1536) / 128 * 128 + (j.val - 1536) % 128); omega)⟩)

/-- The two arrays agree where the arguments do. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Ref.given m' c = Kern.given m c) :
    Ref.resultG (Ref.done m' c) = (Cert.KernelIdeal.Held.dats m 0 c).arrAt 24 Cert.KernelIdeal.cfg0.N := by
  funext i
  obtain ⟨k, l, hr⟩ := Ref.exists_row (i 0)
  obtain ⟨j, hj⟩ : ∃ j : Fin 2048, i 1 = j := ⟨_, rfl⟩
  obtain rfl : i = ix2 (row k l) j := by
    funext a; match a with
    | ⟨0, _⟩ => exact hr
    | ⟨1, _⟩ => exact hj
  clear hr hj
  obtain ⟨g, r, p, rfl⟩ | ⟨g, n, rfl⟩ | ⟨g, n, rfl⟩ := exists_col j
  · exact (Ref.value_x m' c k l g r p).trans ((congrArg (fun A : Args => (A.chunk k g).dx (A.adj g (127 - k.val)) l r p) h).trans
      (Kern.value_x m c k l g r p).symm)
  · exact (Ref.value_b m' c k l g n).trans ((congrArg (fun A : Args => (A.chunk k g).db (A.adj g (127 - k.val)) l n) h).trans
      (Kern.value_b m c k l g n).symm)
  · exact (Ref.value_c m' c k l g n).trans ((congrArg (fun A : Args => (A.chunk k g).dc l n) h).trans
      (Kern.value_c m c k l g n).symm)

end Cert.Proof
-- ==== Proof.WeightGradValue.lean ====
/-
  The weight gradient of a feed-forward product, as the kernel computes it: the scratch adds up four partial products, one for each part
  of the rows, and the fourth point writes the sum out.
-/
module
public import proofs.«01_k».proof.Defs
public import proofs.«01_k».proof.Proof.Gen.WeightGradIdeal.Frame
public import Idealize.ShloMosaic.Lib.Pipeline.ValueKit
public import Idealize.ShloMosaic.Lib.Pipeline.ReadBack
public import Idealize.ShloMosaic.Lib.Pointwise
public import Idealize.ShloMosaic.PureOps.Ideal
@[expose] public section
noncomputable section
open Idealize.ShloMosaic Idealize.ShloMosaic.TcCoe Idealize.SL.Sem
namespace Cert.Proof.Weight
open Cert.WeightGradIdeal Cert.WeightGradIdeal.Gen
variable (m : (ℓ : Loc nD τ sig) → Buf (Elt Ideal) ℓ) (c : Dev nD)

/-- The left factor: four parts of the columns. -/
abbrev lhs : Fin 4 → Fin 16384 → Fin 704 → EReal := fun s x i => m ((c : Thread nD τ).loc main_arg0) (ix3 s x i)

/-- The right factor. -/
abbrev rhs : Fin 16384 → Fin 1024 → EReal := fun x j => m ((c : Thread nD τ).loc main_arg1) (ix2 x j)

/-- The product of two blocks. -/
theorem pay1_at (v0 : Vec Ideal S1x4096x704 .bf16) (v2 : Vec Ideal S4096x1024 .bf16) (i : Fin 704) (j : Fin 1024) :
    k0_pay1 v0 v2 (ix2 i j) = (∑ l : Fin 4096, v0 (ix3 0 l i) * v2 (ix2 l j) : EReal) := by
  open_payloads
  pointwise

theorem idx_in : ∀ t : Fin cfg0.N, win0_0.index t = ![t.val / 4, t.val % 4, 0] ∧ win0_1.index t = ![t.val % 4, 0] := by
  decide +kernel

theorem idx_out : ∀ t : Fin cfg0.N, win0_2.index t = ![t.val / 4, 0, 0] := by
  decide +kernel

/-- The part of the columns that a point works on. -/
def partOf (t : Fin cfg0.N) : Fin 4 := ⟨t.val / 4, by have : t.val < 16 := t.isLt; omega⟩

/-- A row of a point's blocks, among all rows. -/
def rowAt (k : ℕ) (hk : k < 4) (l : Fin 4096) : Fin 16384 := ⟨k * 4096 + l.val, by omega⟩

theorem blk_lhs (t : Fin cfg0.N) (l : Fin 4096) (i : Fin 704) :
    iblk m c 0 t (ix3 0 l i) = lhs m c (partOf t) (rowAt (t.val % 4) (Nat.mod_lt _ (by decide)) l) i := by
  obtain ⟨e, -⟩ := idx_in t
  show _ = m (c.tc.loc main_arg0) (ix3 _ _ _)
  blk_ext [iblk, V, e, partOf, rowAt]

theorem blk_rhs (t : Fin cfg0.N) (l : Fin 4096) (j : Fin 1024) :
    iblk m c 1 t (ix2 l j) = rhs m c (rowAt (t.val % 4) (Nat.mod_lt _ (by decide)) l) j := by
  obtain ⟨-, e⟩ := idx_in t
  show _ = m (c.tc.loc main_arg1) (ix2 _ _)
  blk_ext [iblk, V, e, rowAt]

/-- What a point adds to the scratch. -/
def part (t : Fin cfg0.N) (y : S704x1024.Idx) : EReal :=
  ∑ l : Fin 4096, lhs m c (partOf t) (rowAt (t.val % 4) (Nat.mod_lt _ (by decide)) l) (y 0)
    * rhs m c (rowAt (t.val % 4) (Nat.mod_lt _ (by decide)) l) (y 1)

theorem pay1_part (t : Fin cfg0.N) (i : Fin 704) (j : Fin 1024) :
    k0_pay1 (iblk m c 0 t) (iblk m c 1 t) (ix2 i j) = part m c t (ix2 i j) :=
  (pay1_at _ _ i j).trans (Finset.sum_congr rfl fun l _ => congrArg₂ (· * ·) (blk_lhs m c t l i) (blk_rhs m c t l j))

theorem pay2_at (v0 : Vec Ideal S1x4096x704 .bf16) (v2 : Vec Ideal S4096x1024 .bf16) (i : Fin 704) (j : Fin 1024) :
    k0_pay2 v0 v2 (ix2 i j) = k0_pay1 v0 v2 (ix2 i j) := by
  unfold k0_pay2
  generalize k0_pay1 v0 v2 = p
  pointwise

theorem pay3_at (v0 : Vec Ideal S1x4096x704 .bf16) (v2 : Vec Ideal S4096x1024 .bf16) (v13 : Vec Ideal S704x1024 .f32) (i : Fin 704)
    (j : Fin 1024) : k0_pay3 v0 v2 v13 (ix2 i j) = (v13 (ix2 i j) + k0_pay1 v0 v2 (ix2 i j) : EReal) := by
  unfold k0_pay3
  generalize k0_pay1 v0 v2 = p
  pointwise

theorem pay4_at (v13 : Vec Ideal S704x1024 .f32) (i : Fin 704) (j : Fin 1024) : k0_pay4 v13 (ix3 0 i j) = v13 (ix2 i j) := by
  unfold k0_pay4
  pointwise

theorem exists_ix2 (y : S704x1024.Idx) : ∃ i j, y = ix2 i j :=
  ⟨y 0, y 1, by funext a; match a with | ⟨0, _⟩ => rfl | ⟨1, _⟩ => rfl⟩

/-- The first point of a part starts the sum. -/
theorem scratch_first (t : Fin cfg0.N) (h : t.val % 4 = 0) (y : S704x1024.Idx) :
    (outsAt0 m c t.val t.isLt).2 y = (0 : EReal) + part m c t y := by
  obtain ⟨i, j, rfl⟩ := exists_ix2 y
  rw [outsAt0_A m c t h (by omega) (by omega), zero_add]
  frame_out
  exact (pay2_at _ _ i j).trans (pay1_part m c t i j)

/-- The other points go on with it. -/
theorem scratch_later (t : Fin cfg0.N) (h : ¬t.val % 4 = 0) (y : S704x1024.Idx) :
    (outsAt0 m c t.val t.isLt).2 y
      = ((outsAt0 m c (t.val - 1) (Nat.lt_of_le_of_lt (Nat.sub_le _ _) t.isLt)).2 y + part m c t y : EReal) := by
  obtain ⟨i, j, rfl⟩ := exists_ix2 y
  have key := fun before : Vec Ideal S704x1024 .f32 =>
    (pay3_at (iblk m c 0 t) (iblk m c 1 t) before i j).trans (congrArg (before (ix2 i j) + ·) (pay1_part m c t i j))
  by_cases h' : t.val % 4 = 3
  · rw [outsAt0_C m c t h (by omega) h']
    generalize outsAt0 m c (t.val - 1) (Nat.lt_of_le_of_lt (Nat.sub_le _ _) t.isLt) = before
    frame_out
    simp only [read_unread_whole]
    exact key before.2
  · rw [outsAt0_B m c t h (by omega) h']
    generalize outsAt0 m c (t.val - 1) (Nat.lt_of_le_of_lt (Nat.sub_le _ _) t.isLt) = before
    frame_out
    simp only [read_unread_whole]
    exact key before.2

/-- The last point of a part writes the scratch out. -/
theorem out_last (t : Fin cfg0.N) (h : t.val % 4 = 3) (i : Fin 704) (j : Fin 1024) :
    (outsAt0 m c t.val t.isLt).1 (ix3 0 i j) = (outsAt0 m c t.val t.isLt).2 (ix2 i j) := by
  rw [outsAt0_C m c t (by omega) (by omega) h]
  generalize outsAt0 m c (t.val - 1) (Nat.lt_of_le_of_lt (Nat.sub_le _ _) t.isLt) = before
  frame_out
  exact pay4_at _ i j

/-- The scratch at the end of a part: the sum over all rows. -/
theorem total (t : Fin cfg0.N) (h : t.val % 4 = 3) (i : Fin 704) (j : Fin 1024) :
    (outsAt0 m c t.val t.isLt).2 (ix2 i j) = (∑ x : Fin 16384, lhs m c (partOf t) x i * rhs m c x j : EReal) := by
  rw [Pipeline.eq_sum_fin_of_reset_step_apply_of_flush (fun n h => (outsAt0 m c n h).2) 4 (fun _ => (0 : EReal)) (part m c)
    (scratch_first m c) (scratch_later m c) t h (ix2 i j), zero_add]
  have hb : ∀ s : Fin 4, 4 * (t.val / 4) + s.val < cfg0.N := fun s => by have : t.val < 16 := t.isLt; show _ < 16; omega
  have hp : ∀ s : Fin 4, part m c ⟨4 * (t.val / 4) + s.val, hb s⟩ (ix2 i j)
      = ∑ l : Fin 4096, lhs m c (partOf t) (rowAt s.val s.isLt l) i * rhs m c (rowAt s.val s.isLt l) j := by
    intro s
    refine Finset.sum_congr rfl fun l _ => ?_
    have e1 : partOf ⟨4 * (t.val / 4) + s.val, hb s⟩ = partOf t := Fin.ext (by show (4 * (t.val / 4) + s.val) / 4 = t.val / 4; omega)
    have e2 : rowAt ((4 * (t.val / 4) + s.val) % 4) (Nat.mod_lt _ (by decide)) l = rowAt s.val s.isLt l :=
      Fin.ext (by show (4 * (t.val / 4) + s.val) % 4 * 4096 + l.val = s.val * 4096 + l.val; omega)
    show lhs m c (partOf ⟨4 * (t.val / 4) + s.val, hb s⟩) (rowAt ((4 * (t.val / 4) + s.val) % 4) _ l) i
      * rhs m c (rowAt ((4 * (t.val / 4) + s.val) % 4) _ l) j = _
    rw [e1, e2]
  refine (Finset.sum_congr rfl fun s _ => hp s).trans ?_
  exact Fin.sum_mul_add_fin 4 4096 (fun x : Fin 16384 => lhs m c (partOf t) x i * rhs m c x j) rfl

/-- The result, put together from the blocks. -/
theorem array : (dats m 0 c).arrAt 2 cfg0.N = fun y : S4x704x1024.Idx =>
    (∑ x : Fin 16384, lhs m c (y 0) x (y 1) * rhs m c x (y 2) : EReal) := by
  refine (dats m 0 c).arrAt_eq_of_covers 2 _ (by decide +kernel) fun t hf y => ?_
  have hl : t.val % 4 = 3 := (flush0_2 t).mp hf
  blk_simp
  rw [after0_2]
  have key : ∀ (s : Fin 4) (i : Fin 704) (j : Fin 1024), t.val / 4 = s.val → (y 1).val = i.val → (y 2).val = j.val →
      (outsAt0 m c t.val t.isLt).1 y = (∑ x : Fin 16384, lhs m c s x i * rhs m c x j : EReal) := by
    intro s i j hs h1 h2
    obtain rfl : y = ix3 0 i j := by
      funext a; match a with
      | ⟨0, _⟩ => exact Fin.ext (by have : (y 0).val < 1 := (y 0).isLt; show (y 0).val = 0; omega)
      | ⟨1, _⟩ => exact Fin.ext h1
      | ⟨2, _⟩ => exact Fin.ext h2
    obtain rfl : partOf t = s := Fin.ext hs
    exact (out_last m c t hl i j).trans (total m c t hl i j)
  have e0 : win0_2.index t 0 = t.val / 4 := by rw [idx_out]; rfl
  have e1 : win0_2.index t 1 = 0 := by rw [idx_out]; rfl
  have e2 : win0_2.index t 2 = 0 := by rw [idx_out]; rfl
  have b : (y 0).val < 1 := (y 0).isLt
  exact key _ _ _ (by show _ = win0_2.index t 0 * 1 + 1 * (y 0).val; omega) (by show _ = win0_2.index t 1 * 704 + 1 * (y 1).val; omega)
    (by show _ = win0_2.index t 2 * 1024 + 1 * (y 2).val; omega)

end Cert.Proof.Weight
-- ==== Proof.WeightGradRef.lean ====
/-
  The weight gradient of a feed-forward product, as the reference computes it: one product over all rows.
-/
module
public import proofs.«01_k».proof.Defs
public import proofs.«01_k».proof.Proof.Gen.WeightGradReferenceIdeal.Run
public import Idealize.ShloMosaic.Lib.Pipeline.ValueKit
public import Idealize.ShloMosaic.Lib.Pointwise
public import Idealize.ShloMosaic.PureOps.Ideal
@[expose] public section
noncomputable section
open Idealize.ShloMosaic Idealize.ShloMosaic.TcCoe Idealize.SL.Sem
namespace Cert.Proof.Weight
open Cert.WeightGradReferenceIdeal Cert.WeightGradReferenceIdeal.Gen

/-- The four parts of the columns, side by side. -/
abbrev act (a : Vec Ideal S4x16384x704 .bf16) : Vec Ideal S16384x2816 .bf16 :=
  concatenate S16384x2816 1 [
    ⟨S16384x704, shapeCast _ (extractStridedSlice S1x16384x704 ![0, 0, 0] a slices_S4x16384x704_S1x16384x704_0_0_0) shapeCasts_S1x16384x704_S16384x704⟩,
    ⟨S16384x704, shapeCast _ (extractStridedSlice S1x16384x704 ![1, 0, 0] a slices_S4x16384x704_S1x16384x704_1_0_0) shapeCasts_S1x16384x704_S16384x704⟩,
    ⟨S16384x704, shapeCast _ (extractStridedSlice S1x16384x704 ![2, 0, 0] a slices_S4x16384x704_S1x16384x704_2_0_0) shapeCasts_S1x16384x704_S16384x704⟩,
    ⟨S16384x704, shapeCast _ (extractStridedSlice S1x16384x704 ![3, 0, 0] a slices_S4x16384x704_S1x16384x704_3_0_0) shapeCasts_S1x16384x704_S16384x704⟩]
    concatenates_S16384x704_S16384x704_S16384x704_S16384x704_S16384x2816_d1

/-- A column of a part, among all columns. -/
def col (s : Fin 4) (i : Fin 704) : Fin 2816 := ⟨s.val * 704 + i.val, by omega⟩

theorem act_at (a : Vec Ideal S4x16384x704 .bf16) (s : Fin 4) (x : Fin 16384) (i : Fin 704) : act a (ix2 x (col s i)) = a (ix3 s x i) := by
  have hi : i.val < 704 := i.isLt
  unfold act col
  match s with
  | 0 => pointwise
  | 1 => pointwise
  | 2 =>
    pointwise
    rw [dif_neg (by omega), dif_neg (by omega), dif_pos (by omega)]
    exact congrArg (fun z => a (ix3 2 x z)) (Fin.ext (by show 1408 + i.val - 704 - 704 = i.val; omega))
  | 3 =>
    pointwise
    rw [dif_neg (by omega), dif_neg (by omega), dif_neg (by omega)]
    exact congrArg (fun z => a (ix3 3 x z)) (Fin.ext (by show 2112 + i.val - 704 - 704 - 704 = i.val; omega))

/-- What the reference does with its arguments. -/
abbrev gradOf (a : Vec Ideal S16384x2816 .bf16) (b : Vec Ideal S16384x1024 .bf16) : Vec Ideal S4x704x1024 .f32 :=
  shapeCast S4x704x1024 (transpose S2816x1024 [1, 0] (Host.dotGeneral (F := Ideal) dot_S16384x1024_S16384x2816_S1024x2816_0_0_1_1_n_n none
    (extf .f32 b bitsLt_bf16_f32) (extf .f32 a bitsLt_bf16_f32)) transposes_S1024x2816_S2816x1024_1_0) shapeCasts_S2816x1024_S4x704x1024

theorem gradOf_at (a : Vec Ideal S16384x2816 .bf16) (b : Vec Ideal S16384x1024 .bf16) (s : Fin 4) (i : Fin 704) (j : Fin 1024) :
    gradOf a b (ix3 s i j) = (∑ x : Fin 16384, b (ix2 x j) * a (ix2 x (col s i)) : EReal) := by
  unfold gradOf col
  pointwise
  done

end Cert.Proof.Weight
-- ==== Proof.WeightGradEqual.lean ====
/-
  The two weight gradients are equal: both are, entry by entry, the sum over all rows.
-/
module
public import proofs.«01_k».proof.Proof.WeightGradValue
public import proofs.«01_k».proof.Proof.WeightGradRef
@[expose] public section
noncomputable section
open Idealize.ShloMosaic Idealize.ShloMosaic.TcCoe Idealize.SL.Sem
namespace Cert.Proof.Weight

theorem result_eq (m : (ℓ : Loc Cert.WeightGradIdeal.nD Cert.WeightGradIdeal.τ Cert.WeightGradIdeal.sig) → Buf (Elt Ideal) ℓ)
    (c : Dev Cert.WeightGradIdeal.nD) :
    gradOf (act (m ((c.tc : Thread Cert.WeightGradIdeal.nD Cert.WeightGradIdeal.τ).loc Cert.WeightGradIdeal.main_arg0)))
      (m ((c.tc : Thread Cert.WeightGradIdeal.nD Cert.WeightGradIdeal.τ).loc Cert.WeightGradIdeal.main_arg1))
      = (Cert.WeightGradIdeal.Gen.dats m 0 c).arrAt 2 Cert.WeightGradIdeal.cfg0.N := by
  rw [array]
  funext y
  obtain ⟨s, i, j, rfl⟩ : ∃ s i j, y = ix3 s i j :=
    ⟨y 0, y 1, y 2, by funext a; match a with | ⟨0, _⟩ => rfl | ⟨1, _⟩ => rfl | ⟨2, _⟩ => rfl⟩
  refine (gradOf_at _ _ s i j).trans (Finset.sum_congr rfl fun x _ => ?_)
  rw [act_at]
  exact mul_comm _ _

end Cert.Proof.Weight
-- ==== Proof.WidenValue.lean ====
/-
  The products that grow the width of the feed-forward layer, as the kernel computes them: a point takes eight groups of rows of its block,
  one after another, and writes for each the gate, the other product and the gated product.
-/
module
public import proofs.«01_k».proof.Defs
public import proofs.«01_k».proof.Proof.Gen.WidenIdeal.Frame
public import Idealize.ShloMosaic.Lib.Pipeline.ValueKit
public import Idealize.ShloMosaic.Lib.Pipeline.Value
public import Idealize.ShloMosaic.Lib.Pointwise
public import Idealize.ShloMosaic.PureOps.Ideal
@[expose] public section
noncomputable section
open Idealize.ShloMosaic Idealize.ShloMosaic.TcCoe Idealize.SL.Sem
namespace Cert.Proof.Widen
open Cert.WidenIdeal Cert.WidenIdeal.Gen
variable (m : (ℓ : Loc nD τ sig) → Buf (Elt Ideal) ℓ) (c : Dev nD)

/-- The gated product of two numbers. -/
def gated (g u : EReal) : EReal := g * Ideal.logistic g * u

/-- The rows. -/
abbrev rows : Fin 16384 → Fin 1024 → EReal := fun x d => m ((c : Thread nD τ).loc main_arg0) (ix2 x d)

/-- The weights of the gate: four parts of the columns. -/
abbrev wGate : Fin 4 → Fin 1024 → Fin 704 → EReal := fun s d i => m ((c : Thread nD τ).loc main_arg1) (ix3 s ⟨d.val, by omega⟩ i)

/-- The weights of the other product. -/
abbrev wUp : Fin 4 → Fin 1024 → Fin 704 → EReal := fun s d i => m ((c : Thread nD τ).loc main_arg2) (ix3 s ⟨d.val, by omega⟩ i)

/-- An entry of a product of a block of rows. -/
abbrev entry (x0 : Vec Ideal S2048x1024 .bf16) (x1 : Vec Ideal S1x1024x704 .bf16) (l : Fin 2048) (i : Fin 704) : EReal :=
  ∑ d : Fin 1024, x0 (ix2 l d) * x1 (ix3 0 d i)

/-- An entry of a product of a group of rows. -/
abbrev dot (v0 : Vec Ideal S256x1024 .bf16) (v1 : Vec Ideal S1x1024x704 .bf16) (l : Fin 256) (i : Fin 704) : EReal :=
  ∑ d : Fin 1024, v0 (ix2 l d) * v1 (ix3 0 d i)

theorem dot_at (v0 : Vec Ideal S256x1024 .bf16) (v1 : Vec Ideal S1x1024x704 .bf16) (l : Fin 256) (i : Fin 704) :
    k0_pay7 v0 v1 (ix2 l i) = dot v0 v1 l i := by
  open_payloads
  pointwise

theorem gate_at (v0 : Vec Ideal S256x1024 .bf16) (v1 : Vec Ideal S1x1024x704 .bf16) (l : Fin 256) (i : Fin 704) :
    k0_pay9 v0 v1 (ix3 0 l i) = dot v0 v1 l i := by
  rw [← dot_at]
  unfold k0_pay9
  generalize k0_pay7 v0 v1 = p
  pointwise

theorem act_at (v0 : Vec Ideal S256x1024 .bf16) (v1 v2 : Vec Ideal S1x1024x704 .bf16) (l : Fin 256) (i : Fin 704) :
    k0_pay11 v0 v1 v2 (ix3 0 l i) = gated (dot v0 v1 l i) (dot v0 v2 l i) := by
  rw [← dot_at, ← dot_at, show k0_pay7 v0 v2 = k0_pay8 v0 v2 from rfl]
  unfold k0_pay11 gated
  generalize k0_pay7 v0 v1 = p
  generalize k0_pay8 v0 v2 = q
  pointwise
  done

/-- A group of rows, read out of the block. -/
theorem group (o : ℕ) (h : ∀ a, ![o, 0] a + S256x1024.size a ≤ S2048x1024.size a) (x0 : Vec Ideal S2048x1024 .bf16)
    (x1 : Vec Ideal S1x1024x704 .bf16) (l : Fin 256) (i : Fin 704) (hl : o + l.val < 2048) :
    dot (View.ld x0 (Rect.unit (s := S2048x1024) ![o, 0] S256x1024.size h)) (View.ld x1 r0_1) l i = entry x0 x1 ⟨o + l.val, hl⟩ i := by
  refine Finset.sum_congr rfl fun d _ => congrArg₂ (· * ·) ?_ ?_
  · show x0 _ = x0 _
    refine congrArg x0 (funext fun a => ?_)
    match a with
    | ⟨0, _⟩ => exact Fin.ext (by show o + 1 * l.val = o + l.val; omega)
    | ⟨1, _⟩ => exact Fin.ext (by show 0 + 1 * d.val = d.val; omega)
  · show x1 _ = x1 _
    refine congrArg x1 (funext fun a => ?_)
    match a with
    | ⟨0, _⟩ => exact Fin.ext rfl
    | ⟨1, _⟩ => exact Fin.ext (by show 0 + 1 * d.val = d.val; omega)
    | ⟨2, _⟩ => exact Fin.ext (by show 0 + 1 * i.val = i.val; omega)

/-- A payload that agrees with `G` on the rows that start at `o` is the piece of `G` that its store writes. -/
theorem piece (G : Fin 2048 → Fin 704 → EReal) (o : ℕ) (h : ∀ a, ![0, o, 0] a + S1x256x704.size a ≤ S1x2048x704.size a)
    (p : Vec Ideal S1x256x704 .bf16) (ho : o + 256 ≤ 2048)
    (hp : ∀ (l : Fin 256) (i : Fin 704), p (ix3 0 l i) = G ⟨o + l.val, by omega⟩ i) (z : S1x256x704.Idx) :
    p z = (fun y : S1x2048x704.Idx => G (y 1) (y 2)) ((Rect.unit (s := S1x2048x704) ![0, o, 0] S1x256x704.size h).emb z) := by
  obtain ⟨l, i, rfl⟩ : ∃ (l : Fin 256) (i : Fin 704), z = ix3 0 l i :=
    ⟨z 1, z 2, by
      funext a
      match a with
      | ⟨0, _⟩ => exact Fin.ext (by have : (z 0).val < 1 := (z 0).isLt; show (z 0).val = 0; omega)
      | ⟨1, _⟩ => rfl
      | ⟨2, _⟩ => rfl⟩
  refine (hp l i).trans (congrArg₂ G (Fin.ext ?_) (Fin.ext ?_))
  · show o + l.val = o + 1 * l.val
    omega
  · show i.val = 0 + 1 * i.val
    omega

variable (x0 : Vec Ideal S2048x1024 .bf16) (x1 x2 : Vec Ideal S1x1024x704 .bf16)

theorem out_gate : out0_3 (F := Ideal) x0 x1 x2 = (fun y => entry x0 x1 (y 1) (y 2) : Vec Ideal S1x2048x704 .bf16) := by
  funext y
  unfold out0_3
  refine View.canon_apply_of_pieces (Val := Elt Ideal) (fun y : S1x2048x704.Idx => entry x0 x1 (y 1) (y 2)) _ ?_ y (cover0_3 _ _ _ _ _ _ _ _ y)
  have key := fun (o : ℕ) (h : ∀ a, ![o, 0] a + S256x1024.size a ≤ S2048x1024.size a)
      (h' : ∀ a, ![0, o, 0] a + S1x256x704.size a ≤ S1x2048x704.size a) (ho : o + 256 ≤ 2048) =>
    piece (entry x0 x1) o h' (k0_pay9 (View.ld x0 (Rect.unit (s := S2048x1024) ![o, 0] S256x1024.size h)) (View.ld x1 r0_1)) ho
      fun l i => (gate_at _ _ l i).trans (group o h x0 x1 l i _)
  simp only [List.forall_mem_cons]
  exact ⟨key 1792 _ _ (by decide), key 1536 _ _ (by decide), key 1280 _ _ (by decide), key 1024 _ _ (by decide), key 768 _ _ (by decide),
    key 512 _ _ (by decide), key 256 _ _ (by decide), key 0 _ _ (by decide), fun _ h => absurd h List.not_mem_nil⟩

theorem out_up : out0_4 x0 x1 x2 = (fun y => entry x0 x2 (y 1) (y 2) : Vec Ideal S1x2048x704 .bf16) :=
  (show out0_4 x0 x1 x2 = out0_3 x0 x2 x1 from rfl).trans (out_gate x0 x2 x1)

theorem out_act : out0_5 (F := Ideal) x0 x1 x2 = (fun y => gated (entry x0 x1 (y 1) (y 2)) (entry x0 x2 (y 1) (y 2)) : Vec Ideal S1x2048x704 .bf16) := by
  funext y
  unfold out0_5
  refine View.canon_apply_of_pieces (Val := Elt Ideal) (fun y : S1x2048x704.Idx => gated (entry x0 x1 (y 1) (y 2)) (entry x0 x2 (y 1) (y 2))) _ ?_ y
    (cover0_5 _ _ _ _ _ _ _ _ y)
  have key := fun (o : ℕ) (h : ∀ a, ![o, 0] a + S256x1024.size a ≤ S2048x1024.size a)
      (h' : ∀ a, ![0, o, 0] a + S1x256x704.size a ≤ S1x2048x704.size a) (ho : o + 256 ≤ 2048) =>
    piece (fun l i => gated (entry x0 x1 l i) (entry x0 x2 l i)) o h'
      (k0_pay11 (View.ld x0 (Rect.unit (s := S2048x1024) ![o, 0] S256x1024.size h)) (View.ld x1 r0_1) (View.ld x2 r0_1)) ho
      fun l i => (act_at _ _ _ l i).trans (congrArg₂ gated (group o h x0 x1 l i _) (group o h x0 x2 l i _))
  simp only [List.forall_mem_cons]
  exact ⟨key 1792 _ _ (by decide), key 1536 _ _ (by decide), key 1280 _ _ (by decide), key 1024 _ _ (by decide), key 768 _ _ (by decide),
    key 512 _ _ (by decide), key 256 _ _ (by decide), key 0 _ _ (by decide), fun _ h => absurd h List.not_mem_nil⟩

theorem idx_rows : ∀ t : Fin cfg0.N, win0_0.index t = ![t.val % 8, 0] := by decide +kernel

theorem idx_weights : ∀ t : Fin cfg0.N, win0_1.index t = ![t.val / 8, 0, 0] ∧ win0_2.index t = ![t.val / 8, 0, 0] := by decide +kernel

theorem idx_out : ∀ t : Fin cfg0.N, win0_3.index t = ![t.val / 8, t.val % 8, 0] ∧ win0_4.index t = ![t.val / 8, t.val % 8, 0] ∧
    win0_5.index t = ![t.val / 8, t.val % 8, 0] := by decide +kernel

/-- The part of the columns that a point works on. -/
def partOf (t : Fin cfg0.N) : Fin 4 := ⟨t.val / 8, by have : t.val < 32 := t.isLt; omega⟩

/-- A row of a point's block, among all rows. -/
def rowAt (t : Fin cfg0.N) (l : Fin 2048) : Fin 16384 := ⟨t.val % 8 * 2048 + l.val, by omega⟩

theorem blk_rows (t : Fin cfg0.N) (l : Fin 2048) (d : Fin 1024) : iblk m c 0 t (ix2 l d) = rows m c (rowAt t l) d := by
  have e := idx_rows t
  show _ = m (c.tc.loc main_arg0) (ix2 _ _)
  blk_ext [iblk, V, e, rowAt]

theorem blk_gate (t : Fin cfg0.N) (d : Fin 1024) (i : Fin 704) : iblk m c 1 t (ix3 0 d i) = wGate m c (partOf t) d i := by
  obtain ⟨e, -⟩ := idx_weights t
  show _ = m (c.tc.loc main_arg1) (ix3 _ _ _)
  blk_ext [iblk, V, e, partOf]

theorem blk_up (t : Fin cfg0.N) (d : Fin 1024) (i : Fin 704) : iblk m c 2 t (ix3 0 d i) = wUp m c (partOf t) d i := by
  obtain ⟨-, e⟩ := idx_weights t
  show _ = m (c.tc.loc main_arg2) (ix3 _ _ _)
  blk_ext [iblk, V, e, partOf]

/-- An entry of the gate's product. -/
def gateAt (s : Fin 4) (x : Fin 16384) (i : Fin 704) : EReal := ∑ d : Fin 1024, rows m c x d * wGate m c s d i

/-- An entry of the other product. -/
def upAt (s : Fin 4) (x : Fin 16384) (i : Fin 704) : EReal := ∑ d : Fin 1024, rows m c x d * wUp m c s d i

theorem entry_gate (t : Fin cfg0.N) (l : Fin 2048) (i : Fin 704) :
    entry (iblk m c 0 t) (iblk m c 1 t) l i = gateAt m c (partOf t) (rowAt t l) i :=
  Finset.sum_congr rfl fun d _ => congrArg₂ (· * ·) (blk_rows m c t l d) (blk_gate m c t d i)

theorem entry_up (t : Fin cfg0.N) (l : Fin 2048) (i : Fin 704) :
    entry (iblk m c 0 t) (iblk m c 2 t) l i = upAt m c (partOf t) (rowAt t l) i :=
  Finset.sum_congr rfl fun d _ => congrArg₂ (· * ·) (blk_rows m c t l d) (blk_up m c t d i)

/-- Where an index of a point's block lies in the array. -/
theorem placed (G : Fin 4 → Fin 16384 → Fin 704 → EReal) (t : Fin cfg0.N) (y : S1x2048x704.Idx) (s : Fin 4) (x : Fin 16384) (i : Fin 704)
    (hs : s.val = t.val / 8 * 1 + 1 * (y 0).val) (hx : x.val = t.val % 8 * 2048 + 1 * (y 1).val) (hi : i.val = 0 * 704 + 1 * (y 2).val) :
    G (partOf t) (rowAt t (y 1)) (y 2) = G s x i := by
  have b : (y 0).val < 1 := (y 0).isLt
  obtain rfl : partOf t = s := Fin.ext (by show t.val / 8 = s.val; omega)
  obtain rfl : rowAt t (y 1) = x := Fin.ext (by show t.val % 8 * 2048 + (y 1).val = x.val; omega)
  obtain rfl : (y 2 : Fin 704) = i := Fin.ext (by omega)
  rfl

/-- The three results, put together from the blocks. -/
theorem array_gate : (dats m 0 c).arrAt 3 cfg0.N = (fun y => gateAt m c (y 0) (y 1) (y 2) : Vec Ideal S4x16384x704 .bf16) := by
  refine (dats m 0 c).arrAt_eq_of_covers 3 _ (by decide +kernel) fun t _ y => ?_
  blk_simp
  rw [after0_3, out_gate]
  have e0 : win0_3.index t 0 = t.val / 8 := by rw [(idx_out t).1]; rfl
  have e1 : win0_3.index t 1 = t.val % 8 := by rw [(idx_out t).1]; rfl
  have e2 : win0_3.index t 2 = 0 := by rw [(idx_out t).1]; rfl
  refine (entry_gate m c t _ _).trans (placed (gateAt m c) t y _ _ _ ?_ ?_ ?_)
  · rw [← e0]; rfl
  · rw [← e1]; rfl
  · rw [← e2]; rfl

theorem array_up : (dats m 0 c).arrAt 4 cfg0.N = (fun y => upAt m c (y 0) (y 1) (y 2) : Vec Ideal S4x16384x704 .bf16) := by
  refine (dats m 0 c).arrAt_eq_of_covers 4 _ (by decide +kernel) fun t _ y => ?_
  blk_simp
  rw [after0_4, out_up]
  have e0 : win0_4.index t 0 = t.val / 8 := by rw [(idx_out t).2.1]; rfl
  have e1 : win0_4.index t 1 = t.val % 8 := by rw [(idx_out t).2.1]; rfl
  have e2 : win0_4.index t 2 = 0 := by rw [(idx_out t).2.1]; rfl
  refine (entry_up m c t _ _).trans (placed (upAt m c) t y _ _ _ ?_ ?_ ?_)
  · rw [← e0]; rfl
  · rw [← e1]; rfl
  · rw [← e2]; rfl

theorem array_act : (dats m 0 c).arrAt 5 cfg0.N
    = (fun y => gated (gateAt m c (y 0) (y 1) (y 2)) (upAt m c (y 0) (y 1) (y 2)) : Vec Ideal S4x16384x704 .bf16) := by
  refine (dats m 0 c).arrAt_eq_of_covers 5 _ (by decide +kernel) fun t _ y => ?_
  blk_simp
  rw [after0_5, out_act]
  have e0 : win0_5.index t 0 = t.val / 8 := by rw [(idx_out t).2.2]; rfl
  have e1 : win0_5.index t 1 = t.val % 8 := by rw [(idx_out t).2.2]; rfl
  have e2 : win0_5.index t 2 = 0 := by rw [(idx_out t).2.2]; rfl
  refine (congrArg₂ gated (entry_gate m c t _ _) (entry_up m c t _ _)).trans
    (placed (fun s x i => gated (gateAt m c s x i) (upAt m c s x i)) t y _ _ _ ?_ ?_ ?_)
  · rw [← e0]; rfl
  · rw [← e1]; rfl
  · rw [← e2]; rfl

end Cert.Proof.Widen
-- ==== Proof.WidenRef.lean ====
/-
  The products that grow the width of the feed-forward layer, as the reference computes them.
-/
module
public import proofs.«01_k».proof.Proof.WidenValue
public import proofs.«01_k».proof.Proof.Gen.WidenReferenceIdeal.Run
@[expose] public section
noncomputable section
open Idealize.ShloMosaic Idealize.ShloMosaic.TcCoe Idealize.SL.Sem
namespace Cert.Proof.Widen
open Cert.WidenReferenceIdeal Cert.WidenReferenceIdeal.Gen

/-- The weights of the first layer: the four parts of the columns, side by side. -/
abbrev weights (w : Vec Ideal S4x2048x704 .bf16) : Vec Ideal S1024x2816 .bf16 :=
  concatenate S1024x2816 1 [
    ⟨S1024x704, shapeCast _ (extractStridedSlice S1x1024x704 ![0, 0, 0] w slices_S4x2048x704_S1x1024x704_0_0_0) shapeCasts_S1x1024x704_S1024x704⟩,
    ⟨S1024x704, shapeCast _ (extractStridedSlice S1x1024x704 ![1, 0, 0] w slices_S4x2048x704_S1x1024x704_1_0_0) shapeCasts_S1x1024x704_S1024x704⟩,
    ⟨S1024x704, shapeCast _ (extractStridedSlice S1x1024x704 ![2, 0, 0] w slices_S4x2048x704_S1x1024x704_2_0_0) shapeCasts_S1x1024x704_S1024x704⟩,
    ⟨S1024x704, shapeCast _ (extractStridedSlice S1x1024x704 ![3, 0, 0] w slices_S4x2048x704_S1x1024x704_3_0_0) shapeCasts_S1x1024x704_S1024x704⟩]
    concatenates_S1024x704_S1024x704_S1024x704_S1024x704_S1024x2816_d1

/-- A column of a part, among all columns. -/
def col (s : Fin 4) (i : Fin 704) : Fin 2816 := ⟨s.val * 704 + i.val, by omega⟩

theorem weights_at (w : Vec Ideal S4x2048x704 .bf16) (s : Fin 4) (d : Fin 1024) (i : Fin 704) :
    weights w (ix2 d (col s i)) = w (ix3 s ⟨d.val, by omega⟩ i) := by
  have hi : i.val < 704 := i.isLt
  unfold weights col
  match s with
  | 0 => pointwise
  | 1 => pointwise
  | 2 =>
    pointwise
    rw [dif_neg (by omega), dif_neg (by omega), dif_pos (by omega)]
    exact congrArg (fun z => w (ix3 2 _ z)) (Fin.ext (by show 1408 + i.val - 704 - 704 = i.val; omega))
  | 3 =>
    pointwise
    rw [dif_neg (by omega), dif_neg (by omega), dif_neg (by omega)]
    exact congrArg (fun z => w (ix3 3 _ z)) (Fin.ext (by show 2112 + i.val - 704 - 704 - 704 = i.val; omega))

/-- A product with the rows. -/
abbrev product (a : Vec Ideal S16384x1024 .bf16) (w : Vec Ideal S1024x2816 .bf16) : Vec Ideal S16384x2816 .f32 :=
  Host.dotGeneral (F := Ideal) dot_S16384x1024_S1024x2816_S16384x2816_1_0_0_1_n_n none (extf .f32 a bitsLt_bf16_f32) (extf .f32 w bitsLt_bf16_f32)

theorem product_at (a : Vec Ideal S16384x1024 .bf16) (w : Vec Ideal S1024x2816 .bf16) (x : Fin 16384) (j : Fin 2816) :
    product a w (ix2 x j) = (∑ d : Fin 1024, a (ix2 x d) * w (ix2 d j) : EReal) := by
  unfold product
  pointwise

/-- The gated product. -/
abbrev gatedOf (g u : Vec Ideal S16384x2816 .f32) : Vec Ideal S16384x2816 .f32 :=
  mulf (mulf g (Host.divf (broadcastInDim S16384x2816 ![] bcast_S_S16384x2816 (constant (F := Ideal) S_ .f32 0x3F800000#32))
    (addf (broadcastInDim S16384x2816 ![] bcast_S_S16384x2816 (constant (F := Ideal) S_ .f32 0x3F800000#32)) (Host.exp (Host.negf g))))) u

theorem gatedOf_at (g u : Vec Ideal S16384x2816 .f32) (x : Fin 16384) (j : Fin 2816) :
    gatedOf g u (ix2 x j) = gated (g (ix2 x j)) (u (ix2 x j)) := by
  unfold gatedOf gated Ideal.logistic
  pointwise
  done

/-- The parts of the columns, apart. -/
abbrev parts (p : Vec Ideal S16384x2816 .f32) : Vec Ideal S4x16384x704 .bf16 :=
  truncf (F := Ideal) .bf16 (transpose S4x16384x704 [1, 0, 2] (shapeCast S16384x4x704 p shapeCasts_S16384x2816_S16384x4x704)
    transposes_S16384x4x704_S4x16384x704_1_0_2) bitsLt_bf16_f32

theorem parts_at (p : Vec Ideal S16384x2816 .f32) (s : Fin 4) (x : Fin 16384) (i : Fin 704) :
    parts p (ix3 s x i) = p (ix2 x (col s i)) := by
  unfold parts col
  pointwise
  done

end Cert.Proof.Widen
-- ==== Proof.WidenEqual.lean ====
/-
  The two programs of the products that grow the width have the same results.
-/
module
public import proofs.«01_k».proof.Proof.WidenRef
@[expose] public section
noncomputable section
open Idealize.ShloMosaic Idealize.ShloMosaic.TcCoe Idealize.SL.Sem
namespace Cert.Proof.Widen
open Cert.WidenIdeal
variable (m : (ℓ : Loc nD τ sig) → Buf (Elt Ideal) ℓ) (c : Dev nD)

theorem product_gate (s : Fin 4) (x : Fin 16384) (i : Fin 704) :
    product (m (c.tc.loc main_arg0)) (weights (m (c.tc.loc main_arg1))) (ix2 x (col s i)) = gateAt m c s x i := by
  rw [product_at]
  exact Finset.sum_congr rfl fun d _ => congrArg (rows m c x d * ·) (weights_at _ s d i)

theorem product_up (s : Fin 4) (x : Fin 16384) (i : Fin 704) :
    product (m (c.tc.loc main_arg0)) (weights (m (c.tc.loc main_arg2))) (ix2 x (col s i)) = upAt m c s x i := by
  rw [product_at]
  exact Finset.sum_congr rfl fun d _ => congrArg (rows m c x d * ·) (weights_at _ s d i)

/-- An index from its three coordinates. -/
theorem whole (G : Vec Ideal S4x16384x704 .bf16) (H : Fin 4 → Fin 16384 → Fin 704 → EReal) (h : ∀ s x i, G (ix3 s x i) = H s x i) :
    G = fun y => H (y 0) (y 1) (y 2) := by
  funext y
  obtain ⟨s, x, i, rfl⟩ : ∃ (s : Fin 4) (x : Fin 16384) (i : Fin 704), y = ix3 s x i :=
    ⟨y 0, y 1, y 2, by
      funext a
      match a with
      | ⟨0, _⟩ => rfl
      | ⟨1, _⟩ => rfl
      | ⟨2, _⟩ => rfl⟩
  exact h s x i

theorem gate_eq : parts (product (m (c.tc.loc main_arg0)) (weights (m (c.tc.loc main_arg1)))) = (Gen.dats m 0 c).arrAt 3 cfg0.N :=
  (whole _ (gateAt m c) fun s x i => (parts_at _ s x i).trans (product_gate m c s x i)).trans (array_gate m c).symm

theorem up_eq : parts (product (m (c.tc.loc main_arg0)) (weights (m (c.tc.loc main_arg2)))) = (Gen.dats m 0 c).arrAt 4 cfg0.N :=
  (whole _ (upAt m c) fun s x i => (parts_at _ s x i).trans (product_up m c s x i)).trans (array_up m c).symm

theorem act_eq : parts (gatedOf (product (m (c.tc.loc main_arg0)) (weights (m (c.tc.loc main_arg1))))
      (product (m (c.tc.loc main_arg0)) (weights (m (c.tc.loc main_arg2))))) = (Gen.dats m 0 c).arrAt 5 cfg0.N :=
  (whole _ (fun s x i => gated (gateAt m c s x i) (upAt m c s x i)) fun s x i =>
    (parts_at _ s x i).trans ((gatedOf_at _ _ x (col s i)).trans (congrArg₂ gated (product_gate m c s x i) (product_up m c s x i)))).trans
    (array_act m c).symm

end Cert.Proof.Widen
-- ==== Proof.WidenSecondRef.lean ====
/-
  The weights of the second layer, as the reference takes them out of their arrays.
-/
module
public import proofs.«01_k».proof.Proof.WidenEqual
public import proofs.«01_k».proof.Proof.Gen.WidenSecondReferenceIdeal.Run
@[expose] public section
noncomputable section
open Idealize.ShloMosaic Idealize.ShloMosaic.TcCoe Idealize.SL.Sem
namespace Cert.Proof.WidenSecond
open Cert.WidenSecondReferenceIdeal Cert.WidenSecondReferenceIdeal.Gen
open Cert.Proof.Widen (col)

/-- A row of the second layer's weights, among the rows of both layers. -/
def rowOf (d : Fin 1024) : Fin 2048 := ⟨1024 + d.val, by omega⟩

/-- The weights of the second layer: the four parts of the columns, side by side. -/
abbrev weights (w : Vec Ideal S4x2048x704 .bf16) : Vec Ideal S1024x2816 .bf16 :=
  concatenate S1024x2816 1 [
    ⟨S1024x704, shapeCast _ (extractStridedSlice S1x1024x704 ![0, 1024, 0] w slices_S4x2048x704_S1x1024x704_0_1024_0) shapeCasts_S1x1024x704_S1024x704⟩,
    ⟨S1024x704, shapeCast _ (extractStridedSlice S1x1024x704 ![1, 1024, 0] w slices_S4x2048x704_S1x1024x704_1_1024_0) shapeCasts_S1x1024x704_S1024x704⟩,
    ⟨S1024x704, shapeCast _ (extractStridedSlice S1x1024x704 ![2, 1024, 0] w slices_S4x2048x704_S1x1024x704_2_1024_0) shapeCasts_S1x1024x704_S1024x704⟩,
    ⟨S1024x704, shapeCast _ (extractStridedSlice S1x1024x704 ![3, 1024, 0] w slices_S4x2048x704_S1x1024x704_3_1024_0) shapeCasts_S1x1024x704_S1024x704⟩]
    concatenates_S1024x704_S1024x704_S1024x704_S1024x704_S1024x2816_d1

theorem weights_at (w : Vec Ideal S4x2048x704 .bf16) (s : Fin 4) (d : Fin 1024) (i : Fin 704) :
    weights w (ix2 d (col s i)) = w (ix3 s (rowOf d) i) := by
  have hi : i.val < 704 := i.isLt
  unfold weights col rowOf
  match s with
  | 0 => pointwise
  | 1 => pointwise
  | 2 =>
    pointwise
    rw [dif_neg (by omega), dif_neg (by omega), dif_pos (by omega)]
    exact congrArg (fun z => w (ix3 2 _ z)) (Fin.ext (by show 1408 + i.val - 704 - 704 = i.val; omega))
  | 3 =>
    pointwise
    rw [dif_neg (by omega), dif_neg (by omega), dif_neg (by omega)]
    exact congrArg (fun z => w (ix3 3 _ z)) (Fin.ext (by show 2112 + i.val - 704 - 704 - 704 = i.val; omega))

end Cert.Proof.WidenSecond
-- ==== Proof.WidenSecond.lean ====
/-
  The same products in the second layer: the body is the one of the first, and the weights lie in the other half of their arrays.
-/
module
public import proofs.«01_k».proof.Proof.WidenSecondRef
public import proofs.«01_k».proof.Proof.Gen.WidenSecondIdeal.Frame
@[expose] public section
noncomputable section
open Idealize.ShloMosaic Idealize.ShloMosaic.TcCoe Idealize.SL.Sem
namespace Cert.Proof.WidenSecond
open Cert.WidenSecondIdeal Cert.WidenSecondIdeal.Gen
open Cert.Proof.Widen (entry gated partOf rowAt placed col product product_at gatedOf gatedOf_at parts parts_at whole)
variable (m : (ℓ : Loc nD τ sig) → Buf (Elt Ideal) ℓ) (c : Dev nD)

/-- The rows. -/
abbrev rows : Fin 16384 → Fin 1024 → EReal := fun x d => m ((c : Thread nD τ).loc main_arg0) (ix2 x d)

/-- The gate's weights. -/
abbrev wGate : Fin 4 → Fin 1024 → Fin 704 → EReal := fun s d i => m ((c : Thread nD τ).loc main_arg1) (ix3 s (rowOf d) i)

/-- The other weights. -/
abbrev wUp : Fin 4 → Fin 1024 → Fin 704 → EReal := fun s d i => m ((c : Thread nD τ).loc main_arg2) (ix3 s (rowOf d) i)

theorem out_gate (x0 : Vec Ideal S2048x1024 .bf16) (x1 x2 : Vec Ideal S1x1024x704 .bf16) :
    out0_3 (F := Ideal) x0 x1 x2 = (fun y => entry x0 x1 (y 1) (y 2) : Vec Ideal S1x2048x704 .bf16) :=
  (show out0_3 (F := Ideal) x0 x1 x2 = Cert.WidenIdeal.Gen.out0_3 (F := Ideal) x0 x1 x2 from rfl).trans (Widen.out_gate x0 x1 x2)

theorem out_up (x0 : Vec Ideal S2048x1024 .bf16) (x1 x2 : Vec Ideal S1x1024x704 .bf16) :
    out0_4 (F := Ideal) x0 x1 x2 = (fun y => entry x0 x2 (y 1) (y 2) : Vec Ideal S1x2048x704 .bf16) :=
  (show out0_4 (F := Ideal) x0 x1 x2 = Cert.WidenIdeal.Gen.out0_4 (F := Ideal) x0 x1 x2 from rfl).trans (Widen.out_up x0 x1 x2)

theorem out_act (x0 : Vec Ideal S2048x1024 .bf16) (x1 x2 : Vec Ideal S1x1024x704 .bf16) : out0_5 (F := Ideal) x0 x1 x2
    = (fun y => gated (entry x0 x1 (y 1) (y 2)) (entry x0 x2 (y 1) (y 2)) : Vec Ideal S1x2048x704 .bf16) :=
  (show out0_5 (F := Ideal) x0 x1 x2 = Cert.WidenIdeal.Gen.out0_5 (F := Ideal) x0 x1 x2 from rfl).trans (Widen.out_act x0 x1 x2)

theorem idx_in : ∀ t : Fin cfg0.N, win0_0.index t = ![t.val % 8, 0] ∧ win0_1.index t = ![t.val / 8, 1, 0] ∧
    win0_2.index t = ![t.val / 8, 1, 0] := by decide +kernel

theorem idx_out : ∀ t : Fin cfg0.N, win0_3.index t = ![t.val / 8, t.val % 8, 0] ∧ win0_4.index t = ![t.val / 8, t.val % 8, 0] ∧
    win0_5.index t = ![t.val / 8, t.val % 8, 0] := by decide +kernel

theorem blk_rows (t : Fin cfg0.N) (l : Fin 2048) (d : Fin 1024) : iblk m c 0 t (ix2 l d) = rows m c (rowAt t l) d := by
  obtain ⟨e, -⟩ := idx_in t
  show _ = m (c.tc.loc main_arg0) (ix2 _ _)
  blk_ext [iblk, V, e, rowAt]

theorem blk_gate (t : Fin cfg0.N) (d : Fin 1024) (i : Fin 704) : iblk m c 1 t (ix3 0 d i) = wGate m c (partOf t) d i := by
  obtain ⟨-, e, -⟩ := idx_in t
  show _ = m (c.tc.loc main_arg1) (ix3 _ _ _)
  blk_ext [iblk, V, e, partOf, rowOf]

theorem blk_up (t : Fin cfg0.N) (d : Fin 1024) (i : Fin 704) : iblk m c 2 t (ix3 0 d i) = wUp m c (partOf t) d i := by
  obtain ⟨-, -, e⟩ := idx_in t
  show _ = m (c.tc.loc main_arg2) (ix3 _ _ _)
  blk_ext [iblk, V, e, partOf, rowOf]

/-- An entry of the gate's product. -/
def gateAt (s : Fin 4) (x : Fin 16384) (i : Fin 704) : EReal := ∑ d : Fin 1024, rows m c x d * wGate m c s d i

/-- An entry of the other product. -/
def upAt (s : Fin 4) (x : Fin 16384) (i : Fin 704) : EReal := ∑ d : Fin 1024, rows m c x d * wUp m c s d i

theorem entry_gate (t : Fin cfg0.N) (l : Fin 2048) (i : Fin 704) :
    entry (iblk m c 0 t) (iblk m c 1 t) l i = gateAt m c (partOf t) (rowAt t l) i :=
  Finset.sum_congr rfl fun d _ => congrArg₂ (· * ·) (blk_rows m c t l d) (blk_gate m c t d i)

theorem entry_up (t : Fin cfg0.N) (l : Fin 2048) (i : Fin 704) :
    entry (iblk m c 0 t) (iblk m c 2 t) l i = upAt m c (partOf t) (rowAt t l) i :=
  Finset.sum_congr rfl fun d _ => congrArg₂ (· * ·) (blk_rows m c t l d) (blk_up m c t d i)

/-- The three results, put together from the blocks. -/
theorem array_gate : (dats m 0 c).arrAt 3 cfg0.N = (fun y => gateAt m c (y 0) (y 1) (y 2) : Vec Ideal S4x16384x704 .bf16) := by
  refine (dats m 0 c).arrAt_eq_of_covers 3 _ (by decide +kernel) fun t _ y => ?_
  blk_simp
  rw [after0_3, out_gate]
  have e0 : win0_3.index t 0 = t.val / 8 := by rw [(idx_out t).1]; rfl
  have e1 : win0_3.index t 1 = t.val % 8 := by rw [(idx_out t).1]; rfl
  have e2 : win0_3.index t 2 = 0 := by rw [(idx_out t).1]; rfl
  refine (entry_gate m c t _ _).trans (placed (gateAt m c) t y _ _ _ ?_ ?_ ?_)
  · rw [← e0]; rfl
  · rw [← e1]; rfl
  · rw [← e2]; rfl

theorem array_up : (dats m 0 c).arrAt 4 cfg0.N = (fun y => upAt m c (y 0) (y 1) (y 2) : Vec Ideal S4x16384x704 .bf16) := by
  refine (dats m 0 c).arrAt_eq_of_covers 4 _ (by decide +kernel) fun t _ y => ?_
  blk_simp
  rw [after0_4, out_up]
  have e0 : win0_4.index t 0 = t.val / 8 := by rw [(idx_out t).2.1]; rfl
  have e1 : win0_4.index t 1 = t.val % 8 := by rw [(idx_out t).2.1]; rfl
  have e2 : win0_4.index t 2 = 0 := by rw [(idx_out t).2.1]; rfl
  refine (entry_up m c t _ _).trans (placed (upAt m c) t y _ _ _ ?_ ?_ ?_)
  · rw [← e0]; rfl
  · rw [← e1]; rfl
  · rw [← e2]; rfl

theorem array_act : (dats m 0 c).arrAt 5 cfg0.N
    = (fun y => gated (gateAt m c (y 0) (y 1) (y 2)) (upAt m c (y 0) (y 1) (y 2)) : Vec Ideal S4x16384x704 .bf16) := by
  refine (dats m 0 c).arrAt_eq_of_covers 5 _ (by decide +kernel) fun t _ y => ?_
  blk_simp
  rw [after0_5, out_act]
  have e0 : win0_5.index t 0 = t.val / 8 := by rw [(idx_out t).2.2]; rfl
  have e1 : win0_5.index t 1 = t.val % 8 := by rw [(idx_out t).2.2]; rfl
  have e2 : win0_5.index t 2 = 0 := by rw [(idx_out t).2.2]; rfl
  refine (congrArg₂ gated (entry_gate m c t _ _) (entry_up m c t _ _)).trans
    (placed (fun s x i => gated (gateAt m c s x i) (upAt m c s x i)) t y _ _ _ ?_ ?_ ?_)
  · rw [← e0]; rfl
  · rw [← e1]; rfl
  · rw [← e2]; rfl

theorem product_gate (s : Fin 4) (x : Fin 16384) (i : Fin 704) :
    product (m (c.tc.loc main_arg0)) (weights (m (c.tc.loc main_arg1))) (ix2 x (col s i)) = gateAt m c s x i := by
  rw [product_at]
  exact Finset.sum_congr rfl fun d _ => congrArg (rows m c x d * ·) (weights_at _ s d i)

theorem product_up (s : Fin 4) (x : Fin 16384) (i : Fin 704) :
    product (m (c.tc.loc main_arg0)) (weights (m (c.tc.loc main_arg2))) (ix2 x (col s i)) = upAt m c s x i := by
  rw [product_at]
  exact Finset.sum_congr rfl fun d _ => congrArg (rows m c x d * ·) (weights_at _ s d i)

theorem gate_eq : parts (product (m (c.tc.loc main_arg0)) (weights (m (c.tc.loc main_arg1)))) = (dats m 0 c).arrAt 3 cfg0.N :=
  (whole _ (gateAt m c) fun s x i => (parts_at _ s x i).trans (product_gate m c s x i)).trans (array_gate m c).symm

theorem up_eq : parts (product (m (c.tc.loc main_arg0)) (weights (m (c.tc.loc main_arg2)))) = (dats m 0 c).arrAt 4 cfg0.N :=
  (whole _ (upAt m c) fun s x i => (parts_at _ s x i).trans (product_up m c s x i)).trans (array_up m c).symm

theorem act_eq : parts (gatedOf (product (m (c.tc.loc main_arg0)) (weights (m (c.tc.loc main_arg1))))
      (product (m (c.tc.loc main_arg0)) (weights (m (c.tc.loc main_arg2))))) = (dats m 0 c).arrAt 5 cfg0.N :=
  (whole _ (fun s x i => gated (gateAt m c s x i) (upAt m c s x i)) fun s x i =>
    (parts_at _ s x i).trans ((gatedOf_at _ _ x (col s i)).trans (congrArg₂ gated (product_gate m c s x i) (product_up m c s x i)))).trans
    (array_act m c).symm

end Cert.Proof.WidenSecond
-- ==== Proof.InUvz.lean ====
/-
  The projection into the mixer: one product of rows and columns per grid point, and the blocks put together.
-/
module
public import proofs.«01_k».proof.Defs
public import proofs.«01_k».proof.Proof.Gen.InUvzIdeal.Frame
public import proofs.«01_k».proof.Proof.Gen.InUvzReferenceIdeal.Run
public import Idealize.ShloMosaic.Lib.Pipeline.ValueKit
public import Idealize.ShloMosaic.Lib.Pointwise
public import Idealize.ShloMosaic.PureOps.Ideal
@[expose] public section
noncomputable section
open Idealize.ShloMosaic Idealize.ShloMosaic.TcCoe Idealize.SL.Sem
namespace Cert.Proof.InUvz
open Cert.InUvzIdeal Cert.InUvzIdeal.Gen
variable (m : (ℓ : Loc nD τ sig) → Buf (Elt Ideal) ℓ) (c : Dev nD)

/-- The rows. -/
abbrev rows : Fin 16384 → Fin 1024 → EReal := fun x d => m ((c : Thread nD τ).loc main_arg0) (ix2 x d)

/-- The weights. -/
abbrev cols : Fin 1024 → Fin 3072 → EReal := fun d j => m ((c : Thread nD τ).loc main_arg1) (ix2 d j)

/-- The product of two blocks. -/
theorem pay_at (v0 : Vec Ideal S2048x1024 .bf16) (v1 : Vec Ideal S1024x1024 .bf16) (l : Fin 2048) (j : Fin 1024) :
    k0_pay1 v0 v1 (ix2 l j) = (∑ d : Fin 1024, v0 (ix2 l d) * v1 (ix2 d j) : EReal) := by
  open_payloads
  pointwise

theorem out_at (v0 : Vec Ideal S2048x1024 .bf16) (v1 : Vec Ideal S1024x1024 .bf16) (l : Fin 2048) (j : Fin 1024) :
    out0_2 v0 v1 (ix2 l j) = (∑ d : Fin 1024, v0 (ix2 l d) * v1 (ix2 d j) : EReal) := by
  frame_out
  exact pay_at v0 v1 l j

theorem idx : ∀ t : Fin cfg0.N, win0_0.index t = ![t.val % 8, 0] ∧ win0_1.index t = ![0, t.val / 8] ∧ win0_2.index t = ![t.val % 8, t.val / 8] := by
  decide +kernel

theorem blk_rows (t : Fin cfg0.N) (l : Fin 2048) (d : Fin 1024) (x : Fin 16384) (hx : x.val = t.val % 8 * 2048 + 1 * l.val) :
    iblk m c 0 t (ix2 l d) = rows m c x d := by
  obtain ⟨e, -⟩ := idx t
  show _ = m (c.tc.loc main_arg0) (ix2 _ _)
  blk_ext [iblk, V, e, hx]

theorem blk_cols (t : Fin cfg0.N) (d j : Fin 1024) (z : Fin 3072) (hz : z.val = t.val / 8 * 1024 + 1 * j.val) :
    iblk m c 1 t (ix2 d j) = cols m c d z := by
  obtain ⟨-, e, -⟩ := idx t
  show _ = m (c.tc.loc main_arg1) (ix2 _ _)
  blk_ext [iblk, V, e, hz]

/-- The result, put together from the blocks. -/
theorem array : (dats m 0 c).arrAt 2 cfg0.N = (fun y => ∑ d : Fin 1024, rows m c (y 0) d * cols m c d (y 1) : Vec Ideal S16384x3072 .bf16) := by
  refine (dats m 0 c).arrAt_eq_of_covers 2 _ (by decide +kernel) fun t _ y => ?_
  blk_simp
  rw [after0_2]
  have e0 : win0_2.index t 0 = t.val % 8 := by rw [(idx t).2.2]; rfl
  have e1 : win0_2.index t 1 = t.val / 8 := by rw [(idx t).2.2]; rfl
  obtain ⟨l, j, rfl⟩ : ∃ (l : Fin 2048) (j : Fin 1024), y = ix2 l j :=
    ⟨y 0, y 1, by funext a; match a with | ⟨0, _⟩ => rfl | ⟨1, _⟩ => rfl⟩
  refine (out_at _ _ l j).trans (Finset.sum_congr rfl fun d _ => congrArg₂ (· * ·) (blk_rows m c t l d _ ?_) (blk_cols m c t d j _ ?_))
  · rw [← e0]; rfl
  · rw [← e1]; rfl

/-- What the reference does with its arguments. -/
abbrev product (a : Vec Ideal S16384x1024 .bf16) (w : Vec Ideal S1024x3072 .bf16) : Vec Ideal S16384x3072 .bf16 :=
  truncf (F := Ideal) .bf16 (Host.dotGeneral (F := Ideal) Cert.InUvzReferenceIdeal.dot_S16384x1024_S1024x3072_S16384x3072_1_0_0_1_n_n none
    (extf .f32 a Cert.InUvzReferenceIdeal.Gen.bitsLt_bf16_f32) (extf .f32 w Cert.InUvzReferenceIdeal.Gen.bitsLt_bf16_f32))
    Cert.InUvzReferenceIdeal.Gen.bitsLt_bf16_f32

theorem result_eq : product (m (c.tc.loc main_arg0)) (m (c.tc.loc main_arg1)) = (dats m 0 c).arrAt 2 cfg0.N := by
  rw [array]
  funext y
  obtain ⟨x, j, rfl⟩ : ∃ (x : Fin 16384) (j : Fin 3072), y = ix2 x j :=
    ⟨y 0, y 1, by funext a; match a with | ⟨0, _⟩ => rfl | ⟨1, _⟩ => rfl⟩
  unfold product
  pointwise
  done

end Cert.Proof.InUvz
-- ==== Proof.InXbc.lean ====
/-
  The projection into the scan: the body is the one of the other projection, on fewer columns.
-/
module
public import proofs.«01_k».proof.Proof.InUvz
public import proofs.«01_k».proof.Proof.Gen.InXbcIdeal.Frame
public import proofs.«01_k».proof.Proof.Gen.InXbcReferenceIdeal.Run
@[expose] public section
noncomputable section
open Idealize.ShloMosaic Idealize.ShloMosaic.TcCoe Idealize.SL.Sem
namespace Cert.Proof.InXbc
open Cert.InXbcIdeal Cert.InXbcIdeal.Gen
variable (m : (ℓ : Loc nD τ sig) → Buf (Elt Ideal) ℓ) (c : Dev nD)

/-- The rows. -/
abbrev rows : Fin 16384 → Fin 1024 → EReal := fun x d => m ((c : Thread nD τ).loc main_arg0) (ix2 x d)

/-- The weights. -/
abbrev cols : Fin 1024 → Fin 2048 → EReal := fun d j => m ((c : Thread nD τ).loc main_arg1) (ix2 d j)

theorem out_at (v0 : Vec Ideal S2048x1024 .bf16) (v1 : Vec Ideal S1024x1024 .bf16) (l : Fin 2048) (j : Fin 1024) :
    out0_2 v0 v1 (ix2 l j) = (∑ d : Fin 1024, v0 (ix2 l d) * v1 (ix2 d j) : EReal) :=
  (congrFun (show out0_2 v0 v1 = Cert.InUvzIdeal.Gen.out0_2 v0 v1 from rfl) _).trans (InUvz.out_at v0 v1 l j)

theorem idx : ∀ t : Fin cfg0.N, win0_0.index t = ![t.val % 8, 0] ∧ win0_1.index t = ![0, t.val / 8] ∧ win0_2.index t = ![t.val % 8, t.val / 8] := by
  decide +kernel

theorem blk_rows (t : Fin cfg0.N) (l : Fin 2048) (d : Fin 1024) (x : Fin 16384) (hx : x.val = t.val % 8 * 2048 + 1 * l.val) :
    iblk m c 0 t (ix2 l d) = rows m c x d := by
  obtain ⟨e, -⟩ := idx t
  show _ = m (c.tc.loc main_arg0) (ix2 _ _)
  blk_ext [iblk, V, e, hx]

theorem blk_cols (t : Fin cfg0.N) (d j : Fin 1024) (z : Fin 2048) (hz : z.val = t.val / 8 * 1024 + 1 * j.val) :
    iblk m c 1 t (ix2 d j) = cols m c d z := by
  obtain ⟨-, e, -⟩ := idx t
  show _ = m (c.tc.loc main_arg1) (ix2 _ _)
  blk_ext [iblk, V, e, hz]

/-- The result, put together from the blocks. -/
theorem array : (dats m 0 c).arrAt 2 cfg0.N = (fun y => ∑ d : Fin 1024, rows m c (y 0) d * cols m c d (y 1) : Vec Ideal S16384x2048 .bf16) := by
  refine (dats m 0 c).arrAt_eq_of_covers 2 _ (by decide +kernel) fun t _ y => ?_
  blk_simp
  rw [after0_2]
  have e0 : win0_2.index t 0 = t.val % 8 := by rw [(idx t).2.2]; rfl
  have e1 : win0_2.index t 1 = t.val / 8 := by rw [(idx t).2.2]; rfl
  obtain ⟨l, j, rfl⟩ : ∃ (l : Fin 2048) (j : Fin 1024), y = ix2 l j :=
    ⟨y 0, y 1, by funext a; match a with | ⟨0, _⟩ => rfl | ⟨1, _⟩ => rfl⟩
  refine (out_at _ _ l j).trans (Finset.sum_congr rfl fun d _ => congrArg₂ (· * ·) (blk_rows m c t l d _ ?_) (blk_cols m c t d j _ ?_))
  · rw [← e0]; rfl
  · rw [← e1]; rfl

/-- What the reference does with its arguments. -/
abbrev product (a : Vec Ideal S16384x1024 .bf16) (w : Vec Ideal S1024x2048 .bf16) : Vec Ideal S16384x2048 .bf16 :=
  truncf (F := Ideal) .bf16 (Host.dotGeneral (F := Ideal) Cert.InXbcReferenceIdeal.dot_S16384x1024_S1024x2048_S16384x2048_1_0_0_1_n_n none
    (extf .f32 a Cert.InXbcReferenceIdeal.Gen.bitsLt_bf16_f32) (extf .f32 w Cert.InXbcReferenceIdeal.Gen.bitsLt_bf16_f32))
    Cert.InXbcReferenceIdeal.Gen.bitsLt_bf16_f32

theorem result_eq : product (m (c.tc.loc main_arg0)) (m (c.tc.loc main_arg1)) = (dats m 0 c).arrAt 2 cfg0.N := by
  rw [array]
  funext y
  obtain ⟨x, j, rfl⟩ : ∃ (x : Fin 16384) (j : Fin 2048), y = ix2 x j :=
    ⟨y 0, y 1, by funext a; match a with | ⟨0, _⟩ => rfl | ⟨1, _⟩ => rfl⟩
  unfold product
  pointwise
  done

end Cert.Proof.InXbc
-- ==== Proof.OutDy.lean ====
/-
  The gradient of the mixer's outputs: one product of a block of rows with a block of the weights' rows per grid point.
-/
module
public import proofs.«01_k».proof.Defs
public import proofs.«01_k».proof.Proof.Gen.OutDyIdeal.Frame
public import proofs.«01_k».proof.Proof.Gen.OutDyReferenceIdeal.Run
public import Idealize.ShloMosaic.Lib.Pipeline.ValueKit
public import Idealize.ShloMosaic.Lib.Pointwise
public import Idealize.ShloMosaic.PureOps.Ideal
@[expose] public section
noncomputable section
open Idealize.ShloMosaic Idealize.ShloMosaic.TcCoe Idealize.SL.Sem
namespace Cert.Proof.OutDy
open Cert.OutDyIdeal Cert.OutDyIdeal.Gen
variable (m : (ℓ : Loc nD τ sig) → Buf (Elt Ideal) ℓ) (c : Dev nD)

/-- The gradient that comes in. -/
abbrev grad : Fin 16384 → Fin 1024 → EReal := fun x d => m ((c : Thread nD τ).loc main_arg0) (ix2 x d)

/-- The weights, their four parts one below the other. -/
abbrev stacked : Vec Ideal S2048x1024 .bf16 :=
  shapeCast (s := S4x512x1024) S2048x1024 (m ((c : Thread nD τ).loc main_arg1)) shapeCasts_S4x512x1024_S2048x1024

/-- A row of the weights. -/
abbrev weight : Fin 2048 → Fin 1024 → EReal := fun j d => stacked m c (ix2 j d)

theorem read_stacked : V m c main_v0 = stacked m c := by
  unfold V hostOps0
  after_results
  rfl

/-- The product of two blocks. -/
theorem pay_at (v0 : Vec Ideal S2048x1024 .bf16) (v1 : Vec Ideal S1024x1024 .bf16) (l : Fin 2048) (j : Fin 1024) :
    k0_pay1 v0 v1 (ix2 l j) = (∑ d : Fin 1024, v0 (ix2 l d) * v1 (ix2 j d) : EReal) := by
  open_payloads
  pointwise

theorem out_at (v0 : Vec Ideal S2048x1024 .bf16) (v1 : Vec Ideal S1024x1024 .bf16) (l : Fin 2048) (j : Fin 1024) :
    out0_2 v0 v1 (ix2 l j) = (∑ d : Fin 1024, v0 (ix2 l d) * v1 (ix2 j d) : EReal) := by
  frame_out
  exact pay_at v0 v1 l j

theorem idx : ∀ t : Fin cfg0.N, win0_0.index t = ![t.val % 8, 0] ∧ win0_1.index t = ![t.val / 8, 0] ∧ win0_2.index t = ![t.val % 8, t.val / 8] := by
  decide +kernel

theorem blk_grad (t : Fin cfg0.N) (l : Fin 2048) (d : Fin 1024) (x : Fin 16384) (hx : x.val = t.val % 8 * 2048 + 1 * l.val) :
    iblk m c 0 t (ix2 l d) = grad m c x d := by
  obtain ⟨e, -⟩ := idx t
  show _ = m (c.tc.loc main_arg0) (ix2 _ _)
  rw [← V_main_arg0 m c]
  blk_ext [iblk, e, hx]

theorem blk_weight (t : Fin cfg0.N) (j d : Fin 1024) (z : Fin 2048) (hz : z.val = t.val / 8 * 1024 + 1 * j.val) :
    iblk m c 1 t (ix2 j d) = weight m c z d := by
  obtain ⟨-, e, -⟩ := idx t
  show _ = stacked m c (ix2 _ _)
  rw [← read_stacked m c]
  blk_ext [iblk, e, hz]

/-- The result, put together from the blocks. -/
theorem array : (dats m 0 c).arrAt 2 cfg0.N = (fun y => ∑ d : Fin 1024, grad m c (y 0) d * weight m c (y 1) d : Vec Ideal S16384x2048 .f32) := by
  refine (dats m 0 c).arrAt_eq_of_covers 2 _ (by decide +kernel) fun t _ y => ?_
  blk_simp
  rw [after0_2]
  have e0 : win0_2.index t 0 = t.val % 8 := by rw [(idx t).2.2]; rfl
  have e1 : win0_2.index t 1 = t.val / 8 := by rw [(idx t).2.2]; rfl
  obtain ⟨l, j, rfl⟩ : ∃ (l : Fin 2048) (j : Fin 1024), y = ix2 l j :=
    ⟨y 0, y 1, by funext a; match a with | ⟨0, _⟩ => rfl | ⟨1, _⟩ => rfl⟩
  refine (out_at _ _ l j).trans (Finset.sum_congr rfl fun d _ => congrArg₂ (· * ·) (blk_grad m c t l d _ ?_) (blk_weight m c t j d _ ?_))
  · rw [← e0]; rfl
  · rw [← e1]; rfl

/-- What the reference does with its arguments. -/
abbrev product (a : Vec Ideal S16384x1024 .bf16) (w : Vec Ideal S2048x1024 .bf16) : Vec Ideal S16384x2048 .f32 :=
  Host.dotGeneral (F := Ideal) Cert.OutDyReferenceIdeal.dot_S16384x1024_S2048x1024_S16384x2048_1_1_0_0_n_n none
    (extf .f32 a Cert.OutDyReferenceIdeal.Gen.bitsLt_bf16_f32) (extf .f32 w Cert.OutDyReferenceIdeal.Gen.bitsLt_bf16_f32)

theorem product_at (a : Vec Ideal S16384x1024 .bf16) (w : Vec Ideal S2048x1024 .bf16) (x : Fin 16384) (j : Fin 2048) :
    product a w (ix2 x j) = (∑ d : Fin 1024, a (ix2 x d) * w (ix2 j d) : EReal) := by
  unfold product
  pointwise
  done

theorem result_eq : product (m (c.tc.loc main_arg0)) (stacked m c) = (dats m 0 c).arrAt 2 cfg0.N := by
  rw [array]
  funext y
  obtain ⟨x, j, rfl⟩ : ∃ (x : Fin 16384) (j : Fin 2048), y = ix2 x j :=
    ⟨y 0, y 1, by funext a; match a with | ⟨0, _⟩ => rfl | ⟨1, _⟩ => rfl⟩
  exact product_at _ _ x j

end Cert.Proof.OutDy
-- ==== Proof.InDwxbc.lean ====
/-
  The gradients of the weights of the projections into the mixer: the scratch adds up four partial products, and the fourth point writes
  the sum out.
-/
module
public import proofs.«01_k».proof.Defs
public import proofs.«01_k».proof.Proof.Gen.InDwxbcIdeal.Frame
public import proofs.«01_k».proof.Proof.Gen.InDwxbcReferenceIdeal.Run
public import Idealize.ShloMosaic.Lib.Pipeline.ValueKit
public import Idealize.ShloMosaic.Lib.Pipeline.ReadBack
public import Idealize.ShloMosaic.Lib.Pointwise
public import Idealize.ShloMosaic.PureOps.Ideal
@[expose] public section
noncomputable section
open Idealize.ShloMosaic Idealize.ShloMosaic.TcCoe Idealize.SL.Sem
namespace Cert.Proof.InDwxbc
open Cert.InDwxbcIdeal Cert.InDwxbcIdeal.Gen
variable (m : (ℓ : Loc nD τ sig) → Buf (Elt Ideal) ℓ) (c : Dev nD)

/-- The gradient that comes in. -/
abbrev lhs : Fin 16384 → Fin 2048 → EReal := fun x i => m ((c : Thread nD τ).loc main_arg0) (ix2 x i)

/-- The rows that went into the projection. -/
abbrev rhs : Fin 16384 → Fin 1024 → EReal := fun x j => m ((c : Thread nD τ).loc main_arg1) (ix2 x j)

/-- The product of two blocks. -/
theorem pay1_at (v0 v1 : Vec Ideal S4096x1024 .bf16) (i j : Fin 1024) :
    k0_pay1 v0 v1 (ix2 i j) = (∑ l : Fin 4096, v0 (ix2 l i) * v1 (ix2 l j) : EReal) := by
  open_payloads
  pointwise

theorem idx : ∀ t : Fin cfg0.N, win0_0.index t = ![t.val % 4, t.val / 4] ∧ win0_1.index t = ![t.val % 4, 0] ∧ win0_2.index t = ![t.val / 4, 0] := by
  decide +kernel

/-- A column of a point's left block, among all columns. -/
def colAt (t : Fin cfg0.N) (i : Fin 1024) : Fin 2048 := ⟨t.val / 4 * 1024 + i.val, by have : t.val < 8 := t.isLt; omega⟩

/-- A row of a point's blocks, among all rows. -/
def rowAt (k : ℕ) (hk : k < 4) (l : Fin 4096) : Fin 16384 := ⟨k * 4096 + l.val, by omega⟩

theorem blk_lhs (t : Fin cfg0.N) (l : Fin 4096) (i : Fin 1024) :
    iblk m c 0 t (ix2 l i) = lhs m c (rowAt (t.val % 4) (Nat.mod_lt _ (by decide)) l) (colAt t i) := by
  obtain ⟨e, -⟩ := idx t
  show _ = m (c.tc.loc main_arg0) (ix2 _ _)
  blk_ext [iblk, V, e, colAt, rowAt]

theorem blk_rhs (t : Fin cfg0.N) (l : Fin 4096) (j : Fin 1024) :
    iblk m c 1 t (ix2 l j) = rhs m c (rowAt (t.val % 4) (Nat.mod_lt _ (by decide)) l) j := by
  obtain ⟨-, e, -⟩ := idx t
  show _ = m (c.tc.loc main_arg1) (ix2 _ _)
  blk_ext [iblk, V, e, rowAt]

/-- What a point adds to the scratch. -/
def part (t : Fin cfg0.N) (y : S1024x1024.Idx) : EReal :=
  ∑ l : Fin 4096, lhs m c (rowAt (t.val % 4) (Nat.mod_lt _ (by decide)) l) (colAt t (y 0))
    * rhs m c (rowAt (t.val % 4) (Nat.mod_lt _ (by decide)) l) (y 1)

theorem pay1_part (t : Fin cfg0.N) (i j : Fin 1024) : k0_pay1 (iblk m c 0 t) (iblk m c 1 t) (ix2 i j) = part m c t (ix2 i j) :=
  (pay1_at _ _ i j).trans (Finset.sum_congr rfl fun l _ => congrArg₂ (· * ·) (blk_lhs m c t l i) (blk_rhs m c t l j))

theorem pay2_at (v0 v1 : Vec Ideal S4096x1024 .bf16) (i j : Fin 1024) : k0_pay2 v0 v1 (ix2 i j) = k0_pay1 v0 v1 (ix2 i j) := by
  unfold k0_pay2
  generalize k0_pay1 v0 v1 = p
  pointwise

theorem pay3_at (v0 v1 : Vec Ideal S4096x1024 .bf16) (v12 : Vec Ideal S1024x1024 .f32) (i j : Fin 1024) :
    k0_pay3 v0 v1 v12 (ix2 i j) = (v12 (ix2 i j) + k0_pay1 v0 v1 (ix2 i j) : EReal) := by
  unfold k0_pay3
  generalize k0_pay1 v0 v1 = p
  pointwise

theorem exists_ix2 (y : S1024x1024.Idx) : ∃ i j, y = ix2 i j :=
  ⟨y 0, y 1, by funext a; match a with | ⟨0, _⟩ => rfl | ⟨1, _⟩ => rfl⟩

/-- The first point of a block starts the sum. -/
theorem scratch_first (t : Fin cfg0.N) (h : t.val % 4 = 0) (y : S1024x1024.Idx) :
    (outsAt0 m c t.val t.isLt).2 y = (0 : EReal) + part m c t y := by
  obtain ⟨i, j, rfl⟩ := exists_ix2 y
  rw [outsAt0_A m c t h (by omega) (by omega), zero_add]
  frame_out
  exact (pay2_at _ _ i j).trans (pay1_part m c t i j)

/-- The other points go on with it. -/
theorem scratch_later (t : Fin cfg0.N) (h : ¬t.val % 4 = 0) (y : S1024x1024.Idx) :
    (outsAt0 m c t.val t.isLt).2 y
      = ((outsAt0 m c (t.val - 1) (Nat.lt_of_le_of_lt (Nat.sub_le _ _) t.isLt)).2 y + part m c t y : EReal) := by
  obtain ⟨i, j, rfl⟩ := exists_ix2 y
  have key := fun before : Vec Ideal S1024x1024 .f32 =>
    (pay3_at (iblk m c 0 t) (iblk m c 1 t) before i j).trans (congrArg (before (ix2 i j) + ·) (pay1_part m c t i j))
  by_cases h' : t.val % 4 = 3
  · rw [outsAt0_C m c t h (by omega) h']
    generalize outsAt0 m c (t.val - 1) (Nat.lt_of_le_of_lt (Nat.sub_le _ _) t.isLt) = before
    frame_out
    simp only [read_unread_whole]
    exact key before.2
  · rw [outsAt0_B m c t h (by omega) h']
    generalize outsAt0 m c (t.val - 1) (Nat.lt_of_le_of_lt (Nat.sub_le _ _) t.isLt) = before
    frame_out
    simp only [read_unread_whole]
    exact key before.2

/-- The last point of a block writes the scratch out. -/
theorem out_last (t : Fin cfg0.N) (h : t.val % 4 = 3) (i j : Fin 1024) :
    (outsAt0 m c t.val t.isLt).1 (ix2 i j) = (outsAt0 m c t.val t.isLt).2 (ix2 i j) := by
  rw [outsAt0_C m c t (by omega) (by omega) h]
  generalize outsAt0 m c (t.val - 1) (Nat.lt_of_le_of_lt (Nat.sub_le _ _) t.isLt) = before
  frame_out

/-- The scratch at the end of a block: the sum over all rows. -/
theorem total (t : Fin cfg0.N) (h : t.val % 4 = 3) (i j : Fin 1024) :
    (outsAt0 m c t.val t.isLt).2 (ix2 i j) = (∑ x : Fin 16384, lhs m c x (colAt t i) * rhs m c x j : EReal) := by
  rw [Pipeline.eq_sum_fin_of_reset_step_apply_of_flush (fun n h => (outsAt0 m c n h).2) 4 (fun _ => (0 : EReal)) (part m c)
    (scratch_first m c) (scratch_later m c) t h (ix2 i j), zero_add]
  have hb : ∀ s : Fin 4, 4 * (t.val / 4) + s.val < cfg0.N := fun s => by have : t.val < 8 := t.isLt; show _ < 8; omega
  have hp : ∀ s : Fin 4, part m c ⟨4 * (t.val / 4) + s.val, hb s⟩ (ix2 i j)
      = ∑ l : Fin 4096, lhs m c (rowAt s.val s.isLt l) (colAt t i) * rhs m c (rowAt s.val s.isLt l) j := by
    intro s
    refine Finset.sum_congr rfl fun l _ => ?_
    have e1 : colAt ⟨4 * (t.val / 4) + s.val, hb s⟩ i = colAt t i :=
      Fin.ext (by show (4 * (t.val / 4) + s.val) / 4 * 1024 + i.val = t.val / 4 * 1024 + i.val; omega)
    have e2 : rowAt ((4 * (t.val / 4) + s.val) % 4) (Nat.mod_lt _ (by decide)) l = rowAt s.val s.isLt l :=
      Fin.ext (by show (4 * (t.val / 4) + s.val) % 4 * 4096 + l.val = s.val * 4096 + l.val; omega)
    show lhs m c (rowAt ((4 * (t.val / 4) + s.val) % 4) _ l) (colAt ⟨4 * (t.val / 4) + s.val, hb s⟩ i)
      * rhs m c (rowAt ((4 * (t.val / 4) + s.val) % 4) _ l) j = _
    rw [e1, e2]
  refine (Finset.sum_congr rfl fun s _ => hp s).trans ?_
  exact Fin.sum_mul_add_fin 4 4096 (fun x : Fin 16384 => lhs m c x (colAt t i) * rhs m c x j) rfl

/-- The result, put together from the blocks. -/
theorem array : (dats m 0 c).arrAt 2 cfg0.N = (fun y => ∑ x : Fin 16384, lhs m c x (y 0) * rhs m c x (y 1) : Vec Ideal S2048x1024 .f32) := by
  refine (dats m 0 c).arrAt_eq_of_covers 2 _ (by decide +kernel) fun t hf y => ?_
  have hl : t.val % 4 = 3 := (flush0_2 t).mp hf
  blk_simp
  rw [after0_2]
  have e0 : win0_2.index t 0 = t.val / 4 := by rw [(idx t).2.2]; rfl
  have e1 : win0_2.index t 1 = 0 := by rw [(idx t).2.2]; rfl
  obtain ⟨i, j, rfl⟩ := exists_ix2 y
  have key : ∀ (z : Fin 2048) (w : Fin 1024), z.val = t.val / 4 * 1024 + 1 * i.val → w.val = 0 * 1024 + 1 * j.val →
      (outsAt0 m c t.val t.isLt).1 (ix2 i j) = (∑ x : Fin 16384, lhs m c x z * rhs m c x w : EReal) := by
    intro z w hz hw
    obtain rfl : colAt t i = z := Fin.ext (by show t.val / 4 * 1024 + i.val = z.val; omega)
    obtain rfl : j = w := Fin.ext (by omega)
    exact (out_last m c t hl i j).trans (total m c t hl i j)
  refine key _ _ ?_ ?_
  · rw [← e0]; rfl
  · rw [← e1]; rfl

/-- What the reference does with its arguments. -/
abbrev gradOf (a : Vec Ideal S16384x2048 .bf16) (b : Vec Ideal S16384x1024 .bf16) : Vec Ideal S2048x1024 .f32 :=
  transpose S2048x1024 [1, 0] (transpose Cert.InDwxbcReferenceIdeal.S1024x2048 [1, 0]
    (Host.dotGeneral (F := Ideal) Cert.InDwxbcReferenceIdeal.dot_S16384x2048_S16384x1024_S2048x1024_0_0_1_1_n_n none
      (extf .f32 a Cert.InDwxbcReferenceIdeal.Gen.bitsLt_bf16_f32) (extf .f32 b Cert.InDwxbcReferenceIdeal.Gen.bitsLt_bf16_f32))
    Cert.InDwxbcReferenceIdeal.Gen.transposes_S2048x1024_S1024x2048_1_0) Cert.InDwxbcReferenceIdeal.Gen.transposes_S1024x2048_S2048x1024_1_0

theorem gradOf_at (a : Vec Ideal S16384x2048 .bf16) (b : Vec Ideal S16384x1024 .bf16) (i : Fin 2048) (j : Fin 1024) :
    gradOf a b (ix2 i j) = (∑ x : Fin 16384, a (ix2 x i) * b (ix2 x j) : EReal) := by
  unfold gradOf
  pointwise
  done

theorem result_eq : gradOf (m (c.tc.loc main_arg0)) (m (c.tc.loc main_arg1)) = (dats m 0 c).arrAt 2 cfg0.N := by
  rw [array]
  funext y
  obtain ⟨i, j, rfl⟩ : ∃ (i : Fin 2048) (j : Fin 1024), y = ix2 i j :=
    ⟨y 0, y 1, by funext a; match a with | ⟨0, _⟩ => rfl | ⟨1, _⟩ => rfl⟩
  exact gradOf_at _ _ i j

end Cert.Proof.InDwxbc
-- ==== Proof.InDwu.lean ====
/-
  The gradient of the weights of the first three projections: the body is the one for the projection into the scan, and all columns fit
  into one block.
-/
module
public import proofs.«01_k».proof.Proof.InDwxbc
public import proofs.«01_k».proof.Proof.Gen.InDwuIdeal.Frame
public import proofs.«01_k».proof.Proof.Gen.InDwuReferenceIdeal.Run
@[expose] public section
noncomputable section
open Idealize.ShloMosaic Idealize.ShloMosaic.TcCoe Idealize.SL.Sem
namespace Cert.Proof.InDwu
open Cert.InDwuIdeal Cert.InDwuIdeal.Gen
open Cert.Proof.InDwxbc (rowAt exists_ix2)
variable (m : (ℓ : Loc nD τ sig) → Buf (Elt Ideal) ℓ) (c : Dev nD)

/-- The gradient that comes in. -/
abbrev lhs : Fin 16384 → Fin 1024 → EReal := fun x i => m ((c : Thread nD τ).loc main_arg0) (ix2 x i)

/-- The rows that went into the projection. -/
abbrev rhs : Fin 16384 → Fin 1024 → EReal := fun x j => m ((c : Thread nD τ).loc main_arg1) (ix2 x j)

theorem idx : ∀ t : Fin cfg0.N, win0_0.index t = ![t.val, 0] ∧ win0_1.index t = ![t.val, 0] ∧ win0_2.index t = ![0, 0] := by
  decide +kernel

theorem lt_four (t : Fin cfg0.N) : t.val < 4 := t.isLt

theorem blk_lhs (t : Fin cfg0.N) (l : Fin 4096) (i : Fin 1024) : iblk m c 0 t (ix2 l i) = lhs m c (rowAt t.val (lt_four t) l) i := by
  obtain ⟨e, -⟩ := idx t
  show _ = m (c.tc.loc main_arg0) (ix2 _ _)
  blk_ext [iblk, V, e, rowAt]

theorem blk_rhs (t : Fin cfg0.N) (l : Fin 4096) (j : Fin 1024) : iblk m c 1 t (ix2 l j) = rhs m c (rowAt t.val (lt_four t) l) j := by
  obtain ⟨-, e, -⟩ := idx t
  show _ = m (c.tc.loc main_arg1) (ix2 _ _)
  blk_ext [iblk, V, e, rowAt]

/-- What a point adds to the scratch. -/
def part (t : Fin cfg0.N) (y : S1024x1024.Idx) : EReal :=
  ∑ l : Fin 4096, lhs m c (rowAt t.val (lt_four t) l) (y 0) * rhs m c (rowAt t.val (lt_four t) l) (y 1)

theorem first_part (t : Fin cfg0.N) (i j : Fin 1024) : k0_pay2 (iblk m c 0 t) (iblk m c 1 t) (ix2 i j) = part m c t (ix2 i j) :=
  (InDwxbc.pay2_at _ _ i j).trans ((InDwxbc.pay1_at _ _ i j).trans
    (Finset.sum_congr rfl fun l _ => congrArg₂ (· * ·) (blk_lhs m c t l i) (blk_rhs m c t l j)))

theorem later_part (t : Fin cfg0.N) (before : Vec Ideal S1024x1024 .f32) (i j : Fin 1024) :
    k0_pay3 (iblk m c 0 t) (iblk m c 1 t) before (ix2 i j) = (before (ix2 i j) + part m c t (ix2 i j) : EReal) :=
  (InDwxbc.pay3_at _ _ before i j).trans (congrArg (before (ix2 i j) + ·) ((InDwxbc.pay1_at _ _ i j).trans
    (Finset.sum_congr rfl fun l _ => congrArg₂ (· * ·) (blk_lhs m c t l i) (blk_rhs m c t l j))))

/-- The first point starts the sum. -/
theorem scratch_first (t : Fin cfg0.N) (h : t.val % 4 = 0) (y : S1024x1024.Idx) :
    (outsAt0 m c t.val t.isLt).2 y = (0 : EReal) + part m c t y := by
  have b := lt_four t
  obtain ⟨i, j, rfl⟩ := exists_ix2 y
  rw [outsAt0_A m c t h (by omega) (by omega), zero_add]
  frame_out
  exact first_part m c t i j

/-- The other points go on with it. -/
theorem scratch_later (t : Fin cfg0.N) (h : ¬t.val % 4 = 0) (y : S1024x1024.Idx) :
    (outsAt0 m c t.val t.isLt).2 y
      = ((outsAt0 m c (t.val - 1) (Nat.lt_of_le_of_lt (Nat.sub_le _ _) t.isLt)).2 y + part m c t y : EReal) := by
  obtain ⟨i, j, rfl⟩ := exists_ix2 y
  have key := fun before : Vec Ideal S1024x1024 .f32 => later_part m c t before i j
  by_cases h' : t.val % 4 = 3
  · rw [outsAt0_C m c t h (by omega) h']
    generalize outsAt0 m c (t.val - 1) (Nat.lt_of_le_of_lt (Nat.sub_le _ _) t.isLt) = before
    frame_out
    simp only [read_unread_whole]
    exact key before.2
  · rw [outsAt0_B m c t h (by omega) h']
    generalize outsAt0 m c (t.val - 1) (Nat.lt_of_le_of_lt (Nat.sub_le _ _) t.isLt) = before
    frame_out
    simp only [read_unread_whole]
    exact key before.2

/-- The last point writes the scratch out. -/
theorem out_last (t : Fin cfg0.N) (h : t.val % 4 = 3) (i j : Fin 1024) :
    (outsAt0 m c t.val t.isLt).1 (ix2 i j) = (outsAt0 m c t.val t.isLt).2 (ix2 i j) := by
  rw [outsAt0_C m c t (by omega) (by omega) h]
  generalize outsAt0 m c (t.val - 1) (Nat.lt_of_le_of_lt (Nat.sub_le _ _) t.isLt) = before
  frame_out

/-- The scratch at the end: the sum over all rows. -/
theorem total (t : Fin cfg0.N) (h : t.val % 4 = 3) (i j : Fin 1024) :
    (outsAt0 m c t.val t.isLt).2 (ix2 i j) = (∑ x : Fin 16384, lhs m c x i * rhs m c x j : EReal) := by
  have b := lt_four t
  rw [Pipeline.eq_sum_fin_of_reset_step_apply_of_flush (fun n h => (outsAt0 m c n h).2) 4 (fun _ => (0 : EReal)) (part m c)
    (scratch_first m c) (scratch_later m c) t h (ix2 i j), zero_add]
  have hb : ∀ s : Fin 4, 4 * (t.val / 4) + s.val < cfg0.N := fun s => by show _ < 4; omega
  have hp : ∀ s : Fin 4, part m c ⟨4 * (t.val / 4) + s.val, hb s⟩ (ix2 i j)
      = ∑ l : Fin 4096, lhs m c (rowAt s.val s.isLt l) i * rhs m c (rowAt s.val s.isLt l) j := by
    intro s
    obtain e : (⟨4 * (t.val / 4) + s.val, hb s⟩ : Fin cfg0.N) = s := Fin.ext (by show 4 * (t.val / 4) + s.val = s.val; omega)
    rw [e]
    rfl
  refine (Finset.sum_congr rfl fun s _ => hp s).trans ?_
  exact Fin.sum_mul_add_fin 4 4096 (fun x : Fin 16384 => lhs m c x i * rhs m c x j) rfl

/-- The result: the one block. -/
theorem array : (dats m 0 c).arrAt 2 cfg0.N = (fun y => ∑ x : Fin 16384, lhs m c x (y 0) * rhs m c x (y 1) : Vec Ideal S1024x1024 .f32) := by
  refine (dats m 0 c).arrAt_eq_of_covers 2 _ (by decide +kernel) fun t hf y => ?_
  have hl : t.val % 4 = 3 := (flush0_2 t).mp hf
  blk_simp
  rw [after0_2]
  have e0 : win0_2.index t 0 = 0 := by rw [(idx t).2.2]; rfl
  have e1 : win0_2.index t 1 = 0 := by rw [(idx t).2.2]; rfl
  obtain ⟨i, j, rfl⟩ := exists_ix2 y
  have key : ∀ z w : Fin 1024, z.val = 0 * 1024 + 1 * i.val → w.val = 0 * 1024 + 1 * j.val →
      (outsAt0 m c t.val t.isLt).1 (ix2 i j) = (∑ x : Fin 16384, lhs m c x z * rhs m c x w : EReal) := by
    intro z w hz hw
    obtain rfl : i = z := Fin.ext (by omega)
    obtain rfl : j = w := Fin.ext (by omega)
    exact (out_last m c t hl i j).trans (total m c t hl i j)
  refine key _ _ ?_ ?_
  · rw [← e0]; rfl
  · rw [← e1]; rfl

/-- What the reference does with its arguments. -/
abbrev gradOf (a b : Vec Ideal S16384x1024 .bf16) : Vec Ideal S1024x1024 .f32 :=
  transpose S1024x1024 [1, 0] (transpose S1024x1024 [1, 0]
    (Host.dotGeneral (F := Ideal) Cert.InDwuReferenceIdeal.dot_S16384x1024_S16384x1024_S1024x1024_0_0_1_1_n_n none
      (extf .f32 a Cert.InDwuReferenceIdeal.Gen.bitsLt_bf16_f32) (extf .f32 b Cert.InDwuReferenceIdeal.Gen.bitsLt_bf16_f32))
    Cert.InDwuReferenceIdeal.Gen.transposes_S1024x1024_S1024x1024_1_0) Cert.InDwuReferenceIdeal.Gen.transposes_S1024x1024_S1024x1024_1_0

theorem gradOf_at (a b : Vec Ideal S16384x1024 .bf16) (i j : Fin 1024) :
    gradOf a b (ix2 i j) = (∑ x : Fin 16384, a (ix2 x i) * b (ix2 x j) : EReal) := by
  unfold gradOf
  pointwise
  done

theorem result_eq : gradOf (m (c.tc.loc main_arg0)) (m (c.tc.loc main_arg1)) = (dats m 0 c).arrAt 2 cfg0.N := by
  rw [array]
  funext y
  obtain ⟨i, j, rfl⟩ := exists_ix2 y
  exact gradOf_at _ _ i j

end Cert.Proof.InDwu
-- ==== Proof.lean ====
/-
  The claims, put together from the runs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Held
public import proofs.«01_k».proof.Proof.Same
public import proofs.«01_k».proof.Proof.RefLoop
public import proofs.«01_k».proof.Proof.Equal
public import proofs.«01_k».proof.Proof.Gen.WeightGrad.Frame
public import proofs.«01_k».proof.Proof.Gen.WeightGradIdeal.Frame
public import proofs.«01_k».proof.Proof.Gen.WeightGradReferenceIdeal.Run
public import proofs.«01_k».proof.Proof.Gen.Widen.Frame
public import proofs.«01_k».proof.Proof.Gen.WidenIdeal.Frame
public import proofs.«01_k».proof.Proof.Gen.WidenReferenceIdeal.Run
public import proofs.«01_k».proof.Proof.WeightGradEqual
public import proofs.«01_k».proof.Proof.WidenEqual
public import proofs.«01_k».proof.Proof.Gen.WidenSecond.Frame
public import proofs.«01_k».proof.Proof.Gen.WidenSecondIdeal.Frame
public import proofs.«01_k».proof.Proof.Gen.WidenSecondReferenceIdeal.Run
public import proofs.«01_k».proof.Proof.Gen.InUvz.Frame
public import proofs.«01_k».proof.Proof.Gen.InUvzIdeal.Frame
public import proofs.«01_k».proof.Proof.Gen.InUvzReferenceIdeal.Run
public import proofs.«01_k».proof.Proof.Gen.InXbc.Frame
public import proofs.«01_k».proof.Proof.Gen.InXbcIdeal.Frame
public import proofs.«01_k».proof.Proof.Gen.InXbcReferenceIdeal.Run
public import proofs.«01_k».proof.Proof.Gen.OutDy.Frame
public import proofs.«01_k».proof.Proof.Gen.OutDyIdeal.Frame
public import proofs.«01_k».proof.Proof.Gen.OutDyReferenceIdeal.Run
public import proofs.«01_k».proof.Proof.Gen.InDwu.Frame
public import proofs.«01_k».proof.Proof.Gen.InDwuIdeal.Frame
public import proofs.«01_k».proof.Proof.Gen.InDwuReferenceIdeal.Run
public import proofs.«01_k».proof.Proof.Gen.InDwxbc.Frame
public import proofs.«01_k».proof.Proof.Gen.InDwxbcIdeal.Frame
public import proofs.«01_k».proof.Proof.Gen.InDwxbcReferenceIdeal.Run
public import proofs.«01_k».proof.Proof.Gen.AdamGate.Frame
public import proofs.«01_k».proof.Proof.Gen.AdamGateIdeal.Value
public import proofs.«01_k».proof.Proof.Gen.AdamGateReferenceIdeal.Run
public import proofs.«01_k».proof.Proof.Gen.AdamDown.Frame
public import proofs.«01_k».proof.Proof.Gen.AdamDownIdeal.Value
public import proofs.«01_k».proof.Proof.Gen.AdamDownReferenceIdeal.Run
public import proofs.«01_k».proof.Proof.Gen.AdamIn.Frame
public import proofs.«01_k».proof.Proof.Gen.AdamInIdeal.Value
public import proofs.«01_k».proof.Proof.Gen.AdamInReferenceIdeal.Run
public import proofs.«01_k».proof.Proof.Gen.AdamOut.Frame
public import proofs.«01_k».proof.Proof.Gen.AdamOutIdeal.Value
public import proofs.«01_k».proof.Proof.Gen.AdamOutReferenceIdeal.Run
public import proofs.«01_k».proof.Proof.Gen.AdamPool.Frame
public import proofs.«01_k».proof.Proof.Gen.AdamPoolIdeal.Value
public import proofs.«01_k».proof.Proof.Gen.AdamPoolReferenceIdeal.Run
public import proofs.«01_k».proof.Proof.Gen.AdamMix.Frame
public import proofs.«01_k».proof.Proof.Gen.AdamMixIdeal.Value
public import proofs.«01_k».proof.Proof.Gen.AdamMixReferenceIdeal.Run
public import proofs.«01_k».proof.Proof.Gen.AdamNorm.Frame
public import proofs.«01_k».proof.Proof.Gen.AdamNormIdeal.Value
public import proofs.«01_k».proof.Proof.Gen.AdamNormReferenceIdeal.Run
public import proofs.«01_k».proof.Proof.Gen.AdamConv.Frame
public import proofs.«01_k».proof.Proof.Gen.AdamConvIdeal.Value
public import proofs.«01_k».proof.Proof.Gen.AdamConvReferenceIdeal.Run
public import proofs.«01_k».proof.Proof.Gen.AdamMixBias.Frame
public import proofs.«01_k».proof.Proof.Gen.AdamMixBiasIdeal.Value
public import proofs.«01_k».proof.Proof.Gen.AdamMixBiasReferenceIdeal.Run
public import proofs.«01_k».proof.Proof.Gen.AdamPoolBias.Frame
public import proofs.«01_k».proof.Proof.Gen.AdamPoolBiasIdeal.Value
public import proofs.«01_k».proof.Proof.Gen.AdamPoolBiasReferenceIdeal.Run
public import proofs.«01_k».proof.Proof.Gen.AdamRow.Frame
public import proofs.«01_k».proof.Proof.Gen.AdamRowIdeal.Value
public import proofs.«01_k».proof.Proof.Gen.AdamRowReferenceIdeal.Run
public import proofs.«01_k».proof.Proof.Gen.AdamConvBias.Frame
public import proofs.«01_k».proof.Proof.Gen.AdamConvBiasIdeal.Value
public import proofs.«01_k».proof.Proof.Gen.AdamConvBiasReferenceIdeal.Run
public import proofs.«01_k».proof.Proof.Gen.AdamPoolScale.Frame
public import proofs.«01_k».proof.Proof.Gen.AdamPoolScaleIdeal.Value
public import proofs.«01_k».proof.Proof.Gen.AdamPoolScaleReferenceIdeal.Run
public import proofs.«01_k».proof.Proof.Gen.AdamHead.Frame
public import proofs.«01_k».proof.Proof.Gen.AdamHeadIdeal.Value
public import proofs.«01_k».proof.Proof.Gen.AdamHeadReferenceIdeal.Run
public import proofs.«01_k».proof.Proof.WidenSecond
public import proofs.«01_k».proof.Proof.InXbc
public import proofs.«01_k».proof.Proof.OutDy
public import proofs.«01_k».proof.Proof.InDwu
public import Idealize.ShloMosaic.Adequacy
public import Idealize.ShloMosaic.Init

@[expose] public section

noncomputable section

namespace Cert.Proof

open Idealize.ShloMosaic Idealize.ShloMosaic.TcCoe Idealize.SL.Sem

theorem frame_kernelIdeal : Cert.quiescent_KernelIdeal := fun m ρ _ => Cert.KernelIdeal.Held.frame m ρ

theorem frame_reference : Cert.quiescent_ReferenceIdeal := fun m ρ _ =>
  (θ_run Cert.ReferenceIdeal.defs _ _).mono (fun r h =>
    ⟨fun c => ⟨(h c).2 _ (by decide), (h c).2 _ (by decide), (h c).2 _ (by decide), (h c).2 _ (by decide),
      (h c).2 _ (by decide), (h c).2 _ (by decide), (h c).2 _ (by decide)⟩,
      Idealize.ShloMosaic.sem_eq_zero_of_no_sems (by decide) r.2⟩)
    (Ref.run m ρ)

/-- Both runs end with the array of the kernel's blocks. -/
theorem algebraic : Cert.algebraic_KernelIdeal_ReferenceIdeal := by
  intro m ρ m' ρ' _ hargs
  refine ⟨fun c => (Cert.KernelIdeal.Held.dats m 0 c).arrAt 24 Cert.KernelIdeal.cfg0.N, ?_, ?_⟩
  · exact (θ_run Cert.KernelIdeal.defs _ _).mono (fun r h c => ⟨(h.1 c).1 24, h.2 c⟩)
      (θ_run_and (Cert.KernelIdeal.Held.run m ρ) (Cert.KernelIdeal.Held.unchanged m ρ))
  · refine (θ_run Cert.ReferenceIdeal.defs _ _).mono (fun r h c => ⟨(h c).1.trans (result_eq m m' c ?_), (h c).2 _ (by decide),
      (h c).2 _ (by decide), (h c).2 _ (by decide), (h c).2 _ (by decide), (h c).2 _ (by decide), (h c).2 _ (by decide),
      (h c).2 _ (by decide)⟩) (Ref.run m' ρ')
    obtain ⟨h0, h1, h2, h3, h4, h5, h6⟩ := hargs c
    exact (Args.mk.injEq ..).mpr ⟨h0, h1, h2, h3, h4, h5, h6⟩

theorem frame_weightGradReference : Cert.quiescent_WeightGradReferenceIdeal := fun m ρ _ =>
  (θ_run Cert.WeightGradReferenceIdeal.defs _ _).mono
    (fun r h => ⟨fun c => (h c).2, Idealize.ShloMosaic.sem_eq_zero_of_no_sems (by decide) r.2⟩)
    (Cert.WeightGradReferenceIdeal.Value.run m ρ)

/-- The gradient of the weights: both runs end with the same sums of products. -/
theorem algebraic_weightGrad : Cert.algebraic_WeightGradIdeal_WeightGradReferenceIdeal := by
  intro m ρ m' ρ' _ hargs
  refine ⟨fun c => (Cert.WeightGradIdeal.Gen.dats m 0 c).arrAt 2 Cert.WeightGradIdeal.cfg0.N, ?_, ?_⟩
  · exact (θ_run Cert.WeightGradIdeal.defs _ _).mono (fun r h c => ⟨(h.1 c).1 2, h.2 c⟩)
      (θ_run_and (Cert.WeightGradIdeal.Gen.run_main m ρ) (Cert.WeightGradIdeal.Gen.unchanged m ρ))
  · refine (θ_run Cert.WeightGradReferenceIdeal.defs _ _).mono (fun r h c => ⟨(h c).1.trans ?_, (h c).2⟩)
      (Cert.WeightGradReferenceIdeal.Value.run m' ρ')
    obtain ⟨h0, h1⟩ := hargs c
    refine Eq.trans ?_ (Weight.result_eq m c)
    rw [← h0, ← h1]

theorem frame_widenReference : Cert.quiescent_WidenReferenceIdeal := fun m ρ _ =>
  (θ_run Cert.WidenReferenceIdeal.defs _ _).mono
    (fun r h => ⟨fun c => (h c).2.2.2, Idealize.ShloMosaic.sem_eq_zero_of_no_sems (by decide) r.2⟩)
    (Cert.WidenReferenceIdeal.Value.run m ρ)

/-- The products that grow the width: both runs end with the same three arrays. -/
theorem algebraic_widen : Cert.algebraic_WidenIdeal_WidenReferenceIdeal := by
  intro m ρ m' ρ' _ hargs
  refine ⟨fun c => (Cert.WidenIdeal.Gen.dats m 0 c).arrAt 3 Cert.WidenIdeal.cfg0.N,
    fun c => (Cert.WidenIdeal.Gen.dats m 0 c).arrAt 4 Cert.WidenIdeal.cfg0.N,
    fun c => (Cert.WidenIdeal.Gen.dats m 0 c).arrAt 5 Cert.WidenIdeal.cfg0.N, ?_, ?_⟩
  · exact (θ_run Cert.WidenIdeal.defs _ _).mono (fun r h c => ⟨(h.1 c).1 3, (h.1 c).1 4, (h.1 c).1 5, h.2 c⟩)
      (θ_run_and (Cert.WidenIdeal.Gen.run_main m ρ) (Cert.WidenIdeal.Gen.unchanged m ρ))
  · refine (θ_run Cert.WidenReferenceIdeal.defs _ _).mono
      (fun r h c => ⟨(h c).1.trans ?_, (h c).2.1.trans ?_, (h c).2.2.1.trans ?_, (h c).2.2.2⟩)
      (Cert.WidenReferenceIdeal.Value.run m' ρ')
    all_goals obtain ⟨h0, h1, h2⟩ := hargs c
    · refine Eq.trans ?_ (Widen.gate_eq m c)
      rw [← h0, ← h1]
    · refine Eq.trans ?_ (Widen.up_eq m c)
      rw [← h0, ← h2]
    · refine Eq.trans ?_ (Widen.act_eq m c)
      rw [← h0, ← h1, ← h2]
      rfl

theorem frame_widenSecondReference : Cert.quiescent_WidenSecondReferenceIdeal := fun m ρ _ =>
  (θ_run Cert.WidenSecondReferenceIdeal.defs _ _).mono
    (fun r h => ⟨fun c => (h c).2.2.2, Idealize.ShloMosaic.sem_eq_zero_of_no_sems (by decide) r.2⟩)
    (Cert.WidenSecondReferenceIdeal.Value.run m ρ)

/-- The same products of the second layer: both runs end with the same three arrays. -/
theorem algebraic_widenSecond : Cert.algebraic_WidenSecondIdeal_WidenSecondReferenceIdeal := by
  intro m ρ m' ρ' _ hargs
  refine ⟨fun c => (Cert.WidenSecondIdeal.Gen.dats m 0 c).arrAt 3 Cert.WidenSecondIdeal.cfg0.N,
    fun c => (Cert.WidenSecondIdeal.Gen.dats m 0 c).arrAt 4 Cert.WidenSecondIdeal.cfg0.N,
    fun c => (Cert.WidenSecondIdeal.Gen.dats m 0 c).arrAt 5 Cert.WidenSecondIdeal.cfg0.N, ?_, ?_⟩
  · exact (θ_run Cert.WidenSecondIdeal.defs _ _).mono (fun r h c => ⟨(h.1 c).1 3, (h.1 c).1 4, (h.1 c).1 5, h.2 c⟩)
      (θ_run_and (Cert.WidenSecondIdeal.Gen.run_main m ρ) (Cert.WidenSecondIdeal.Gen.unchanged m ρ))
  · refine (θ_run Cert.WidenSecondReferenceIdeal.defs _ _).mono
      (fun r h c => ⟨(h c).1.trans ?_, (h c).2.1.trans ?_, (h c).2.2.1.trans ?_, (h c).2.2.2⟩)
      (Cert.WidenSecondReferenceIdeal.Value.run m' ρ')
    all_goals obtain ⟨h0, h1, h2⟩ := hargs c
    · refine Eq.trans ?_ (WidenSecond.gate_eq m c)
      rw [← h0, ← h1]
      rfl
    · refine Eq.trans ?_ (WidenSecond.up_eq m c)
      rw [← h0, ← h2]
      rfl
    · refine Eq.trans ?_ (WidenSecond.act_eq m c)
      rw [← h0, ← h1, ← h2]
      rfl

theorem frame_inUvzReference : Cert.quiescent_InUvzReferenceIdeal := fun m ρ _ =>
  (θ_run Cert.InUvzReferenceIdeal.defs _ _).mono
    (fun r h => ⟨fun c => (h c).2, Idealize.ShloMosaic.sem_eq_zero_of_no_sems (by decide) r.2⟩)
    (Cert.InUvzReferenceIdeal.Value.run m ρ)

/-- The projection into the mixer: both runs end with the same sums of products. -/
theorem algebraic_inUvz : Cert.algebraic_InUvzIdeal_InUvzReferenceIdeal := by
  intro m ρ m' ρ' _ hargs
  refine ⟨fun c => (Cert.InUvzIdeal.Gen.dats m 0 c).arrAt 2 Cert.InUvzIdeal.cfg0.N, ?_, ?_⟩
  · exact (θ_run Cert.InUvzIdeal.defs _ _).mono (fun r h c => ⟨(h.1 c).1 2, h.2 c⟩)
      (θ_run_and (Cert.InUvzIdeal.Gen.run_main m ρ) (Cert.InUvzIdeal.Gen.unchanged m ρ))
  · refine (θ_run Cert.InUvzReferenceIdeal.defs _ _).mono (fun r h c => ⟨(h c).1.trans ?_, (h c).2⟩)
      (Cert.InUvzReferenceIdeal.Value.run m' ρ')
    obtain ⟨h0, h1⟩ := hargs c
    refine Eq.trans ?_ (InUvz.result_eq m c)
    rw [← h0, ← h1]

theorem frame_inXbcReference : Cert.quiescent_InXbcReferenceIdeal := fun m ρ _ =>
  (θ_run Cert.InXbcReferenceIdeal.defs _ _).mono
    (fun r h => ⟨fun c => (h c).2, Idealize.ShloMosaic.sem_eq_zero_of_no_sems (by decide) r.2⟩)
    (Cert.InXbcReferenceIdeal.Value.run m ρ)

/-- The projection to the scan's inputs. -/
theorem algebraic_inXbc : Cert.algebraic_InXbcIdeal_InXbcReferenceIdeal := by
  intro m ρ m' ρ' _ hargs
  refine ⟨fun c => (Cert.InXbcIdeal.Gen.dats m 0 c).arrAt 2 Cert.InXbcIdeal.cfg0.N, ?_, ?_⟩
  · exact (θ_run Cert.InXbcIdeal.defs _ _).mono (fun r h c => ⟨(h.1 c).1 2, h.2 c⟩)
      (θ_run_and (Cert.InXbcIdeal.Gen.run_main m ρ) (Cert.InXbcIdeal.Gen.unchanged m ρ))
  · refine (θ_run Cert.InXbcReferenceIdeal.defs _ _).mono (fun r h c => ⟨(h c).1.trans ?_, (h c).2⟩)
      (Cert.InXbcReferenceIdeal.Value.run m' ρ')
    obtain ⟨h0, h1⟩ := hargs c
    refine Eq.trans ?_ (InXbc.result_eq m c)
    rw [← h0, ← h1]

theorem frame_outDyReference : Cert.quiescent_OutDyReferenceIdeal := fun m ρ _ =>
  (θ_run Cert.OutDyReferenceIdeal.defs _ _).mono
    (fun r h => ⟨fun c => (h c).2, Idealize.ShloMosaic.sem_eq_zero_of_no_sems (by decide) r.2⟩)
    (Cert.OutDyReferenceIdeal.Value.run m ρ)

/-- The gradient of the output projection's argument. -/
theorem algebraic_outDy : Cert.algebraic_OutDyIdeal_OutDyReferenceIdeal := by
  intro m ρ m' ρ' _ hargs
  refine ⟨fun c => (Cert.OutDyIdeal.Gen.dats m 0 c).arrAt 2 Cert.OutDyIdeal.cfg0.N, ?_, ?_⟩
  · exact (θ_run Cert.OutDyIdeal.defs _ _).mono (fun r h c => ⟨(h.1 c).1 2, h.2 c⟩)
      (θ_run_and (Cert.OutDyIdeal.Gen.run_main m ρ) (Cert.OutDyIdeal.Gen.unchanged m ρ))
  · refine (θ_run Cert.OutDyReferenceIdeal.defs _ _).mono (fun r h c => ⟨(h c).1.trans ?_, (h c).2⟩)
      (Cert.OutDyReferenceIdeal.Value.run m' ρ')
    obtain ⟨h0, h1⟩ := hargs c
    refine Eq.trans ?_ (OutDy.result_eq m c)
    unfold OutDy.stacked
    rw [← h0, ← h1]

theorem frame_inDwuReference : Cert.quiescent_InDwuReferenceIdeal := fun m ρ _ =>
  (θ_run Cert.InDwuReferenceIdeal.defs _ _).mono
    (fun r h => ⟨fun c => (h c).2, Idealize.ShloMosaic.sem_eq_zero_of_no_sems (by decide) r.2⟩)
    (Cert.InDwuReferenceIdeal.Value.run m ρ)

/-- The gradient of a square part of the projection's weights. -/
theorem algebraic_inDwu : Cert.algebraic_InDwuIdeal_InDwuReferenceIdeal := by
  intro m ρ m' ρ' _ hargs
  refine ⟨fun c => (Cert.InDwuIdeal.Gen.dats m 0 c).arrAt 2 Cert.InDwuIdeal.cfg0.N, ?_, ?_⟩
  · exact (θ_run Cert.InDwuIdeal.defs _ _).mono (fun r h c => ⟨(h.1 c).1 2, h.2 c⟩)
      (θ_run_and (Cert.InDwuIdeal.Gen.run_main m ρ) (Cert.InDwuIdeal.Gen.unchanged m ρ))
  · refine (θ_run Cert.InDwuReferenceIdeal.defs _ _).mono (fun r h c => ⟨(h c).1.trans ?_, (h c).2⟩)
      (Cert.InDwuReferenceIdeal.Value.run m' ρ')
    obtain ⟨h0, h1⟩ := hargs c
    refine Eq.trans ?_ (InDwu.result_eq m c)
    rw [← h0, ← h1]

theorem frame_inDwxbcReference : Cert.quiescent_InDwxbcReferenceIdeal := fun m ρ _ =>
  (θ_run Cert.InDwxbcReferenceIdeal.defs _ _).mono
    (fun r h => ⟨fun c => (h c).2, Idealize.ShloMosaic.sem_eq_zero_of_no_sems (by decide) r.2⟩)
    (Cert.InDwxbcReferenceIdeal.Value.run m ρ)

/-- The gradient of the part of the projection's weights that feeds the scan. -/
theorem algebraic_inDwxbc : Cert.algebraic_InDwxbcIdeal_InDwxbcReferenceIdeal := by
  intro m ρ m' ρ' _ hargs
  refine ⟨fun c => (Cert.InDwxbcIdeal.Gen.dats m 0 c).arrAt 2 Cert.InDwxbcIdeal.cfg0.N, ?_, ?_⟩
  · exact (θ_run Cert.InDwxbcIdeal.defs _ _).mono (fun r h c => ⟨(h.1 c).1 2, h.2 c⟩)
      (θ_run_and (Cert.InDwxbcIdeal.Gen.run_main m ρ) (Cert.InDwxbcIdeal.Gen.unchanged m ρ))
  · refine (θ_run Cert.InDwxbcReferenceIdeal.defs _ _).mono (fun r h c => ⟨(h c).1.trans ?_, (h c).2⟩)
      (Cert.InDwxbcReferenceIdeal.Value.run m' ρ')
    obtain ⟨h0, h1⟩ := hargs c
    refine Eq.trans ?_ (InDwxbc.result_eq m c)
    rw [← h0, ← h1]

theorem frame_adamGateReference : Cert.quiescent_AdamGateReferenceIdeal := fun m ρ _ =>
  (θ_run Cert.AdamGateReferenceIdeal.defs _ _).mono
    (fun r h => ⟨fun c => (h c).2.2.2, Idealize.ShloMosaic.sem_eq_zero_of_no_sems (by decide) r.2⟩)
    (Cert.AdamGateReferenceIdeal.Value.run m ρ)

/-- The optimiser's step on 2048 by 704 numbers: both runs end with the same three arrays, entry by entry. -/
theorem algebraic_adamGate : Cert.algebraic_AdamGateIdeal_AdamGateReferenceIdeal := by
  intro m ρ m' ρ' _ hargs
  refine ⟨_, _, _, Cert.AdamGateIdeal.Value.run m ρ, (θ_run Cert.AdamGateReferenceIdeal.defs _ _).mono
    (fun r h c => ⟨(h c).1.trans ?_, (h c).2.1.trans ?_, (h c).2.2.1.trans ?_, (h c).2.2.2⟩) (Cert.AdamGateReferenceIdeal.Value.run m' ρ')⟩
  all_goals
    obtain ⟨h0, h1, h2, h3⟩ := hargs c
    simp only [h0, h1, h2, h3]
    rfl

theorem frame_adamDownReference : Cert.quiescent_AdamDownReferenceIdeal := fun m ρ _ =>
  (θ_run Cert.AdamDownReferenceIdeal.defs _ _).mono
    (fun r h => ⟨fun c => (h c).2.2.2, Idealize.ShloMosaic.sem_eq_zero_of_no_sems (by decide) r.2⟩)
    (Cert.AdamDownReferenceIdeal.Value.run m ρ)

/-- The optimiser's step on 1408 by 1024 numbers. -/
theorem algebraic_adamDown : Cert.algebraic_AdamDownIdeal_AdamDownReferenceIdeal := by
  intro m ρ m' ρ' _ hargs
  refine ⟨_, _, _, Cert.AdamDownIdeal.Value.run m ρ, (θ_run Cert.AdamDownReferenceIdeal.defs _ _).mono
    (fun r h c => ⟨(h c).1.trans ?_, (h c).2.1.trans ?_, (h c).2.2.1.trans ?_, (h c).2.2.2⟩) (Cert.AdamDownReferenceIdeal.Value.run m' ρ')⟩
  all_goals
    obtain ⟨h0, h1, h2, h3⟩ := hargs c
    simp only [h0, h1, h2, h3]
    rfl

theorem frame_adamInReference : Cert.quiescent_AdamInReferenceIdeal := fun m ρ _ =>
  (θ_run Cert.AdamInReferenceIdeal.defs _ _).mono
    (fun r h => ⟨fun c => (h c).2.2.2, Idealize.ShloMosaic.sem_eq_zero_of_no_sems (by decide) r.2⟩)
    (Cert.AdamInReferenceIdeal.Value.run m ρ)

/-- The optimiser's step on 1024 by 1284 numbers. -/
theorem algebraic_adamIn : Cert.algebraic_AdamInIdeal_AdamInReferenceIdeal := by
  intro m ρ m' ρ' _ hargs
  refine ⟨_, _, _, Cert.AdamInIdeal.Value.run m ρ, (θ_run Cert.AdamInReferenceIdeal.defs _ _).mono
    (fun r h c => ⟨(h c).1.trans ?_, (h c).2.1.trans ?_, (h c).2.2.1.trans ?_, (h c).2.2.2⟩) (Cert.AdamInReferenceIdeal.Value.run m' ρ')⟩
  all_goals
    obtain ⟨h0, h1, h2, h3⟩ := hargs c
    simp only [h0, h1, h2, h3]
    rfl

theorem frame_adamOutReference : Cert.quiescent_AdamOutReferenceIdeal := fun m ρ _ =>
  (θ_run Cert.AdamOutReferenceIdeal.defs _ _).mono
    (fun r h => ⟨fun c => (h c).2.2.2, Idealize.ShloMosaic.sem_eq_zero_of_no_sems (by decide) r.2⟩)
    (Cert.AdamOutReferenceIdeal.Value.run m ρ)

/-- The optimiser's step on 512 by 1024 numbers. -/
theorem algebraic_adamOut : Cert.algebraic_AdamOutIdeal_AdamOutReferenceIdeal := by
  intro m ρ m' ρ' _ hargs
  refine ⟨_, _, _, Cert.AdamOutIdeal.Value.run m ρ, (θ_run Cert.AdamOutReferenceIdeal.defs _ _).mono
    (fun r h c => ⟨(h c).1.trans ?_, (h c).2.1.trans ?_, (h c).2.2.1.trans ?_, (h c).2.2.2⟩) (Cert.AdamOutReferenceIdeal.Value.run m' ρ')⟩
  all_goals
    obtain ⟨h0, h1, h2, h3⟩ := hargs c
    simp only [h0, h1, h2, h3]
    rfl

theorem frame_adamPoolReference : Cert.quiescent_AdamPoolReferenceIdeal := fun m ρ _ =>
  (θ_run Cert.AdamPoolReferenceIdeal.defs _ _).mono
    (fun r h => ⟨fun c => (h c).2.2.2, Idealize.ShloMosaic.sem_eq_zero_of_no_sems (by decide) r.2⟩)
    (Cert.AdamPoolReferenceIdeal.Value.run m ρ)

/-- The optimiser's step on 256 by 256 numbers. -/
theorem algebraic_adamPool : Cert.algebraic_AdamPoolIdeal_AdamPoolReferenceIdeal := by
  intro m ρ m' ρ' _ hargs
  refine ⟨_, _, _, Cert.AdamPoolIdeal.Value.run m ρ, (θ_run Cert.AdamPoolReferenceIdeal.defs _ _).mono
    (fun r h c => ⟨(h c).1.trans ?_, (h c).2.1.trans ?_, (h c).2.2.1.trans ?_, (h c).2.2.2⟩) (Cert.AdamPoolReferenceIdeal.Value.run m' ρ')⟩
  all_goals
    obtain ⟨h0, h1, h2, h3⟩ := hargs c
    simp only [h0, h1, h2, h3]
    rfl

theorem frame_adamMixReference : Cert.quiescent_AdamMixReferenceIdeal := fun m ρ _ =>
  (θ_run Cert.AdamMixReferenceIdeal.defs _ _).mono
    (fun r h => ⟨fun c => (h c).2.2.2, Idealize.ShloMosaic.sem_eq_zero_of_no_sems (by decide) r.2⟩)
    (Cert.AdamMixReferenceIdeal.Value.run m ρ)

/-- The optimiser's step on 512 by 128 numbers. -/
theorem algebraic_adamMix : Cert.algebraic_AdamMixIdeal_AdamMixReferenceIdeal := by
  intro m ρ m' ρ' _ hargs
  refine ⟨_, _, _, Cert.AdamMixIdeal.Value.run m ρ, (θ_run Cert.AdamMixReferenceIdeal.defs _ _).mono
    (fun r h c => ⟨(h c).1.trans ?_, (h c).2.1.trans ?_, (h c).2.2.1.trans ?_, (h c).2.2.2⟩) (Cert.AdamMixReferenceIdeal.Value.run m' ρ')⟩
  all_goals
    obtain ⟨h0, h1, h2, h3⟩ := hargs c
    simp only [h0, h1, h2, h3]
    rfl

theorem frame_adamNormReference : Cert.quiescent_AdamNormReferenceIdeal := fun m ρ _ =>
  (θ_run Cert.AdamNormReferenceIdeal.defs _ _).mono
    (fun r h => ⟨fun c => (h c).2.2.2, Idealize.ShloMosaic.sem_eq_zero_of_no_sems (by decide) r.2⟩)
    (Cert.AdamNormReferenceIdeal.Value.run m ρ)

/-- The optimiser's step on 8 by 256 numbers. -/
theorem algebraic_adamNorm : Cert.algebraic_AdamNormIdeal_AdamNormReferenceIdeal := by
  intro m ρ m' ρ' _ hargs
  refine ⟨_, _, _, Cert.AdamNormIdeal.Value.run m ρ, (θ_run Cert.AdamNormReferenceIdeal.defs _ _).mono
    (fun r h c => ⟨(h c).1.trans ?_, (h c).2.1.trans ?_, (h c).2.2.1.trans ?_, (h c).2.2.2⟩) (Cert.AdamNormReferenceIdeal.Value.run m' ρ')⟩
  all_goals
    obtain ⟨h0, h1, h2, h3⟩ := hargs c
    simp only [h0, h1, h2, h3]
    rfl

theorem frame_adamConvReference : Cert.quiescent_AdamConvReferenceIdeal := fun m ρ _ =>
  (θ_run Cert.AdamConvReferenceIdeal.defs _ _).mono
    (fun r h => ⟨fun c => (h c).2.2.2, Idealize.ShloMosaic.sem_eq_zero_of_no_sems (by decide) r.2⟩)
    (Cert.AdamConvReferenceIdeal.Value.run m ρ)

/-- The optimiser's step on 4 by 512 numbers. -/
theorem algebraic_adamConv : Cert.algebraic_AdamConvIdeal_AdamConvReferenceIdeal := by
  intro m ρ m' ρ' _ hargs
  refine ⟨_, _, _, Cert.AdamConvIdeal.Value.run m ρ, (θ_run Cert.AdamConvReferenceIdeal.defs _ _).mono
    (fun r h c => ⟨(h c).1.trans ?_, (h c).2.1.trans ?_, (h c).2.2.1.trans ?_, (h c).2.2.2⟩) (Cert.AdamConvReferenceIdeal.Value.run m' ρ')⟩
  all_goals
    obtain ⟨h0, h1, h2, h3⟩ := hargs c
    simp only [h0, h1, h2, h3]
    rfl

theorem frame_adamMixBiasReference : Cert.quiescent_AdamMixBiasReferenceIdeal := fun m ρ _ =>
  (θ_run Cert.AdamMixBiasReferenceIdeal.defs _ _).mono
    (fun r h => ⟨fun c => (h c).2.2.2, Idealize.ShloMosaic.sem_eq_zero_of_no_sems (by decide) r.2⟩)
    (Cert.AdamMixBiasReferenceIdeal.Value.run m ρ)

/-- The optimiser's step on 4 by 128 numbers. -/
theorem algebraic_adamMixBias : Cert.algebraic_AdamMixBiasIdeal_AdamMixBiasReferenceIdeal := by
  intro m ρ m' ρ' _ hargs
  refine ⟨_, _, _, Cert.AdamMixBiasIdeal.Value.run m ρ, (θ_run Cert.AdamMixBiasReferenceIdeal.defs _ _).mono
    (fun r h c => ⟨(h c).1.trans ?_, (h c).2.1.trans ?_, (h c).2.2.1.trans ?_, (h c).2.2.2⟩) (Cert.AdamMixBiasReferenceIdeal.Value.run m' ρ')⟩
  all_goals
    obtain ⟨h0, h1, h2, h3⟩ := hargs c
    simp only [h0, h1, h2, h3]
    rfl

theorem frame_adamPoolBiasReference : Cert.quiescent_AdamPoolBiasReferenceIdeal := fun m ρ _ =>
  (θ_run Cert.AdamPoolBiasReferenceIdeal.defs _ _).mono
    (fun r h => ⟨fun c => (h c).2.2.2, Idealize.ShloMosaic.sem_eq_zero_of_no_sems (by decide) r.2⟩)
    (Cert.AdamPoolBiasReferenceIdeal.Value.run m ρ)

/-- The optimiser's step on 4 by 64 numbers. -/
theorem algebraic_adamPoolBias : Cert.algebraic_AdamPoolBiasIdeal_AdamPoolBiasReferenceIdeal := by
  intro m ρ m' ρ' _ hargs
  refine ⟨_, _, _, Cert.AdamPoolBiasIdeal.Value.run m ρ, (θ_run Cert.AdamPoolBiasReferenceIdeal.defs _ _).mono
    (fun r h c => ⟨(h c).1.trans ?_, (h c).2.1.trans ?_, (h c).2.2.1.trans ?_, (h c).2.2.2⟩) (Cert.AdamPoolBiasReferenceIdeal.Value.run m' ρ')⟩
  all_goals
    obtain ⟨h0, h1, h2, h3⟩ := hargs c
    simp only [h0, h1, h2, h3]
    rfl

theorem frame_adamRowReference : Cert.quiescent_AdamRowReferenceIdeal := fun m ρ _ =>
  (θ_run Cert.AdamRowReferenceIdeal.defs _ _).mono
    (fun r h => ⟨fun c => (h c).2.2.2, Idealize.ShloMosaic.sem_eq_zero_of_no_sems (by decide) r.2⟩)
    (Cert.AdamRowReferenceIdeal.Value.run m ρ)

/-- The optimiser's step on 1 by 1024 numbers. -/
theorem algebraic_adamRow : Cert.algebraic_AdamRowIdeal_AdamRowReferenceIdeal := by
  intro m ρ m' ρ' _ hargs
  refine ⟨_, _, _, Cert.AdamRowIdeal.Value.run m ρ, (θ_run Cert.AdamRowReferenceIdeal.defs _ _).mono
    (fun r h c => ⟨(h c).1.trans ?_, (h c).2.1.trans ?_, (h c).2.2.1.trans ?_, (h c).2.2.2⟩) (Cert.AdamRowReferenceIdeal.Value.run m' ρ')⟩
  all_goals
    obtain ⟨h0, h1, h2, h3⟩ := hargs c
    simp only [h0, h1, h2, h3]
    rfl

theorem frame_adamConvBiasReference : Cert.quiescent_AdamConvBiasReferenceIdeal := fun m ρ _ =>
  (θ_run Cert.AdamConvBiasReferenceIdeal.defs _ _).mono
    (fun r h => ⟨fun c => (h c).2.2.2, Idealize.ShloMosaic.sem_eq_zero_of_no_sems (by decide) r.2⟩)
    (Cert.AdamConvBiasReferenceIdeal.Value.run m ρ)

/-- The optimiser's step on 1 by 2048 numbers. -/
theorem algebraic_adamConvBias : Cert.algebraic_AdamConvBiasIdeal_AdamConvBiasReferenceIdeal := by
  intro m ρ m' ρ' _ hargs
  refine ⟨_, _, _, Cert.AdamConvBiasIdeal.Value.run m ρ, (θ_run Cert.AdamConvBiasReferenceIdeal.defs _ _).mono
    (fun r h c => ⟨(h c).1.trans ?_, (h c).2.1.trans ?_, (h c).2.2.1.trans ?_, (h c).2.2.2⟩) (Cert.AdamConvBiasReferenceIdeal.Value.run m' ρ')⟩
  all_goals
    obtain ⟨h0, h1, h2, h3⟩ := hargs c
    simp only [h0, h1, h2, h3]
    rfl

theorem frame_adamPoolScaleReference : Cert.quiescent_AdamPoolScaleReferenceIdeal := fun m ρ _ =>
  (θ_run Cert.AdamPoolScaleReferenceIdeal.defs _ _).mono
    (fun r h => ⟨fun c => (h c).2.2.2, Idealize.ShloMosaic.sem_eq_zero_of_no_sems (by decide) r.2⟩)
    (Cert.AdamPoolScaleReferenceIdeal.Value.run m ρ)

/-- The optimiser's step on 1 by 256 numbers. -/
theorem algebraic_adamPoolScale : Cert.algebraic_AdamPoolScaleIdeal_AdamPoolScaleReferenceIdeal := by
  intro m ρ m' ρ' _ hargs
  refine ⟨_, _, _, Cert.AdamPoolScaleIdeal.Value.run m ρ, (θ_run Cert.AdamPoolScaleReferenceIdeal.defs _ _).mono
    (fun r h c => ⟨(h c).1.trans ?_, (h c).2.1.trans ?_, (h c).2.2.1.trans ?_, (h c).2.2.2⟩) (Cert.AdamPoolScaleReferenceIdeal.Value.run m' ρ')⟩
  all_goals
    obtain ⟨h0, h1, h2, h3⟩ := hargs c
    simp only [h0, h1, h2, h3]
    rfl

theorem frame_adamHeadReference : Cert.quiescent_AdamHeadReferenceIdeal := fun m ρ _ =>
  (θ_run Cert.AdamHeadReferenceIdeal.defs _ _).mono
    (fun r h => ⟨fun c => (h c).2.2.2, Idealize.ShloMosaic.sem_eq_zero_of_no_sems (by decide) r.2⟩)
    (Cert.AdamHeadReferenceIdeal.Value.run m ρ)

/-- The optimiser's step on 1 by 16 numbers. -/
theorem algebraic_adamHead : Cert.algebraic_AdamHeadIdeal_AdamHeadReferenceIdeal := by
  intro m ρ m' ρ' _ hargs
  refine ⟨_, _, _, Cert.AdamHeadIdeal.Value.run m ρ, (θ_run Cert.AdamHeadReferenceIdeal.defs _ _).mono
    (fun r h c => ⟨(h c).1.trans ?_, (h c).2.1.trans ?_, (h c).2.2.1.trans ?_, (h c).2.2.2⟩) (Cert.AdamHeadReferenceIdeal.Value.run m' ρ')⟩
  all_goals
    obtain ⟨h0, h1, h2, h3⟩ := hargs c
    simp only [h0, h1, h2, h3]
    rfl

theorem claim : Cert.Claim :=
  ⟨Cert.Kernel.Gen.facts, Cert.KernelIdeal.Gen.facts, Cert.ReferenceIdeal.Gen.facts,
    Cert.WeightGrad.Gen.facts, Cert.WeightGradIdeal.Gen.facts, Cert.WeightGradReferenceIdeal.Gen.facts,
    Cert.Widen.Gen.facts, Cert.WidenIdeal.Gen.facts, Cert.WidenReferenceIdeal.Gen.facts,
    Cert.WidenSecond.Gen.facts, Cert.WidenSecondIdeal.Gen.facts, Cert.WidenSecondReferenceIdeal.Gen.facts,
    Cert.InUvz.Gen.facts, Cert.InUvzIdeal.Gen.facts, Cert.InUvzReferenceIdeal.Gen.facts,
    Cert.InXbc.Gen.facts, Cert.InXbcIdeal.Gen.facts, Cert.InXbcReferenceIdeal.Gen.facts,
    Cert.OutDy.Gen.facts, Cert.OutDyIdeal.Gen.facts, Cert.OutDyReferenceIdeal.Gen.facts,
    Cert.InDwu.Gen.facts, Cert.InDwuIdeal.Gen.facts, Cert.InDwuReferenceIdeal.Gen.facts,
    Cert.InDwxbc.Gen.facts, Cert.InDwxbcIdeal.Gen.facts, Cert.InDwxbcReferenceIdeal.Gen.facts,
    Cert.AdamGate.Gen.facts, Cert.AdamGateIdeal.Gen.facts, Cert.AdamGateReferenceIdeal.Gen.facts,
    Cert.AdamDown.Gen.facts, Cert.AdamDownIdeal.Gen.facts, Cert.AdamDownReferenceIdeal.Gen.facts,
    Cert.AdamIn.Gen.facts, Cert.AdamInIdeal.Gen.facts, Cert.AdamInReferenceIdeal.Gen.facts,
    Cert.AdamOut.Gen.facts, Cert.AdamOutIdeal.Gen.facts, Cert.AdamOutReferenceIdeal.Gen.facts,
    Cert.AdamPool.Gen.facts, Cert.AdamPoolIdeal.Gen.facts, Cert.AdamPoolReferenceIdeal.Gen.facts,
    Cert.AdamMix.Gen.facts, Cert.AdamMixIdeal.Gen.facts, Cert.AdamMixReferenceIdeal.Gen.facts,
    Cert.AdamNorm.Gen.facts, Cert.AdamNormIdeal.Gen.facts, Cert.AdamNormReferenceIdeal.Gen.facts,
    Cert.AdamConv.Gen.facts, Cert.AdamConvIdeal.Gen.facts, Cert.AdamConvReferenceIdeal.Gen.facts,
    Cert.AdamMixBias.Gen.facts, Cert.AdamMixBiasIdeal.Gen.facts, Cert.AdamMixBiasReferenceIdeal.Gen.facts,
    Cert.AdamPoolBias.Gen.facts, Cert.AdamPoolBiasIdeal.Gen.facts, Cert.AdamPoolBiasReferenceIdeal.Gen.facts,
    Cert.AdamRow.Gen.facts, Cert.AdamRowIdeal.Gen.facts, Cert.AdamRowReferenceIdeal.Gen.facts,
    Cert.AdamConvBias.Gen.facts, Cert.AdamConvBiasIdeal.Gen.facts, Cert.AdamConvBiasReferenceIdeal.Gen.facts,
    Cert.AdamPoolScale.Gen.facts, Cert.AdamPoolScaleIdeal.Gen.facts, Cert.AdamPoolScaleReferenceIdeal.Gen.facts,
    Cert.AdamHead.Gen.facts, Cert.AdamHeadIdeal.Gen.facts, Cert.AdamHeadReferenceIdeal.Gen.facts,
    frame_kernel, frame_kernelIdeal, frame_reference,
    fun m ρ _ => Cert.WeightGrad.Gen.frame m ρ, fun m ρ _ => Cert.WeightGradIdeal.Gen.frame m ρ, frame_weightGradReference,
    fun m ρ _ => Cert.Widen.Gen.frame m ρ, fun m ρ _ => Cert.WidenIdeal.Gen.frame m ρ, frame_widenReference,
    fun m ρ _ => Cert.WidenSecond.Gen.frame m ρ, fun m ρ _ => Cert.WidenSecondIdeal.Gen.frame m ρ, frame_widenSecondReference,
    fun m ρ _ => Cert.InUvz.Gen.frame m ρ, fun m ρ _ => Cert.InUvzIdeal.Gen.frame m ρ, frame_inUvzReference,
    fun m ρ _ => Cert.InXbc.Gen.frame m ρ, fun m ρ _ => Cert.InXbcIdeal.Gen.frame m ρ, frame_inXbcReference,
    fun m ρ _ => Cert.OutDy.Gen.frame m ρ, fun m ρ _ => Cert.OutDyIdeal.Gen.frame m ρ, frame_outDyReference,
    fun m ρ _ => Cert.InDwu.Gen.frame m ρ, fun m ρ _ => Cert.InDwuIdeal.Gen.frame m ρ, frame_inDwuReference,
    fun m ρ _ => Cert.InDwxbc.Gen.frame m ρ, fun m ρ _ => Cert.InDwxbcIdeal.Gen.frame m ρ, frame_inDwxbcReference,
    fun m ρ _ => Cert.AdamGate.Gen.frame m ρ, fun m ρ _ => Cert.AdamGateIdeal.Gen.frame m ρ, frame_adamGateReference,
    fun m ρ _ => Cert.AdamDown.Gen.frame m ρ, fun m ρ _ => Cert.AdamDownIdeal.Gen.frame m ρ, frame_adamDownReference,
    fun m ρ _ => Cert.AdamIn.Gen.frame m ρ, fun m ρ _ => Cert.AdamInIdeal.Gen.frame m ρ, frame_adamInReference,
    fun m ρ _ => Cert.AdamOut.Gen.frame m ρ, fun m ρ _ => Cert.AdamOutIdeal.Gen.frame m ρ, frame_adamOutReference,
    fun m ρ _ => Cert.AdamPool.Gen.frame m ρ, fun m ρ _ => Cert.AdamPoolIdeal.Gen.frame m ρ, frame_adamPoolReference,
    fun m ρ _ => Cert.AdamMix.Gen.frame m ρ, fun m ρ _ => Cert.AdamMixIdeal.Gen.frame m ρ, frame_adamMixReference,
    fun m ρ _ => Cert.AdamNorm.Gen.frame m ρ, fun m ρ _ => Cert.AdamNormIdeal.Gen.frame m ρ, frame_adamNormReference,
    fun m ρ _ => Cert.AdamConv.Gen.frame m ρ, fun m ρ _ => Cert.AdamConvIdeal.Gen.frame m ρ, frame_adamConvReference,
    fun m ρ _ => Cert.AdamMixBias.Gen.frame m ρ, fun m ρ _ => Cert.AdamMixBiasIdeal.Gen.frame m ρ, frame_adamMixBiasReference,
    fun m ρ _ => Cert.AdamPoolBias.Gen.frame m ρ, fun m ρ _ => Cert.AdamPoolBiasIdeal.Gen.frame m ρ, frame_adamPoolBiasReference,
    fun m ρ _ => Cert.AdamRow.Gen.frame m ρ, fun m ρ _ => Cert.AdamRowIdeal.Gen.frame m ρ, frame_adamRowReference,
    fun m ρ _ => Cert.AdamConvBias.Gen.frame m ρ, fun m ρ _ => Cert.AdamConvBiasIdeal.Gen.frame m ρ, frame_adamConvBiasReference,
    fun m ρ _ => Cert.AdamPoolScale.Gen.frame m ρ, fun m ρ _ => Cert.AdamPoolScaleIdeal.Gen.frame m ρ, frame_adamPoolScaleReference,
    fun m ρ _ => Cert.AdamHead.Gen.frame m ρ, fun m ρ _ => Cert.AdamHeadIdeal.Gen.frame m ρ, frame_adamHeadReference,
    trivial, algebraic, trivial, algebraic_weightGrad, trivial, algebraic_widen, trivial, algebraic_widenSecond,
    trivial, algebraic_inUvz, trivial, algebraic_inXbc, trivial, algebraic_outDy, trivial, algebraic_inDwu, trivial,
    algebraic_inDwxbc, trivial, algebraic_adamGate, trivial, algebraic_adamDown, trivial, algebraic_adamIn, trivial,
    algebraic_adamOut, trivial, algebraic_adamPool, trivial, algebraic_adamMix, trivial, algebraic_adamNorm, trivial,
    algebraic_adamConv, trivial, algebraic_adamMixBias, trivial, algebraic_adamPoolBias, trivial, algebraic_adamRow,
    trivial, algebraic_adamConvBias, trivial, algebraic_adamPoolScale, trivial, algebraic_adamHead⟩

end Cert.Proof

end
